-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S1x16384x1024 : Shape := ⟨3, ![1, 16384, 1024]⟩
abbrev S1x1024x8704 : Shape := ⟨3, ![1, 1024, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S16384x1024 : Shape := ⟨2, ![16384, 1024]⟩
abbrev S1024x8704 : Shape := ⟨2, ![1024, 8704]⟩
abbrev S2048 : Shape := ⟨1, ![2048]⟩
abbrev S1x1x4608 : Shape := ⟨3, ![1, 1, 4608]⟩
abbrev S1024 : Shape := ⟨1, ![1024]⟩
abbrev S8x128x128 : Shape := ⟨3, ![8, 128, 128]⟩
abbrev S1536x1024 : Shape := ⟨2, ![1536, 1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S16x1024 : Shape := ⟨2, ![16, 1024]⟩
abbrev S32x4096 : Shape := ⟨2, ![32, 4096]⟩
abbrev S128x1024 : Shape := ⟨2, ![128, 1024]⟩
abbrev S528x1024 : Shape := ⟨2, ![528, 1024]⟩
abbrev S544x1536 : Shape := ⟨2, ![544, 1536]⟩
abbrev S16x1536 : Shape := ⟨2, ![16, 1536]⟩
abbrev S6x512x512 : Shape := ⟨3, ![6, 512, 512]⟩
abbrev S6 : Shape := ⟨1, ![6]⟩
abbrev S1 : Shape := ⟨1, ![1]⟩
abbrev S_ : Shape := ⟨0, ![]⟩
abbrev S1x512x512 : Shape := ⟨3, ![1, 512, 512]⟩
abbrev S512x512 : Shape := ⟨2, ![512, 512]⟩
abbrev S1024x512 : Shape := ⟨2, ![1024, 512]⟩
abbrev S528x512 : Shape := ⟨2, ![528, 512]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1x4608 : Shape := ⟨2, ![1, 4608]⟩
abbrev S1x512 : Shape := ⟨2, ![1, 512]⟩
abbrev S512x1536 : Shape := ⟨2, ![512, 1536]⟩
abbrev S8x128 : Shape := ⟨2, ![8, 128]⟩
abbrev S128x8 : Shape := ⟨2, ![128, 8]⟩
abbrev S128x128 : Shape := ⟨2, ![128, 128]⟩
abbrev S128x512 : Shape := ⟨2, ![128, 512]⟩
abbrev S1x128x128 : Shape := ⟨3, ![1, 128, 128]⟩
abbrev S128x1 : Shape := ⟨2, ![128, 1]⟩
abbrev S512x128 : Shape := ⟨2, ![512, 128]⟩
abbrev S16 : Shape := ⟨1, ![16]⟩
abbrev S16x1 : Shape := ⟨2, ![16, 1]⟩
abbrev S1x16x1024 : Shape := ⟨3, ![1, 16, 1024]⟩
abbrev S16x128 : Shape := ⟨2, ![16, 128]⟩
abbrev S16x896 : Shape := ⟨2, ![16, 896]⟩
abbrev S496x1024 : Shape := ⟨2, ![496, 1024]⟩

abbrev nBuf : Space → Nat
  | .hbm => 37
  | .vmem => 31
  | .smem => 0
  | _ => 0

abbrev bufTy : (tb : Table) → Fin (tcTables nBuf tb) → BufTy
  | .hbm, ⟨0, _⟩ => ⟨S1x16384x1024, .f32⟩
  | .hbm, ⟨1, _⟩ => ⟨S1x1024x8704, .f32⟩
  | .hbm, ⟨2, _⟩ => ⟨S1x2048, .f32⟩
  | .hbm, ⟨3, _⟩ => ⟨S1x3x1536, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x1536x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x1024x4096, .f32⟩
  | .hbm, ⟨14, _⟩ => ⟨S1x4096x1024, .f32⟩
  | .hbm, ⟨15, _⟩ => ⟨S16384x1024, .f32⟩
  | .hbm, ⟨16, _⟩ => ⟨S1024x8704, .f32⟩
  | .hbm, ⟨17, _⟩ => ⟨S2048, .f32⟩
  | .hbm, ⟨18, _⟩ => ⟨S1x2048, .f32⟩
  | .hbm, ⟨19, _⟩ => ⟨S1x1x4608, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8x128x128, .f32⟩
  | .hbm, ⟨25, _⟩ => ⟨S1536x1024, .f32⟩
  | .hbm, ⟨26, _⟩ => ⟨S1024x1024, .f32⟩
  | .hbm, ⟨27, _⟩ => ⟨S1024x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024x4096, .f32⟩
  | .hbm, ⟨33, _⟩ => ⟨S4096x1024, .f32⟩
  | .hbm, ⟨34, _⟩ => ⟨S16384x1024, .f32⟩
  | .hbm, ⟨35, _⟩ => ⟨S1024x4096, .bf16⟩
  | .hbm, ⟨36, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x2048, .f32⟩
  | .local _ .vmem, ⟨5, _⟩ => ⟨S1x1x4608, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S1x8x128, .f32⟩
  | .local _ .vmem, ⟨10, _⟩ => ⟨S1x1024, .f32⟩
  | .local _ .vmem, ⟨11, _⟩ => ⟨S1x1024, .f32⟩
  | .local _ .vmem, ⟨12, _⟩ => ⟨S32x4096, .f32⟩
  | .local _ .vmem, ⟨13, _⟩ => ⟨S32x4096, .f32⟩
  | .local _ .vmem, ⟨14, _⟩ => ⟨S128x1024, .f32⟩
  | .local _ .vmem, ⟨15, _⟩ => ⟨S128x1024, .f32⟩
  | .local _ .vmem, ⟨16, _⟩ => ⟨S512x1024, .f32⟩
  | .local _ .vmem, ⟨17, _⟩ => ⟨S512x1024, .f32⟩
  | .local _ .vmem, ⟨18, _⟩ => ⟨S32x4096, .bf16⟩
  | .local _ .vmem, ⟨19, _⟩ => ⟨S32x4096, .bf16⟩
  | .local _ .vmem, ⟨20, _⟩ => ⟨S128x1024, .bf16⟩
  | .local _ .vmem, ⟨21, _⟩ => ⟨S128x1024, .bf16⟩
  | .local _ .vmem, ⟨22, _⟩ => ⟨S1024x8704, .bf16⟩
  | .local _ .vmem, ⟨23, _⟩ => ⟨S1536x1024, .bf16⟩
  | .local _ .vmem, ⟨24, _⟩ => ⟨S1024x1024, .bf16⟩
  | .local _ .vmem, ⟨25, _⟩ => ⟨S1024x1024, .bf16⟩
  | .local _ .vmem, ⟨26, _⟩ => ⟨S8x128x128, .bf16⟩
  | .local _ .vmem, ⟨27, _⟩ => ⟨S528x1024, .bf16⟩
  | .local _ .vmem, ⟨28, _⟩ => ⟨S544x1536, .f32⟩
  | .local _ .vmem, ⟨29, _⟩ => ⟨S512x1024, .f32⟩
  | .local _ .vmem, ⟨30, _⟩ => ⟨S6x512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scoped0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.addi v0 c1_i32
  let c32_i32 : BitVec 32 := 32#32
  let v2 : BitVec 32 := Scalar.muli v1 c32_i32
  let c1023_i32 : BitVec 32 := 1023#32
  let v3 : BitVec 32 := Scalar.minsi v2 c1023_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S1x16384x1024 : Shape := ⟨3, ![1, 16384, 1024]⟩
abbrev S1x1024x8704 : Shape := ⟨3, ![1, 1024, 8704]⟩
abbrev S1x2048 : Shape := ⟨2, ![1, 2048]⟩
abbrev S1x3x1536 : Shape := ⟨3, ![1, 3, 1536]⟩
abbrev S1x1024 : Shape := ⟨2, ![1, 1024]⟩
abbrev S1x8x128x128 : Shape := ⟨4, ![1, 8, 128, 128]⟩
abbrev S1x8x128 : Shape := ⟨3, ![1, 8, 128]⟩
abbrev S1x1536x1024 : Shape := ⟨3, ![1, 1536, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x8704 : Shape := ⟨2, ![1024, 8704]⟩
abbrev S1x16384x8704 : Shape := ⟨3, ![1, 16384, 8704]⟩
abbrev S1x16384x1536 : Shape := ⟨3, ![1, 16384, 1536]⟩
abbrev S1x16384x2048 : Shape := ⟨3, ![1, 16384, 2048]⟩
abbrev S2048 : Shape := ⟨1, ![2048]⟩
abbrev S1x1x2048 : Shape := ⟨3, ![1, 1, 2048]⟩
abbrev S_ : Shape := ⟨0, ![]⟩
abbrev S3x1536 : Shape := ⟨2, ![3, 1536]⟩
abbrev S1x16386x1536 : Shape := ⟨3, ![1, 16386, 1536]⟩
abbrev S1x1536 : Shape := ⟨2, ![1, 1536]⟩
abbrev S1536 : Shape := ⟨1, ![1536]⟩
abbrev S1x1x1536 : Shape := ⟨3, ![1, 1, 1536]⟩
abbrev S1024 : Shape := ⟨1, ![1024]⟩
abbrev S8x128x128 : Shape := ⟨3, ![8, 128, 128]⟩
abbrev S8x128 : Shape := ⟨2, ![8, 128]⟩
abbrev S1x16384 : Shape := ⟨2, ![1, 16384]⟩
abbrev S1x16384x1 : Shape := ⟨3, ![1, 16384, 1]⟩
abbrev S1x1x1024 : Shape := ⟨3, ![1, 1, 1024]⟩
abbrev S1x128x128x8x128 : Shape := ⟨5, ![1, 128, 128, 8, 128]⟩
abbrev S8x1x128x128x128 : Shape := ⟨5, ![8, 1, 128, 128, 128]⟩
abbrev S128x8 : Shape := ⟨2, ![128, 8]⟩
abbrev S1x1x128x8x1 : Shape := ⟨5, ![1, 1, 128, 8, 1]⟩
abbrev S1536x1024 : Shape := ⟨2, ![1536, 1024]⟩
abbrev S1024x1024 : Shape := ⟨2, ![1024, 1024]⟩
abbrev S16384x1024 : Shape := ⟨2, ![16384, 1024]⟩

abbrev nBuf : Space → Nat
  | .hbm => 180
  | .vmem => 0
  | .smem => 0
  | _ => 0

abbrev hbmTy0_0 (i : Nat) : BufTy := match i % 128 with
  | 0 => ⟨S1x16384x1024, .f32⟩
  | 1 => ⟨S1x1024x8704, .f32⟩
  | 2 => ⟨S1x2048, .f32⟩
  | 3 => ⟨S1x3x1536, .f32⟩
  | 4 => ⟨S1x1024, .f32⟩
  | 5 => ⟨S1x1024, .f32⟩
  | 6 => ⟨S1x8x128x128, .f32⟩
  | 7 => ⟨S1x8x128, .f32⟩
  | 8 => ⟨S1x1536x1024, .f32⟩
  | 9 => ⟨S1x1024x1024, .f32⟩
  | 10 => ⟨S1x1024x1024, .f32⟩
  | 11 => ⟨S1x1024, .f32⟩
  | 12 => ⟨S1x1024, .f32⟩
  | 13 => ⟨S1x1024x4096, .f32⟩
  | 14 => ⟨S1x4096x1024, .f32⟩
  | 15 => ⟨S1024x8704, .f32⟩
  | 16 => ⟨S1x16384x8704, .f32⟩
  | 17 => ⟨S1x16384x1536, .f32⟩
  | 18 => ⟨S1x16384x1536, .f32⟩
  | 19 => ⟨S1x16384x1536, .f32⟩
  | 20 => ⟨S1x16384x1024, .f32⟩
  | 21 => ⟨S1x16384x1024, .f32⟩
  | 22 => ⟨S1x16384x2048, .f32⟩
  | 23 => ⟨S2048, .f32⟩
  | 24 => ⟨S1x1x2048, .f32⟩
  | 25 => ⟨S1x16384x2048, .f32⟩
  | 26 => ⟨S1x16384x2048, .f32⟩
  | 27 => ⟨S1x16384x2048, .f32⟩
  | 28 => ⟨S1x16384x2048, .f32⟩
  | 29 => ⟨S_, .f32⟩
  | 30 => ⟨S1x16384x2048, .f32⟩
  | 31 => ⟨S1x16384x2048, .f32⟩
  | 32 => ⟨S_, .f32⟩
  | 33 => ⟨S1x16384x2048, .f32⟩
  | 34 => ⟨S1x16384x2048, .f32⟩
  | 35 => ⟨S1x16384x1024, .f32⟩
  | 36 => ⟨S1x16384x1024, .f32⟩
  | 37 => ⟨S1x16384x1536, .f32⟩
  | 38 => ⟨S3x1536, .f32⟩
  | 39 => ⟨S_, .i32⟩
  | 40 => ⟨S_, .f32⟩
  | 41 => ⟨S1x16386x1536, .f32⟩
  | 42 => ⟨S1x16384x1536, .f32⟩
  | 43 => ⟨S1x1536, .f32⟩
  | 44 => ⟨S1536, .f32⟩
  | 45 => ⟨S1x1x1536, .f32⟩
  | 46 => ⟨S1x16384x1536, .f32⟩
  | 47 => ⟨S1x16384x1536, .f32⟩
  | 48 => ⟨S1x16384x1536, .f32⟩
  | 49 => ⟨S1x1536, .f32⟩
  | 50 => ⟨S1536, .f32⟩
  | 51 => ⟨S1x1x1536, .f32⟩
  | 52 => ⟨S1x16384x1536, .f32⟩
  | 53 => ⟨S1x16384x1536, .f32⟩
  | 54 => ⟨S1x16384x1536, .f32⟩
  | 55 => ⟨S1x16384x1536, .f32⟩
  | 56 => ⟨S1x1536, .f32⟩
  | 57 => ⟨S1536, .f32⟩
  | 58 => ⟨S1x1x1536, .f32⟩
  | 59 => ⟨S1x16384x1536, .f32⟩
  | 60 => ⟨S1x16384x1536, .f32⟩
  | 61 => ⟨S1x16384x1536, .f32⟩
  | 62 => ⟨S1x16384x1536, .f32⟩
  | 63 => ⟨S_, .f32⟩
  | 64 => ⟨S1x16384x1024, .f32⟩
  | 65 => ⟨S1x16384x1024, .f32⟩
  | 66 => ⟨S1x16384x1024, .f32⟩
  | 67 => ⟨S1x16384x1024, .f32⟩
  | 68 => ⟨S_, .f32⟩
  | 69 => ⟨S1x16384x1024, .f32⟩
  | 70 => ⟨S1x16384x1024, .f32⟩
  | 71 => ⟨S1x16384x1024, .f32⟩
  | 72 => ⟨S1x16384x1024, .f32⟩
  | 73 => ⟨S1x16384x1024, .f32⟩
  | 74 => ⟨S1x16384x1024, .f32⟩
  | 75 => ⟨S_, .f32⟩
  | 76 => ⟨S1x16384x1024, .f32⟩
  | 77 => ⟨S1x16384x1024, .f32⟩
  | 78 => ⟨S_, .f32⟩
  | 79 => ⟨S1x16384x1024, .f32⟩
  | 80 => ⟨S1x16384x1024, .f32⟩
  | 81 => ⟨S1x16384x1024, .f32⟩
  | 82 => ⟨S1x16384x1024, .f32⟩
  | 83 => ⟨S_, .f32⟩
  | 84 => ⟨S1x16384x1024, .f32⟩
  | 85 => ⟨S1x16384x1024, .f32⟩
  | 86 => ⟨S1x16384x1024, .f32⟩
  | 87 => ⟨S1x16384x1024, .f32⟩
  | 88 => ⟨S1x16384x1024, .f32⟩
  | 89 => ⟨S1x16384x1024, .f32⟩
  | 90 => ⟨S_, .f32⟩
  | 91 => ⟨S1x16384x1024, .f32⟩
  | 92 => ⟨S1x16384x1024, .f32⟩
  | 93 => ⟨S1024, .f32⟩
  | 94 => ⟨S1024, .f32⟩
  | 95 => ⟨S8x128x128, .f32⟩
  | 96 => ⟨S8x128, .f32⟩
  | 97 => ⟨S_, .f32⟩
  | 98 => ⟨S1x16384, .f32⟩
  | 99 => ⟨S1x16384x1, .f32⟩
  | 100 => ⟨S_, .f32⟩
  | 101 => ⟨S1x16384x1, .f32⟩
  | 102 => ⟨S1x16384x1, .f32⟩
  | 103 => ⟨S1x16384x1024, .f32⟩
  | 104 => ⟨S1x16384x1024, .f32⟩
  | 105 => ⟨S1x16384x1024, .f32⟩
  | 106 => ⟨S_, .f32⟩
  | 107 => ⟨S1x16384, .f32⟩
  | 108 => ⟨S1x16384x1, .f32⟩
  | 109 => ⟨S_, .f32⟩
  | 110 => ⟨S1x16384x1, .f32⟩
  | 111 => ⟨S1x16384x1, .f32⟩
  | 112 => ⟨S1x16384x1024, .f32⟩
  | 113 => ⟨S1x16384x1024, .f32⟩
  | 114 => ⟨S_, .f32⟩
  | 115 => ⟨S1x16384x1, .f32⟩
  | 116 => ⟨S1x16384x1, .f32⟩
  | 117 => ⟨S1x16384x1, .f32⟩
  | 118 => ⟨S1x16384x1024, .f32⟩
  | 119 => ⟨S1x16384x1024, .f32⟩
  | 120 => ⟨S1x1x1024, .f32⟩
  | 121 => ⟨S1x16384x1024, .f32⟩
  | 122 => ⟨S1x16384x1024, .f32⟩
  | 123 => ⟨S1x1x1024, .f32⟩
  | 124 => ⟨S1x16384x1024, .f32⟩
  | 125 => ⟨S1x16384x1024, .f32⟩
  | 126 => ⟨S1x128x128x8x128, .f32⟩
  | 127 => ⟨S8x1x128x128x128, .f32⟩
  | _ => ⟨S1x16384x1024, .f32⟩

abbrev hbmTy0_1 (i : Nat) : BufTy := match i % 128 with
  | 0 => ⟨S1x128x128x8x128, .f32⟩
  | 1 => ⟨S128x8, .f32⟩
  | 2 => ⟨S1x1x128x8x1, .f32⟩
  | 3 => ⟨S1x128x128x8x128, .f32⟩
  | 4 => ⟨S1x128x128x8x128, .f32⟩
  | 5 => ⟨S1x16384x1024, .f32⟩
  | 6 => ⟨S1x16384x1024, .f32⟩
  | 7 => ⟨S1536x1024, .f32⟩
  | 8 => ⟨S1x16384x1024, .f32⟩
  | 9 => ⟨S1024x1024, .f32⟩
  | 10 => ⟨S1x16384x1024, .f32⟩
  | 11 => ⟨S1x16384x1024, .f32⟩
  | 12 => ⟨S1x16384x1024, .f32⟩
  | 13 => ⟨S1x16384x1024, .f32⟩
  | 14 => ⟨S1024x1024, .f32⟩
  | 15 => ⟨S1x16384x1024, .f32⟩
  | 16 => ⟨S_, .f32⟩
  | 17 => ⟨S1x16384x1024, .f32⟩
  | 18 => ⟨S1x16384x1024, .f32⟩
  | 19 => ⟨S1x16384x1024, .f32⟩
  | 20 => ⟨S1024, .f32⟩
  | 21 => ⟨S1024, .f32⟩
  | 22 => ⟨S_, .f32⟩
  | 23 => ⟨S1x16384, .f32⟩
  | 24 => ⟨S1x16384x1, .f32⟩
  | 25 => ⟨S_, .f32⟩
  | 26 => ⟨S1x16384x1, .f32⟩
  | 27 => ⟨S1x16384x1, .f32⟩
  | 28 => ⟨S1x16384x1024, .f32⟩
  | 29 => ⟨S1x16384x1024, .f32⟩
  | 30 => ⟨S1x16384x1024, .f32⟩
  | 31 => ⟨S_, .f32⟩
  | 32 => ⟨S1x16384, .f32⟩
  | 33 => ⟨S1x16384x1, .f32⟩
  | 34 => ⟨S_, .f32⟩
  | 35 => ⟨S1x16384x1, .f32⟩
  | 36 => ⟨S1x16384x1, .f32⟩
  | 37 => ⟨S1x16384x1024, .f32⟩
  | 38 => ⟨S1x16384x1024, .f32⟩
  | 39 => ⟨S_, .f32⟩
  | 40 => ⟨S1x16384x1, .f32⟩
  | 41 => ⟨S1x16384x1, .f32⟩
  | 42 => ⟨S1x16384x1, .f32⟩
  | 43 => ⟨S1x16384x1024, .f32⟩
  | 44 => ⟨S1x16384x1024, .f32⟩
  | 45 => ⟨S1x1x1024, .f32⟩
  | 46 => ⟨S1x16384x1024, .f32⟩
  | 47 => ⟨S1x16384x1024, .f32⟩
  | 48 => ⟨S1x1x1024, .f32⟩
  | 49 => ⟨S1x16384x1024, .f32⟩
  | 50 => ⟨S1x16384x1024, .f32⟩
  | 51 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_1 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_3 : Ref sig .tc := ⟨.hbm, 75, rfl⟩
abbrev main_v54 : Ref sig .tc := ⟨.hbm, 76, rfl⟩
abbrev main_v55 : Ref sig .tc := ⟨.hbm, 77, rfl⟩
abbrev main_cst_4 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_5 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_7 : Ref sig .tc := ⟨.hbm, 97, rfl⟩
abbrev main_v72 : Ref sig .tc := ⟨.hbm, 98, rfl⟩
abbrev main_v73 : Ref sig .tc := ⟨.hbm, 99, rfl⟩
abbrev main_cst_8 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_9 : Ref sig .tc := ⟨.hbm, 106, rfl⟩
abbrev main_v79 : Ref sig .tc := ⟨.hbm, 107, rfl⟩
abbrev main_v80 : Ref sig .tc := ⟨.hbm, 108, rfl⟩
abbrev main_cst_10 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_11 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_12 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_13 : Ref sig .tc := ⟨.hbm, 150, rfl⟩
abbrev main_v119 : Ref sig .tc := ⟨.hbm, 151, rfl⟩
abbrev main_v120 : Ref sig .tc := ⟨.hbm, 152, rfl⟩
abbrev main_cst_14 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_15 : Ref sig .tc := ⟨.hbm, 159, rfl⟩
abbrev main_v126 : Ref sig .tc := ⟨.hbm, 160, rfl⟩
abbrev main_v127 : Ref sig .tc := ⟨.hbm, 161, rfl⟩
abbrev main_cst_16 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_17 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩

abbrev nD : Nat := 1
abbrev τ : Topo := Topo.v7x

variable {F : FTy → Type} [FloatOps F]
-- ==== Kernel2.lean ====
abbrev S16384x1024 : Shape := ⟨2, ![16384, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S2x16x1024 : Shape := ⟨3, ![2, 16, 1024]⟩
abbrev S16x1024 : Shape := ⟨2, ![16, 1024]⟩
abbrev S16x128 : Shape := ⟨2, ![16, 128]⟩
abbrev S1024x512 : Shape := ⟨2, ![1024, 512]⟩
abbrev S512x512 : Shape := ⟨2, ![512, 512]⟩
abbrev S16x384 : Shape := ⟨2, ![16, 384]⟩
abbrev S16x512 : Shape := ⟨2, ![16, 512]⟩
abbrev S496x512 : Shape := ⟨2, ![496, 512]⟩
abbrev S16x896 : Shape := ⟨2, ![16, 896]⟩
abbrev S496x1024 : Shape := ⟨2, ![496, 1024]⟩

abbrev nBuf : Space → Nat
  | .hbm => 14
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S16384x4096 : Shape := ⟨2, ![16384, 4096]⟩
abbrev S_ : Shape := ⟨0, ![]⟩
abbrev S4096x1024 : Shape := ⟨2, ![4096, 1024]⟩
abbrev S1024 : Shape := ⟨1, ![1024]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S4096x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Ffn.RunC.lean ====
/- The channel mixing call's last point (point 32): its body stores the last block and leaves the carried rows as they
   were. The body's parts of the two branches not taken are rewritten to their skeletons too, or the rewriting does not end. -/
module

public import proofs.«01_k».proof.Proof.Gen.Kernel2.Frame.RunB

@[expose] public section

-- membership in a rectangle of production extents (`View.cover_of_tiled`): the elaborator's structural look
-- recurses once per coordinate of the long axes
set_option maxRecDepth 16384

noncomputable section

namespace Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i) (hc2 : cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0_channel_mix i arg1 harg1 arg2 harg2 arg3 harg3 arg4 harg4 arg5 harg5 arg6 harg6 arg7 harg7) K } := by
  refine ⟨?_, [], fun E K => ?run⟩
  case run =>
    simp only [cc0_channel_mix_eq_skeleton]; unfold cc0_channel_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.Kernel2.Gen

end
-- ==== Proof.Ffn.Frame.lean ====
/- The frame of the channel mixing call: what its output block and its carried rows hold after every point, the body's
   obligation in its three cases, the launch, and the run. -/
module

public import proofs.«01_k».proof.Proof.Ffn.RunC
public import Idealize.ShloMosaic.Lib.Claim

@[expose] public section

-- membership in a rectangle of production extents (`View.cover_of_tiled`): the elaborator's structural look
-- recurses once per coordinate of the long axes
set_option maxRecDepth 16384

noncomputable section

namespace Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (16 stores of `S32x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) (y : S512x1024.Idx) :
    ∃ pc ∈ (kernelRun0_A c i arg1 harg1 arg2 harg2 arg3 harg3 arg4 harg4 arg5 harg5 arg6 harg6 arg7 harg7 hc0 hc1 hc2 x0 x1 x2 x3 x4).1, y ∈ pc.1.set :=
  View.cover_of_tiledL (kernelRun0_A c i arg1 harg1 arg2 harg2 arg3 harg3 arg4 harg4 arg5 harg5 arg6 harg6 arg7 harg7 hc0 hc1 hc2 x0 x1 x2 x3 x4).1 S32x1024.size (by sl_kernel_rfl) y

/-- What case A leaves in output 5's staging buffer: its pieces read back over junk. -/
def out0_A_5 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) : Vec F S512x1024 .f32 :=
  VO0_5.read (Elt F) (VO0_5.writes (Elt F) VO0_5.junk (kernelRun0_A c i arg1 harg1 arg2 harg2 arg3 harg3 arg4 harg4 arg5 harg5 arg6 harg6 arg7 harg7 hc0 hc1 hc2 x0 x1 x2 x3 x4).1)

/-- Case A's pieces for scratch `arg7`, which the kernel carries between points, cover it: 2 pieces of `S512x1024` tiling it (Lib/Ring.lean `Piece.tiledL`). -/
theorem scover0_A_0 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) (y : S512x1024.Idx) :
    ∃ pc ∈ (kernelRun0_A c i arg1 harg1 arg2 harg2 arg3 harg3 arg4 harg4 arg5 harg5 arg6 harg6 arg7 harg7 hc0 hc1 hc2 x0 x1 x2 x3 x4).2.1, y ∈ pc.1.set :=
  View.cover_of_tiledL (kernelRun0_A c i arg1 harg1 arg2 harg2 arg3 harg3 arg4 harg4 arg5 harg5 arg6 harg6 arg7 harg7 hc0 hc1 hc2 x0 x1 x2 x3 x4).2.1 S512x1024.size (by sl_kernel_rfl) y

/-- What case A leaves in scratch `arg7`: its pieces read back over junk. -/
def sout0_A_0 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) : Vec F S512x1024 .f32 :=
  VS0_0.read (Elt F) (VS0_0.writes (Elt F) VS0_0.junk (kernelRun0_A c i arg1 harg1 arg2 harg2 arg3 harg3 arg4 harg4 arg5 harg5 arg6 harg6 arg7 harg7 hc0 hc1 hc2 x0 x1 x2 x3 x4).2.1)

/-- Case B's pieces for output 5 tile its block (16 stores of `S32x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) (y : S512x1024.Idx) :
    ∃ pc ∈ (kernelRun0_B c i arg1 harg1 arg2 harg2 arg3 harg3 arg4 harg4 arg5 harg5 arg6 harg6 arg7 harg7 hc0 hc1 hc2 x0 x1 x2 x3 x4 xs0).1, y ∈ pc.1.set :=
  View.cover_of_tiledL (kernelRun0_B c i arg1 harg1 arg2 harg2 arg3 harg3 arg4 harg4 arg5 harg5 arg6 harg6 arg7 harg7 hc0 hc1 hc2 x0 x1 x2 x3 x4 xs0).1 S32x1024.size (by sl_kernel_rfl) y

/-- What case B leaves in output 5's staging buffer: its pieces read back over junk. -/
def out0_B_5 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) : Vec F S512x1024 .f32 :=
  VO0_5.read (Elt F) (VO0_5.writes (Elt F) VO0_5.junk (kernelRun0_B c i arg1 harg1 arg2 harg2 arg3 harg3 arg4 harg4 arg5 harg5 arg6 harg6 arg7 harg7 hc0 hc1 hc2 x0 x1 x2 x3 x4 xs0).1)

/-- Case B's pieces for scratch `arg7`, which the kernel carries between points, cover it: 1 piece of `S512x1024` tiling it (Lib/Ring.lean `Piece.tiledL`). -/
theorem scover0_B_0 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) (y : S512x1024.Idx) :
    ∃ pc ∈ (kernelRun0_B c i arg1 harg1 arg2 harg2 arg3 harg3 arg4 harg4 arg5 harg5 arg6 harg6 arg7 harg7 hc0 hc1 hc2 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 hc2 x0 x1 x2 x3 x4 xs0).2.1 S512x1024.size (by sl_kernel_rfl) y

/-- What case B leaves in scratch `arg7`: its pieces read back over junk. -/
def sout0_B_0 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i) (hc2 : ¬cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) : Vec F S512x1024 .f32 :=
  VS0_0.read (Elt F) (VS0_0.writes (Elt F) VS0_0.junk (kernelRun0_B c i arg1 harg1 arg2 harg2 arg3 harg3 arg4 harg4 arg5 harg5 arg6 harg6 arg7 harg7 hc0 hc1 hc2 x0 x1 x2 x3 x4 xs0).2.1)

/-- Case C's pieces for output 5 tile its block (16 stores of `S32x1024`, checked by the kernel's evaluation: Lib/Ring.lean `Piece.tiledL`, linear in the pieces, through a loop's `@[irreducible]` trip theorem too), so they cover it. -/
theorem cover0_C_5 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i) (hc2 : cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) (y : S512x1024.Idx) :
    ∃ pc ∈ (kernelRun0_C c i arg1 harg1 arg2 harg2 arg3 harg3 arg4 harg4 arg5 harg5 arg6 harg6 arg7 harg7 hc0 hc1 hc2 x0 x1 x2 x3 x4 xs0).1, y ∈ pc.1.set :=
  View.cover_of_tiledL (kernelRun0_C c i arg1 harg1 arg2 harg2 arg3 harg3 arg4 harg4 arg5 harg5 arg6 harg6 arg7 harg7 hc0 hc1 hc2 x0 x1 x2 x3 x4 xs0).1 S32x1024.size (by sl_kernel_rfl) y

/-- What case C leaves in output 5's staging buffer: its pieces read back over junk. -/
def out0_C_5 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i) (hc2 : cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) : Vec F S512x1024 .f32 :=
  VO0_5.read (Elt F) (VO0_5.writes (Elt F) VO0_5.junk (kernelRun0_C c i arg1 harg1 arg2 harg2 arg3 harg3 arg4 harg4 arg5 harg5 arg6 harg6 arg7 harg7 hc0 hc1 hc2 x0 x1 x2 x3 x4 xs0).1)

/-- Case C stores nothing into scratch `arg7`: it holds what the point before left. -/
def sout0_C_0 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i) (hc2 : cond0_2 i)
    (x0 : Vec F S512x1024 .f32) (x1 : Vec F S1024x4096 .bf16) (x2 : Vec F S4096x1024 .bf16) (x3 : Vec F S1x1024 .f32) (x4 : Vec F S1x1024 .f32) (xs0 : Vec F S512x1024 .f32) : Vec F S512x1024 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 33 = 0 then
      if h1 : (n + 1) < 32 then
        if h2 : (n + 1) % 33 = 32 then
          False.elim (by have hN : n + 1 < 33 := lt_of_lt_of_eq hn (show cfg0.N = 33 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 33 := lt_of_lt_of_eq hn (show cfg0.N = 33 from N_0); omega)
    else
      if h1 : (n + 1) < 32 then
        if h2 : (n + 1) % 33 = 32 then
          False.elim (by have hN : n + 1 < 33 := lt_of_lt_of_eq hn (show cfg0.N = 33 from N_0); omega)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        if h2 : (n + 1) % 33 = 32 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 33 = 0) (h1 : t.val < 32) (h2 : ¬t.val % 33 = 32) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 33 = 0) (h1 : t.val < 32) (h2 : ¬t.val % 33 = 32) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 33 = 0) (h1 : ¬t.val < 32) (h2 : t.val % 33 = 32) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val % 33 = 0
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) (fun h => h2 ((hcond0_2 t).mp h))], after0_5]
        by_cases hz : t.val = 0
        · rw [PhiS_castSucc m c t, PhiS_zero m c _ _ hz, PhiA0_eq]
          rw [outsAt0_A m c t h0 h1 h2]
          unfold out0_A_5 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _)
        · exfalso; have hN : t.val < 33 := lt_of_lt_of_eq t.isLt (show cfg0.N = 33 from N_0); omega
    · exfalso; omega
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          unfold out0_B_5 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_B_5 c _ _ _ _ _ _ _ _ _ _ _ _ _ _ _ _ _ _ _ _ _ _ _ _)
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        by_cases hz : t.val = 0
        · exfalso; have hN : t.val < 33 := lt_of_lt_of_eq t.isLt (show cfg0.N = 33 from N_0); omega
        · rw [PhiS_castSucc m c t, PhiS_pos m c _ _ hz]
          rw [outsAt0_C m c t h0 h1 h2]
          unfold out0_C_5 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel2`'s statement (Defs.lean) at any `F` — Proof.lean cites it at `Bits`:
    `theorem Cert.Proof.claim : Cert.Claim := ⟨Cert.Kernel2.Gen.facts, fun m ρ _ => Cert.Kernel2.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2.Gen

end
-- ==== Proof.Ffn.Point.lean ====
/- What one grid point of the channel mixing stores, entry by entry: the carried rows and the output block. -/
module

public import proofs.«01_k».proof.Proof.Ffn.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2.Value

open Cert.Kernel2 Cert.Kernel2.Gen Idealize.ShloMosaic Idealize.ShloMosaic.TcCoe Idealize.SL.Sem
open Idealize.ShloMosaic.Pipeline (Dat)

/-- The mean of a row of 1024 values, as the programs take it. -/
def meanF (a : Fin 1024 → EReal) : EReal := Ideal.div (∑ k : Fin 1024, a k) (Ideal.ofBits .f32 0x44800000#32)
/-- One entry of the layer norm of a row: centre, scale by the reciprocal root of the variance plus 1e-5, gain, offset. -/
def lnF (a g b : Fin 1024 → EReal) (l : Fin 1024) : EReal :=
  (a l - meanF a) * Ideal.rsqrt (meanF (fun k => (a k - meanF a) * (a k - meanF a)) + Ideal.ofBits .f32 0x3727C5AC#32) * g l + b l
/-- One entry of the first projection of a row, the negative part cut off. -/
def hidF (x : Fin 1024 → EReal) (w : Fin 1024 → EReal) : EReal := max (∑ k : Fin 1024, x k * w k) 0
/-- One entry of the row before its norm: the scaled row plus the second projection of the squared hidden row. -/
def rowF (x : Fin 1024 → EReal) (w1 : Fin 1024 → Fin 4096 → EReal) (w2 : Fin 4096 → Fin 1024 → EReal) (l : Fin 1024) : EReal :=
  Ideal.ofBits .f32 0x3F9837F0#32 * x l + ∑ f : Fin 4096, hidF x (fun k => w1 k f) * hidF x (fun k => w1 k f) * w2 f l

/-- Selecting on a comparison that fails puts the same rows back: the spliced block is the block itself. -/
theorem tieH (a : BitVec 32) (ha : Scalar.cmpi .slt a 0#32 = 0#1) (s : FVec Ideal S16x128 .bf16) (v : FVec Ideal S512x512 .bf16) :
    concatenate S512x512 0 [⟨S16x512, concatenate S16x512 1 [⟨S16x128, Scalar.select (Scalar.cmpi .slt a 0#32) s (extractStridedSlice S16x128 ![0, 0] v slices_S512x512_o0_0_S16x128)⟩, ⟨S16x384, extractStridedSlice S16x384 ![0, 128] v slices_S512x512_o0_128_S16x384⟩] concatenates_S16x128_S16x384_S16x512_d1⟩, ⟨S496x512, extractStridedSlice S496x512 ![16, 0] v slices_S512x512_o16_0_S496x512⟩] concatenates_S16x512_S496x512_S512x512_d0 = v := by
  rw [ha]
  funext j
  idx_vars j
  pointwise
  split
  · split
    · rfl
    · exact congrArg v (by idx_ext <;> omega)
  · exact congrArg v (by idx_ext <;> omega)

/-- The same for the rows of the tile. -/
theorem tieX (a : BitVec 32) (ha : Scalar.cmpi .slt a 0#32 = 0#1) (s : FVec Ideal S16x128 .bf16) (v : FVec Ideal S512x1024 .bf16) :
    concatenate S512x1024 0 [⟨S16x1024, concatenate S16x1024 1 [⟨S16x128, Scalar.select (Scalar.cmpi .slt a 0#32) s (extractStridedSlice S16x128 ![0, 0] v slices_S512x1024_o0_0_S16x128)⟩, ⟨S16x896, extractStridedSlice S16x896 ![0, 128] v slices_S512x1024_o0_128_S16x896⟩] concatenates_S16x128_S16x896_S16x1024_d1⟩, ⟨S496x1024, extractStridedSlice S496x1024 ![16, 0] v slices_S512x1024_o16_0_S496x1024⟩] concatenates_S16x1024_S496x1024_S512x1024_d0 = v := by
  rw [ha]
  funext j
  idx_vars j
  pointwise
  split
  · split
    · rfl
    · exact congrArg v (by idx_ext <;> omega)
  · exact congrArg v (by idx_ext <;> omega)

/-- A sum over the hidden axis, chunk by chunk. -/
theorem sum8 (f : Fin 4096 → EReal) : ∑ k : Fin 4096, f k
    = (∑ x : Fin 512, f ⟨x, by omega⟩) + (∑ x : Fin 512, f ⟨512 + x, by omega⟩) + (∑ x : Fin 512, f ⟨1024 + x, by omega⟩)
      + (∑ x : Fin 512, f ⟨1536 + x, by omega⟩) + (∑ x : Fin 512, f ⟨2048 + x, by omega⟩) + (∑ x : Fin 512, f ⟨2560 + x, by omega⟩)
      + (∑ x : Fin 512, f ⟨3072 + x, by omega⟩) + (∑ x : Fin 512, f ⟨3584 + x, by omega⟩) := by
  rw [Fin.sum_univ_tiles 8 512 rfl f, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun x _ => congrArg f (Fin.ext (by simp))

/-- A grid coordinate is not negative. -/
theorem arg0_nonneg (i : grid0.Coords) : Scalar.cmpi .slt (BitVec.ofNat 32 (i 0 : ℕ)) 0#32 = 0#1 := by
  have h : ∀ k : Fin 33, Scalar.cmpi .slt (BitVec.ofNat 32 (k : ℕ)) 0#32 = 0#1 := by decide +kernel
  exact h (i 0)

/-- What a point of case B leaves in the output block: the layer norm of the carried rows. -/
theorem out_B (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hc0 : ¬cond0_0 i) (hc1 : cond0_1 i) (hc2 : ¬cond0_2 i)
    (x0 : Vec Ideal S512x1024 .f32) (x1 : Vec Ideal S1024x4096 .bf16) (x2 : Vec Ideal S4096x1024 .bf16) (x3 : Vec Ideal S1x1024 .f32) (x4 : Vec Ideal S1x1024 .f32) (xs0 : Vec Ideal S512x1024 .f32)
    (y : S512x1024.Idx) (a : Fin 512) (b : Fin 1024) (ha : (y 0 : ℕ) = a) (hb : (y 1 : ℕ) = b) :
    out0_B_5 (F := Ideal) c i arg1 harg1 arg2 harg2 arg3 harg3 arg4 harg4 arg5 harg5 arg6 harg6 arg7 harg7 hc0 hc1 hc2 x0 x1 x2 x3 x4 xs0 y
      = lnF (fun k => xs0 (ix2 a k)) (fun k => x3 (ix2 0 k)) (fun k => x4 (ix2 0 k)) b := by
  frame_out
  canon_tiles x h
  all_goals
    have e0 := Fin.ext (a := a) (b := ⟨_, lt_of_eq_of_lt (ha.symm.trans h0).symm a.isLt⟩) (ha.symm.trans h0)
    have e1 : b = x 1 := Fin.ext (hb.symm.trans h1)
    rw [e0, e1]
    pointwise [k0_pay4, k0_pay6, k0_pay8, k0_pay10, k0_pay12, k0_pay14, k0_pay16, k0_pay18, k0_pay19, k0_pay21, k0_pay22, k0_pay24, k0_pay25, k0_pay27, k0_pay28, k0_pay30, k0_pay31, k0_pay32, k0_pay34, k0_pay35, k0_pay36, k0_pay38, k0_pay39, k0_pay40, k0_pay41, k0_pay43, k0_pay44, k0_pay45, k0_pay46, k0_pay48, k0_pay49, k0_pay50, k0_pay51]
    rfl

/-- What a point of case C leaves in the output block: the layer norm of the carried rows. -/
theorem out_C (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hc0 : ¬cond0_0 i) (hc1 : ¬cond0_1 i) (hc2 : cond0_2 i)
    (x0 : Vec Ideal S512x1024 .f32) (x1 : Vec Ideal S1024x4096 .bf16) (x2 : Vec Ideal S4096x1024 .bf16) (x3 : Vec Ideal S1x1024 .f32) (x4 : Vec Ideal S1x1024 .f32) (xs0 : Vec Ideal S512x1024 .f32)
    (y : S512x1024.Idx) (a : Fin 512) (b : Fin 1024) (ha : (y 0 : ℕ) = a) (hb : (y 1 : ℕ) = b) :
    out0_C_5 (F := Ideal) c i arg1 harg1 arg2 harg2 arg3 harg3 arg4 harg4 arg5 harg5 arg6 harg6 arg7 harg7 hc0 hc1 hc2 x0 x1 x2 x3 x4 xs0 y
      = lnF (fun k => xs0 (ix2 a k)) (fun k => x3 (ix2 0 k)) (fun k => x4 (ix2 0 k)) b := by
  frame_out
  canon_tiles x h
  all_goals
    have e0 := Fin.ext (a := a) (b := ⟨_, lt_of_eq_of_lt (ha.symm.trans h0).symm a.isLt⟩) (ha.symm.trans h0)
    have e1 : b = x 1 := Fin.ext (hb.symm.trans h1)
    rw [e0, e1]
    pointwise [k0_pay3, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
    rfl

/-- What a point of case A leaves in the carried rows: the tile's rows before their norm. -/
theorem sout_A (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hc0 : cond0_0 i) (hc1 : cond0_1 i) (hc2 : ¬cond0_2 i)
    (x0 : Vec Ideal S512x1024 .f32) (x1 : Vec Ideal S1024x4096 .bf16) (x2 : Vec Ideal S4096x1024 .bf16) (x3 : Vec Ideal S1x1024 .f32) (x4 : Vec Ideal S1x1024 .f32) (y0 : Fin 512) (y1 : Fin 1024) :
    sout0_A_0 (F := Ideal) c i arg1 harg1 arg2 harg2 arg3 harg3 arg4 harg4 arg5 harg5 arg6 harg6 arg7 harg7 hc0 hc1 hc2 x0 x1 x2 x3 x4 (ix2 y0 y1)
      = rowF (fun k => x0 (ix2 y0 k)) (fun k f => x1 (ix2 k f)) (fun f l => x2 (ix2 f l)) y1 := by
  frame_out
  simp only [k0_pay2, k0_pay53, k0_pay54, k0_pay55, k0_pay56, k0_pay57, k0_pay58, k0_pay59, k0_pay60, k0_pay61, k0_pay62, tieH _ (arg0_nonneg i), tieX _ (arg0_nonneg i)]
  pointwise
  rw [rowF, sum8]
  simp only [← add_assoc]
  rfl

/-- What a point of case B leaves in the carried rows: the tile's rows before their norm. -/
theorem sout_B (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S4096x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (hc0 : ¬cond0_0 i) (hc1 : cond0_1 i) (hc2 : ¬cond0_2 i)
    (x0 : Vec Ideal S512x1024 .f32) (x1 : Vec Ideal S1024x4096 .bf16) (x2 : Vec Ideal S4096x1024 .bf16) (x3 : Vec Ideal S1x1024 .f32) (x4 : Vec Ideal S1x1024 .f32) (xs0 : Vec Ideal S512x1024 .f32) (y0 : Fin 512) (y1 : Fin 1024) :
    sout0_B_0 (F := Ideal) c i arg1 harg1 arg2 harg2 arg3 harg3 arg4 harg4 arg5 harg5 arg6 harg6 arg7 harg7 hc0 hc1 hc2 x0 x1 x2 x3 x4 xs0 (ix2 y0 y1)
      = rowF (fun k => x0 (ix2 y0 k)) (fun k f => x1 (ix2 k f)) (fun f l => x2 (ix2 f l)) y1 := by
  frame_out
  simp only [k0_pay2, k0_pay53, k0_pay54, k0_pay55, k0_pay56, k0_pay57, k0_pay58, k0_pay59, k0_pay60, k0_pay61, k0_pay62, tieH _ (arg0_nonneg i), tieX _ (arg0_nonneg i)]
  pointwise
  rw [rowF, sum8]
  simp only [← add_assoc]
  rfl

end Cert.Kernel2.Value
-- ==== Proof.Ffn.Ref.lean ====
/- The reference's channel mixing, entry by entry. -/
module

public import proofs.«01_k».proof.Proof.Ffn.Point
public import proofs.«01_k».proof.Proof.Gen.Reference2Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Kernel2.Value (lnF rowF hidF meanF)

/-- The reference's rows before their norm. -/
def headR (X : FVec Ideal S16384x1024 .f32) (W1 : FVec Ideal S1x1024x4096 .f32) (W2 : FVec Ideal S1x4096x1024 .f32) : FVec Ideal S16384x1024 .f32 :=
  (addf (mulf (broadcastInDim S16384x1024 ![] bcast_S_S16384x1024 (constant (F := Ideal) S_ .f32 0x3F9837F0#32)) X) (Host.dotGeneral dot_S16384x4096_S4096x1024_S16384x1024_1_0_0_1_n_n none (mulf (maximumf (Host.dotGeneral dot_S16384x1024_S1024x4096_S16384x4096_1_0_0_1_n_n none X (shapeCast _ W1 shapeCasts_S1x1024x4096_S1024x4096)) (broadcastInDim S16384x4096 ![] bcast_S_S16384x4096 (constant (F := Ideal) S_ .f32 0x00000000#32))) (maximumf (Host.dotGeneral dot_S16384x1024_S1024x4096_S16384x4096_1_0_0_1_n_n none X (shapeCast _ W1 shapeCasts_S1x1024x4096_S1024x4096)) (broadcastInDim S16384x4096 ![] bcast_S_S16384x4096 (constant (F := Ideal) S_ .f32 0x00000000#32)))) (shapeCast _ W2 shapeCasts_S1x4096x1024_S4096x1024)))

/-- The reference's layer norm. -/
def normR (C : FVec Ideal S16384x1024 .f32) (G B : FVec Ideal S1x1024 .f32) : FVec Ideal S16384x1024 .f32 :=
  addf (mulf (mulf (subf C (broadcastInDim S16384x1024 ![0, 1] bcast_S16384x1_S16384x1024_0_1 (Host.divf (broadcastInDim S16384x1 ![0] bcast_S16384_S16384x1_0 (Host.reduceAdd C (constant (F := Ideal) S_ .f32 0x00000000#32) reducesTo_S16384x1024_S16384_d1 h_S_)) (broadcastInDim S16384x1 ![] bcast_S_S16384x1 (constant (F := Ideal) S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf C (broadcastInDim S16384x1024 ![0, 1] bcast_S16384x1_S16384x1024_0_1 (Host.divf (broadcastInDim S16384x1 ![0] bcast_S16384_S16384x1_0 (Host.reduceAdd C (constant (F := Ideal) S_ .f32 0x00000000#32) reducesTo_S16384x1024_S16384_d1 h_S_)) (broadcastInDim S16384x1 ![] bcast_S_S16384x1 (constant (F := Ideal) S_ .f32 0x44800000#32))))) (subf C (broadcastInDim S16384x1024 ![0, 1] bcast_S16384x1_S16384x1024_0_1 (Host.divf (broadcastInDim S16384x1 ![0] bcast_S16384_S16384x1_0 (Host.reduceAdd C (constant (F := Ideal) S_ .f32 0x00000000#32) reducesTo_S16384x1024_S16384_d1 h_S_)) (broadcastInDim S16384x1 ![] bcast_S_S16384x1 (constant (F := Ideal) S_ .f32 0x44800000#32)))))) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x3727C5AC#32)))))) (broadcastInDim S16384x1024 ![0, 1] bcast_S1x1024_S16384x1024_0_1 (broadcastInDim S1x1024 ![1] bcast_S1024_S1x1024_1 (shapeCast _ G shapeCasts_S1x1024_S1024)))) (broadcastInDim S16384x1024 ![0, 1] bcast_S1x1024_S16384x1024_0_1 (broadcastInDim S1x1024 ![1] bcast_S1024_S1x1024_1 (shapeCast _ B shapeCasts_S1x1024_S1024)))

/-- The reference's result is the norm of those rows. -/
theorem res_eq (m : (ℓ : Loc nD τ sig) → Buf (Elt Ideal) ℓ) (c : Dev nD) :
    res_main_v34 (F := Ideal) m c = normR (headR (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

theorem headR_at (X : FVec Ideal S16384x1024 .f32) (W1 : FVec Ideal S1x1024x4096 .f32) (W2 : FVec Ideal S1x4096x1024 .f32) (a : Fin 16384) (b : Fin 1024) :
    headR X W1 W2 (ix2 a b) = rowF (fun k => X (ix2 a k)) (fun k f => W1 (ix3 0 k f)) (fun f l => W2 (ix3 0 f l)) b := by
  pointwise [headR]
  rfl

theorem normR_at (C : FVec Ideal S16384x1024 .f32) (G B : FVec Ideal S1x1024 .f32) (a : Fin 16384) (b : Fin 1024) :
    normR C G B (ix2 a b) = lnF (fun k => C (ix2 a k)) (fun k => G (ix2 0 k)) (fun k => B (ix2 0 k)) b := by
  pointwise [normR]
  rfl

/-- The reference's result, entry by entry. -/
def refF (X : FVec Ideal S16384x1024 .f32) (W1 : FVec Ideal S1x1024x4096 .f32) (W2 : FVec Ideal S1x4096x1024 .f32) (G B : FVec Ideal S1x1024 .f32)
    (a : Fin 16384) (b : Fin 1024) : EReal :=
  lnF (rowF (fun k => X (ix2 a k)) (fun k f => W1 (ix3 0 k f)) (fun f l => W2 (ix3 0 f l))) (fun k => G (ix2 0 k)) (fun k => B (ix2 0 k)) b

theorem ref_at (X : FVec Ideal S16384x1024 .f32) (W1 : FVec Ideal S1x1024x4096 .f32) (W2 : FVec Ideal S1x4096x1024 .f32) (G B : FVec Ideal S1x1024 .f32)
    (a : Fin 16384) (b : Fin 1024) : normR (headR X W1 W2) G B (ix2 a b) = refF X W1 W2 G B a b := by
  rw [normR_at, refF]
  simp only [headR_at]

end Cert.Reference2Ideal.Value
-- ==== Proof.Ffn.Blocks.lean ====
/- The channel mixing call's result after the run, and its arguments, which keep their contents. -/
module

public import proofs.«01_k».proof.Proof.Ffn.Frame
public import Idealize.ShloMosaic.Lib.Pipeline.Value

@[expose] public section

noncomputable section

namespace Cert.Kernel2.Value

open Cert.Kernel2 Cert.Kernel2.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v8) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v8) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Kernel2.Value

end
-- ==== Proof.Ffn.Value.lean ====
/- The channel mixing call's result array is the reference's. -/
module

public import proofs.«01_k».proof.Proof.Ffn.Ref
public import proofs.«01_k».proof.Proof.Ffn.Blocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2.Value

open Cert.Kernel2 Cert.Kernel2.Gen Idealize.ShloMosaic Idealize.ShloMosaic.TcCoe Idealize.SL.Sem
open Idealize.ShloMosaic.Pipeline (Dat)

open Cert.Reference2Ideal.Value (normR headR refF ref_at)

variable (m : (ℓ : Loc nD τ sig) → Buf (Elt Ideal) ℓ)

theorem idx : ∀ t : Fin cfg0.N, win0_0.index t = ![min t.val 31, 0] ∧ win0_1.index t = ![0, 0] ∧ win0_2.index t = ![0, 0]
    ∧ win0_3.index t = ![0, 0] ∧ win0_4.index t = ![0, 0] ∧ win0_5.index t = ![t.val - 1, 0] :=
  (by decide +kernel : ∀ t : Fin grid0.N, _)

theorem cast_w1 (W : FVec Ideal S1x1024x4096 .f32) (k : Fin 1024) (f : Fin 4096) :
    truncf (F := Ideal) .bf16 (shapeCast S1024x4096 W shapeCasts_S1x1024x4096_S1024x4096) bitsLt_bf16_f32 (ix2 k f) = W (ix3 0 k f) := by pointwise
theorem cast_w2 (W : FVec Ideal S1x4096x1024 .f32) (k : Fin 4096) (f : Fin 1024) :
    truncf (F := Ideal) .bf16 (shapeCast S4096x1024 W shapeCasts_S1x4096x1024_S4096x1024) bitsLt_bf16_f32 (ix2 k f) = W (ix3 0 k f) := by pointwise
theorem V_w1 (c : Dev nD) (k : Fin 1024) (f : Fin 4096) : (V m c main_v1 : FVec Ideal S1024x4096 .bf16) (ix2 k f) = (m ((c : Thread nD τ).loc main_arg1) : FVec Ideal S1x1024x4096 .f32) (ix3 0 k f) := by
  have h : (V m c main_v1 : FVec Ideal S1024x4096 .bf16) = truncf (F := Ideal) .bf16 (shapeCast S1024x4096 (m ((c : Thread nD τ).loc main_arg1) : FVec Ideal S1x1024x4096 .f32) shapeCasts_S1x1024x4096_S1024x4096) bitsLt_bf16_f32 := by
    unfold V; after_results; try rfl
  exact (congrFun h _).trans (cast_w1 _ k f)
theorem V_w2 (c : Dev nD) (k : Fin 4096) (f : Fin 1024) : (V m c main_v3 : FVec Ideal S4096x1024 .bf16) (ix2 k f) = (m ((c : Thread nD τ).loc main_arg2) : FVec Ideal S1x4096x1024 .f32) (ix3 0 k f) := by
  have h : (V m c main_v3 : FVec Ideal S4096x1024 .bf16) = truncf (F := Ideal) .bf16 (shapeCast S4096x1024 (m ((c : Thread nD τ).loc main_arg2) : FVec Ideal S1x4096x1024 .f32) shapeCasts_S1x4096x1024_S4096x1024) bitsLt_bf16_f32 := by
    unfold V; after_results; try rfl
  exact (congrFun h _).trans (cast_w2 _ k f)
theorem V_g (c : Dev nD) (k : Fin 1024) : (V m c main_v5 : FVec Ideal S1x1024 .f32) (ix2 0 k) = (m ((c : Thread nD τ).loc main_arg3) : FVec Ideal S1x1024 .f32) (ix2 0 k) := by
  have h : (V m c main_v5 : FVec Ideal S1x1024 .f32) = shapeCast S1x1024 (shapeCast S1024 (m ((c : Thread nD τ).loc main_arg3) : FVec Ideal S1x1024 .f32) shapeCasts_S1x1024_S1024) shapeCasts_S1024_S1x1024 := by
    unfold V; after_results; try rfl
  rw [h]; pointwise
theorem V_b (c : Dev nD) (k : Fin 1024) : (V m c main_v7 : FVec Ideal S1x1024 .f32) (ix2 0 k) = (m ((c : Thread nD τ).loc main_arg4) : FVec Ideal S1x1024 .f32) (ix2 0 k) := by
  have h : (V m c main_v7 : FVec Ideal S1x1024 .f32) = shapeCast S1x1024 (shapeCast S1024 (m ((c : Thread nD τ).loc main_arg4) : FVec Ideal S1x1024 .f32) shapeCasts_S1x1024_S1024) shapeCasts_S1024_S1x1024 := by
    unfold V; after_results; try rfl
  rw [h]; pointwise

theorem blk_x (c : Dev nD) (t : Fin cfg0.N) (ht : t.val < 32) (a : Fin 512) (k : Fin 1024) :
    (iblk m c 0 t : FVec Ideal S512x1024 .f32) (ix2 a k) = (m ((c : Thread nD τ).loc main_arg0) : FVec Ideal S16384x1024 .f32) (ix2 ⟨t.val * 512 + a, by omega⟩ k) := by
  have hm : min t.val 31 = t.val := by omega
  blk_point [iblk, V, idx t, hm]
theorem blk_w1 (c : Dev nD) (t : Fin cfg0.N) (k : Fin 1024) (f : Fin 4096) :
    (iblk m c 1 t : FVec Ideal S1024x4096 .bf16) (ix2 k f) = (m ((c : Thread nD τ).loc main_arg1) : FVec Ideal S1x1024x4096 .f32) (ix3 0 k f) := by
  rw [← V_w1 m c k f]
  blk_point [iblk, idx t]
theorem blk_w2 (c : Dev nD) (t : Fin cfg0.N) (k : Fin 4096) (f : Fin 1024) :
    (iblk m c 2 t : FVec Ideal S4096x1024 .bf16) (ix2 k f) = (m ((c : Thread nD τ).loc main_arg2) : FVec Ideal S1x4096x1024 .f32) (ix3 0 k f) := by
  rw [← V_w2 m c k f]
  blk_point [iblk, idx t]
theorem blk_g (c : Dev nD) (t : Fin cfg0.N) (k : Fin 1024) :
    (iblk m c 3 t : FVec Ideal S1x1024 .f32) (ix2 0 k) = (m ((c : Thread nD τ).loc main_arg3) : FVec Ideal S1x1024 .f32) (ix2 0 k) := by
  rw [← V_g m c k]
  blk_point [iblk, idx t]
theorem blk_b (c : Dev nD) (t : Fin cfg0.N) (k : Fin 1024) :
    (iblk m c 4 t : FVec Ideal S1x1024 .f32) (ix2 0 k) = (m ((c : Thread nD τ).loc main_arg4) : FVec Ideal S1x1024 .f32) (ix2 0 k) := by
  rw [← V_b m c k]
  blk_point [iblk, idx t]

/-- The carried rows after point `t`: the rows of tile `t` before their norm. -/
theorem carried (c : Dev nD) (n : ℕ) (hn : n < cfg0.N) (ht : n < 32) (a : Fin 512) (k : Fin 1024) :
    ((outsAt0 m c n hn).2 : FVec Ideal S512x1024 .f32) (ix2 a k)
      = rowF (fun k => (m ((c : Thread nD τ).loc main_arg0) : FVec Ideal S16384x1024 .f32) (ix2 ⟨n * 512 + a, by omega⟩ k))
          (fun k f => (m ((c : Thread nD τ).loc main_arg1) : FVec Ideal S1x1024x4096 .f32) (ix3 0 k f))
          (fun f l => (m ((c : Thread nD τ).loc main_arg2) : FVec Ideal S1x4096x1024 .f32) (ix3 0 f l)) k := by
  have h2 : ¬n % 33 = 32 := by omega
  by_cases h0 : n % 33 = 0
  · rw [outsAt0_A m c ⟨n, hn⟩ h0 ht h2]
    dsimp only
    rw [sout_A]
    simp only [blk_x m c ⟨n, hn⟩ ht, blk_w1, blk_w2]
  · rw [outsAt0_B m c ⟨n, hn⟩ h0 ht h2]
    dsimp only
    rw [sout_B]
    simp only [blk_x m c ⟨n, hn⟩ ht, blk_w1, blk_w2]

/-- What a flushing point leaves in the output window: the norm of the rows of the tile before it. -/
theorem left (c : Dev nD) (t : Fin cfg0.N) (ht : t.val ≠ 0) (y : S512x1024.Idx) (a : Fin 512) (b : Fin 1024) (ha : (y 0 : ℕ) = a) (hb : (y 1 : ℕ) = b) (hr : (t.val - 1) * 512 + a < 16384) :
    ((outsAt0 m c t.val t.isLt).1 : FVec Ideal S512x1024 .f32) y
      = refF (m ((c : Thread nD τ).loc main_arg0)) (m ((c : Thread nD τ).loc main_arg1)) (m ((c : Thread nD τ).loc main_arg2)) (m ((c : Thread nD τ).loc main_arg3)) (m ((c : Thread nD τ).loc main_arg4))
          ⟨(t.val - 1) * 512 + a, hr⟩ b := by
  have hN : t.val < 33 := lt_of_lt_of_eq t.isLt N_0
  have h0 : ¬t.val % 33 = 0 := by omega
  by_cases h1 : t.val < 32
  · rw [outsAt0_B m c t h0 h1 (by omega)]
    dsimp only
    rw [out_B (ha := ha) (hb := hb)]
    simp only [carried m c (t.val - 1) _ (show t.val - 1 < 32 by omega), blk_g, blk_b]
    rfl
  · rw [outsAt0_C m c t h0 h1 (by omega)]
    dsimp only
    rw [out_C (ha := ha) (hb := hb)]
    simp only [carried m c (t.val - 1) _ (show t.val - 1 < 32 by omega), blk_g, blk_b]
    rfl

theorem flush_pos : ∀ t : Fin cfg0.N, (cfg0.win 5).flush t = true → t.val ≠ 0 := (by decide +kernel : ∀ t : Fin grid0.N, _)

/-- The result array after the run. -/
theorem final (c : Dev nD) : (dats m 0 c).arrAt 5 cfg0.N
    = normR (headR (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 5 _ (by decide +kernel) fun t hf y => ?_
  have ht := flush_pos t hf
  blk_simp
  rw [after0_5]
  generalize he : (win0_5.blk t).view.emb y = e
  have e0 : (e 0 : ℕ) = (t.val - 1) * 512 + (y 0 : ℕ) := by rw [← he]; blk_simp [idx t]
  have e1 : (e 1 : ℕ) = (y 1 : ℕ) := by rw [← he]; blk_simp [idx t]
  have h0 : (y 0 : ℕ) < 512 := (y 0).isLt
  have h1 : (y 1 : ℕ) < 1024 := (y 1).isLt
  have hN : t.val < 33 := lt_of_lt_of_eq t.isLt N_0
  have hr : (t.val - 1) * 512 + (y 0 : ℕ) < 16384 := by omega
  have hE : (e : S16384x1024.Idx) = ix2 ⟨(t.val - 1) * 512 + (y 0 : ℕ), hr⟩ ⟨(y 1 : ℕ), h1⟩ := by
    idx_ext
  rw [hE]
  exact (left m c t ht y ⟨(y 0 : ℕ), h0⟩ ⟨(y 1 : ℕ), h1⟩ rfl rfl hr).trans (ref_at _ _ _ _ _ _ _).symm
end Cert.Kernel2.Value
-- ==== Proof.Ffn.Claims.lean ====
/- The claims about the channel mixing call. -/
module

public import proofs.«01_k».proof.Defs
public import proofs.«01_k».proof.Proof.Ffn.Value
public import proofs.«01_k».proof.Proof.Gen.Kernel2Ideal
public import Idealize.ShloMosaic.Lib.Tactic
public import Idealize.ShloMosaic.Lib.Quiescent

@[expose] public section

set_option maxRecDepth 16384

noncomputable section

namespace Cert.Ffn

open Idealize.ShloMosaic Idealize.ShloMosaic.TcCoe Idealize.SL.Sem

theorem frame : Cert.quiescent_Kernel2 (hKernel2 := Cert.Kernel2.Gen.facts) := fun m g _ => Cert.Kernel2.Gen.frame m g

/-- The two prints of the call are one program. -/
theorem main_same : Cert.Kernel2Ideal.main (F := Ideal) = Cert.Kernel2.main (F := Ideal) := by sl_kernel_rfl

theorem defs_same : Cert.Kernel2Ideal.defs (F := Ideal) = Cert.Kernel2.defs (F := Ideal) := by sl_kernel_rfl

theorem frame_ideal : Cert.quiescent_Kernel2Ideal (hKernel2Ideal := Cert.Kernel2Ideal.Gen.facts) := fun m g _ => by
  have h := Cert.Kernel2.Gen.frame (F := Ideal) m g
  rw [main_same, defs_same]
  exact h

theorem frame_reference : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The call's run with its result at the reference's term. -/
theorem run (m : (ℓ : Loc Cert.Kernel2.nD Cert.Kernel2.τ Cert.Kernel2.sig) → Buf (Elt Ideal) ℓ) (g : Dev Cert.Kernel2.nD → PrngReg) :
    θ_run (Cert.Kernel2.defs (F := Ideal)) (onTc (τ := Cert.Kernel2.τ) (Cert.Kernel2.main (F := Ideal))) ⟨m, fun _ => 0, g⟩ fun r => ∀ c : Dev Cert.Kernel2.nD,
      r.2.mem ((c.tc : Thread Cert.Kernel2.nD Cert.Kernel2.τ).loc Cert.Kernel2.main_v8)
          = Cert.Reference2Ideal.Value.normR (Cert.Reference2Ideal.Value.headR (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)))
              (m ((c.tc : Thread Cert.Kernel2.nD Cert.Kernel2.τ).loc Cert.Kernel2.main_arg3)) (m ((c.tc : Thread Cert.Kernel2.nD Cert.Kernel2.τ).loc Cert.Kernel2.main_arg4))
      ∧ r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4) :=
  (θ_run _ _ _).mono (fun r h c => ⟨(h c).1.trans (Cert.Kernel2.Value.final m c), (h c).2⟩) (Cert.Kernel2.Value.run_blocks m g)

theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => Cert.Reference2Ideal.Value.res_main_v34 (F := Ideal) m' c, ?_, Cert.Reference2Ideal.Value.run (F := Ideal) m' g'⟩
  rw [main_same, defs_same]
  refine (θ_run (Cert.Kernel2.defs (F := Ideal)) _ _).mono (fun r h => ?_) (run m g)
  intro c
  refine ⟨(h c).1.trans ?_, (h c).2⟩
  dsimp only
  rw [Cert.Reference2Ideal.Value.res_eq, (hagree c).1, (hagree c).2.1, (hagree c).2.2.1, (hagree c).2.2.2.1, (hagree c).2.2.2.2]

end Cert.Ffn
-- ==== Proof.Mix.Runs.lean ====
/- The token mixing call's operands, scratch and conditions by name, for the runs of its three cases. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 31 — decided over the grid. -/
theorem hcond0_1 : ∀ t : Fin cfg0.N, cond0_1 (grid0.coords t) ↔ (1 ≤ t.val % 33 ∧ t.val % 33 ≤ 31) :=
  (by decide +kernel : ∀ t : Fin grid0.N, cond0_1 (grid0.coords t) ↔ (1 ≤ t.val % 33 ∧ t.val % 33 ≤ 31))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- At the points of case A the printed configuration (`Cfg.idle`) calls output 12 idle: the case stores nothing into it. -/
theorem idleAt0_12_A : ∀ t : Fin cfg0.N, cond0_0 (grid0.coords t) → ¬cond0_1 (grid0.coords t) → ¬cond0_2 (grid0.coords t) → cfg0.idle 12 (grid0.coords t) = true := by decide +kernel
/-- At the points of case A the pipeline does not write output 12's block back. -/
theorem noFlush0_12_A : ∀ t : Fin cfg0.N, cond0_0 (grid0.coords t) → ¬cond0_1 (grid0.coords t) → ¬cond0_2 (grid0.coords t) → (cfg0.win 12).flush t = false := by decide +kernel
/-- At the points of case B the printed configuration (`Cfg.idle`) calls output 12 live: the case stores into it. -/
theorem liveAt0_12_B : ∀ t : Fin cfg0.N, ¬cond0_0 (grid0.coords t) → cond0_1 (grid0.coords t) → ¬cond0_2 (grid0.coords t) → cfg0.idle 12 (grid0.coords t) = false := by decide +kernel
/-- At the points of case C the printed configuration (`Cfg.idle`) calls output 12 live: the case stores into it. -/
theorem liveAt0_12_C : ∀ t : Fin cfg0.N, ¬cond0_0 (grid0.coords t) → ¬cond0_1 (grid0.coords t) → cond0_2 (grid0.coords t) → cfg0.idle 12 (grid0.coords t) = false := by decide +kernel

/-! ## The kernel body on any staging memrefs: a subtype the run finds -/

/-- One staging buffer of output window 12, through which its contents are stated (`View.read_writes_of_cover`: the
    choice does not matter). -/
abbrev VO0_12 : View sig .tc .vmem S512x1024 .f32 := (Memref.whole cc0_stg12_0 : Memref sig .tc .vmem S512x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4608 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x4096 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .bf16 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1024x8704 .bf16 := Memref.whole cc0_scratch0
abbrev scM0_1 : Memref sig .tc .vmem S1536x1024 .bf16 := Memref.whole cc0_scratch1
abbrev scM0_2 : Memref sig .tc .vmem S1024x1024 .bf16 := Memref.whole cc0_scratch2
abbrev scM0_3 : Memref sig .tc .vmem S1024x1024 .bf16 := Memref.whole cc0_scratch3
abbrev scM0_4 : Memref sig .tc .vmem S8x128x128 .bf16 := Memref.whole cc0_scratch4
abbrev scM0_5 : Memref sig .tc .vmem S528x1024 .bf16 := Memref.whole cc0_scratch5
abbrev scM0_6 : Memref sig .tc .vmem S544x1536 .f32 := Memref.whole cc0_scratch6
abbrev scM0_7 : Memref sig .tc .vmem S512x1024 .f32 := Memref.whole cc0_scratch7
abbrev scM0_8 : Memref sig .tc .vmem S6x512x512 .f32 := Memref.whole cc0_scoped0
/-- The scratch `arg20` the kernel carries between points, as a view: what it holds is stated through it. -/
abbrev VS0_0 : View sig .tc .vmem S1024x8704 .bf16 := scM0_0.view
/-- The scratch `arg21` the kernel carries between points, as a view: what it holds is stated through it. -/
abbrev VS0_1 : View sig .tc .vmem S1536x1024 .bf16 := scM0_1.view
/-- The scratch `arg22` the kernel carries between points, as a view: what it holds is stated through it. -/
abbrev VS0_2 : View sig .tc .vmem S1024x1024 .bf16 := scM0_2.view
/-- The scratch `arg23` the kernel carries between points, as a view: what it holds is stated through it. -/
abbrev VS0_3 : View sig .tc .vmem S1024x1024 .bf16 := scM0_3.view
/-- The scratch `arg24` the kernel carries between points, as a view: what it holds is stated through it. -/
abbrev VS0_4 : View sig .tc .vmem S8x128x128 .bf16 := scM0_4.view
/-- The scratch `arg26` the kernel carries between points, as a view: what it holds is stated through it. -/
abbrev VS0_6 : View sig .tc .vmem S544x1536 .f32 := scM0_6.view
/-- The scratch `arg27` the kernel carries between points, as a view: what it holds is stated through it. -/
abbrev VS0_7 : View sig .tc .vmem S512x1024 .f32 := scM0_7.view
/-- The operands left in HBM that the body copies into scratch itself, whole. -/
abbrev hbM0_0 : Memref sig .tc .hbm S1024x8704 .f32 := Memref.whole main_v1
abbrev hbM0_1 : Memref sig .tc .hbm S1536x1024 .f32 := Memref.whole main_v10
abbrev hbM0_2 : Memref sig .tc .hbm S1024x1024 .f32 := Memref.whole main_v11
abbrev hbM0_3 : Memref sig .tc .hbm S1024x1024 .f32 := Memref.whole main_v12
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 22, SemLoc.dma 23, SemLoc.dma 24, SemLoc.dma 25, SemLoc.dma 26, SemLoc.dma 27] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_v1, main_v10, main_v11, main_v12}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v1) ∗ hbPt0 c hbM0_1 (V m c main_v10) ∗ hbPt0 c hbM0_2 (V m c main_v11) ∗ hbPt0 c hbM0_3 (V m c main_v12)) := by
  rw [BI.bigSep_eq_bigSepL_of_eq [main_v1, main_v10, main_v11, main_v12] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v1) ∗ hbPt0 c hbM0_1 (V m c main_v10) ∗ hbPt0 c hbM0_2 (V m c main_v11) ∗ hbPt0 c hbM0_3 (V m c main_v12))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.Kernel.Gen

end
-- ==== Proof.Slots.lean ====
module

public import proofs.«01_k».proof.Proof.Mix.Runs

@[expose] public section

set_option maxRecDepth 16384

noncomputable section

namespace Cert.Kernel.Gen

open Idealize.ShloMosaic Idealize.ShloMosaic.TcCoe Idealize.ShloMosaic.Tactic
open Idealize.SL.Sem

variable {F : FTy → Type} [FloatOps F]

/-- The block of a slot, as the load of the slot gives it. -/
def slotVal {α : Type} (p : S512x512.Idx → α) : S1x512x512.Idx → α := fun x => p ((Shape.reshapeEquiv (squeezes_S1x512x512_S512x512).numel_eq).symm x)

/-- A slot of the ring, as the block it holds. -/
abbrev slotV (m : Memref sig .tc .vmem S6x512x512 .f32) (off : Fin 3 → ℕ) (h : ∀ a, off a + S1x512x512.size a ≤ S6x512x512.size a) : View sig .tc .vmem S512x512 .f32 :=
  ((m.slice (Rect.unit (s := S6x512x512) off S1x512x512.size h) (fun _ => rfl)).squeeze S512x512 squeezes_S1x512x512_S512x512).view

/-- A slot read back after a block was written into it. -/
theorem slot_read (m : Memref sig .tc .vmem S6x512x512 .f32) (off : Fin 3 → ℕ) (h : ∀ a, off a + S1x512x512.size a ≤ S6x512x512.size a)
    (f : m.view.ty.Contents (Elt F)) (p : S512x512.Idx → Elt F .f32) :
    View.readAt (Elt F) m.view (Rect.unit (s := S6x512x512) off S1x512x512.size h).toLoadRect (View.write (Elt F) (slotV m off h) f p Finset.univ) = slotVal p := by
  funext x
  obtain ⟨y, rfl⟩ := (Shape.reshapeEquiv (squeezes_S1x512x512_S512x512).numel_eq).surjective x
  have e := View.read_write_of_mem (Val := Elt F) (v := slotV m off h) f p (Finset.mem_univ y)
  rw [slotVal, Equiv.symm_apply_apply]
  exact e

/-- A block written into another slot leaves the slot read as it was. -/
theorem slot_skip (m : Memref sig .tc .vmem S6x512x512 .f32) (off off' : Fin 3 → ℕ) (h : ∀ a, off a + S1x512x512.size a ≤ S6x512x512.size a)
    (h' : ∀ a, off' a + S1x512x512.size a ≤ S6x512x512.size a) (hne : off 0 ≠ off' 0)
    (f : m.view.ty.Contents (Elt F)) (p : S512x512.Idx → Elt F .f32) :
    View.readAt (Elt F) m.view (Rect.unit (s := S6x512x512) off S1x512x512.size h).toLoadRect (View.write (Elt F) (slotV m off' h') f p Finset.univ)
      = View.readAt (Elt F) m.view (Rect.unit (s := S6x512x512) off S1x512x512.size h).toLoadRect f := by
  refine View.readAt_congr fun i hi => View.write_of_not_mem _ _ _ fun hj => ?_
  obtain ⟨y, hy, rfl⟩ := Finset.mem_map.mp hi
  obtain ⟨z, -, hz⟩ := Finset.mem_map.mp hj
  have e : (Rect.unit (s := S6x512x512) off' S1x512x512.size h').emb (Shape.reshapeEquiv (squeezes_S1x512x512_S512x512).numel_eq z) = y := m.view.emb.injective hz
  obtain ⟨w, rfl⟩ := (Rect.unit (s := S6x512x512) off S1x512x512.size h).exists_idx_of_mem hy
  have e0 : off' 0 + 1 * ((Shape.reshapeEquiv (squeezes_S1x512x512_S512x512).numel_eq z) 0).val = off 0 + 1 * (w 0).val := congrArg (fun q : S6x512x512.Idx => (q 0).val) e
  have b1 : ((Shape.reshapeEquiv (squeezes_S1x512x512_S512x512).numel_eq z) 0).val < 1 := ((Shape.reshapeEquiv (squeezes_S1x512x512_S512x512).numel_eq z) 0).isLt
  have b2 : (w 0).val < 1 := (w 0).isLt
  omega

end Cert.Kernel.Gen
-- ==== Proof.Mix.RunA.lean ====
/- The token mixing call's first point (point 0): the weight stream inside the scoped buffers, then the first tile. -/
module

public import proofs.«01_k».proof.Proof.Mix.Runs
public import proofs.«01_k».proof.Proof.Slots

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 0 in set_option sl_exec.dmaWindow true in set_option sl_exec.dmaWindowSet true in
/-- What the body's stores leave in each output's staging memref, as pieces (last first) IN CASE A (`scf.if` 0 taken, `scf.if` 1 not taken, `scf.if` 2 not taken: points 0), WITH the
    proof that on whole staging memrefs — the inputs' at their contents, the outputs it leaves idle (12: no store, the window idle and not written back at the case's points) at contents `xi·` handed back untouched, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (13, 14) at anything, handed back at some contents nothing names. -/
noncomputable def kernelRun0_A (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec F S512x1024 .f32) (x1 : Vec F S16x1024 .f32) (x2 : Vec F S1x2048 .f32) (x3 : Vec F S1x1x4608 .f32) (x4 : Vec F S1x1024 .f32) (x5 : Vec F S1x1024 .f32) (x6 : Vec F S8x128x128 .f32) (x7 : Vec F S1x8x128 .f32) (x8 : Vec F S1x1024 .f32) (x9 : Vec F S1x1024 .f32) (x10 : Vec F S32x4096 .f32) (x11 : Vec F S128x1024 .f32) (fh0 : HbBuf0 (F := F) c hbM0_0) (fh1 : HbBuf0 (F := F) c hbM0_1) (fh2 : HbBuf0 (F := F) c hbM0_2) (fh3 : HbBuf0 (F := F) c hbM0_3) :
    Σ' (L12 : List (View.Piece (Elt F) S512x1024 .f32)), Σ' (LS0 : List (View.Piece (Elt F) S1024x8704 .bf16)), Σ' (LS1 : List (View.Piece (Elt F) S1536x1024 .bf16)), Σ' (LS2 : List (View.Piece (Elt F) S1024x1024 .bf16)), Σ' (LS3 : List (View.Piece (Elt F) S1024x1024 .bf16)), Σ' (LS4 : List (View.Piece (Elt F) S8x128x128 .bf16)), Σ' (LS6 : List (View.Piece (Elt F) S544x1536 .f32)), Σ' (LS7 : List (View.Piece (Elt F) S512x1024 .f32)), { LT5 : List (View.Piece (Elt F) S528x1024 .bf16) //
      ∀ (xi12 : Vec F S512x1024 .f32) (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare xi12 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) alloca_r0 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare xi12 ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4) ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ d, owns (c : Thread nD τ) alloca_r0 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_token_mix i arg1 harg1 arg2 harg2 (Memref.whole main_v1) (Memref.isWhole_whole _) arg4 harg4 arg5 harg5 arg6 harg6 arg7 harg7 arg8 harg8 arg9 harg9 (Memref.whole main_v10) (Memref.isWhole_whole _) (Memref.whole main_v11) (Memref.isWhole_whole _) (Memref.whole main_v12) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 cc0_scoped1) K } := by
  refine ⟨[], ?_, ?_, ?_, ?_, ?_, ?_, ?_, ?_, fun xi12 W K => ?run⟩
  case run =>
    simp only [cc0_token_mix_eq_skeleton]; unfold cc0_token_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hh0, Hh1, Hh2, Hh3, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf8; obtain rfl := harg14.eq_unread hf9; obtain rfl := harg15.eq_unread hf10; obtain rfl := harg16.eq_unread hf11; obtain rfl := harg17.eq_unread hf12
    have q1_4 : ∀ (f : alloca_r0.view.ty.Contents (Elt F)) (p p1 p2 p3 p4 : S512x512.Idx → Elt F .f32), View.readAt (Elt F) alloca_r0.view (Rect.unit (s := S6x512x512) ![1, 0, 0] S1x512x512.size inb_S6x512x512_S1x512x512_1_0_0).toLoadRect (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view (View.write (Elt F) ((alloca_r0.slice (Rect.unit (s := S6x512x512) ![1, 0, 0] S1x512x512.size inb_S6x512x512_S1x512x512_1_0_0) (fun _ => rfl)).squeeze S512x512 squeezes_S1x512x512_S512x512).view f p Finset.univ) p1 Finset.univ) p2 Finset.univ) p3 Finset.univ) p4 Finset.univ) = slotVal p := fun f p p1 p2 p3 p4 => (slot_skip alloca_r0 ![1, 0, 0] ![5, 0, 0] inb_S6x512x512_S1x512x512_1_0_0 inb_S6x512x512_S1x512x512_5_0_0 (by decide) _ p4).trans <| (slot_skip alloca_r0 ![1, 0, 0] ![4, 0, 0] inb_S6x512x512_S1x512x512_1_0_0 inb_S6x512x512_S1x512x512_4_0_0 (by decide) _ p3).trans <| (slot_skip alloca_r0 ![1, 0, 0] ![3, 0, 0] inb_S6x512x512_S1x512x512_1_0_0 inb_S6x512x512_S1x512x512_3_0_0 (by decide) _ p2).trans <| (slot_skip alloca_r0 ![1, 0, 0] ![2, 0, 0] inb_S6x512x512_S1x512x512_1_0_0 inb_S6x512x512_S1x512x512_2_0_0 (by decide) _ p1).trans <| slot_read alloca_r0 ![1, 0, 0] inb_S6x512x512_S1x512x512_1_0_0 f p
    have q2_3 : ∀ (f : alloca_r0.view.ty.Contents (Elt F)) (p p1 p2 p3 : S512x512.Idx → Elt F .f32), View.readAt (Elt F) alloca_r0.view (Rect.unit (s := S6x512x512) ![2, 0, 0] S1x512x512.size inb_S6x512x512_S1x512x512_2_0_0).toLoadRect (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view f p Finset.univ) p1 Finset.univ) p2 Finset.univ) p3 Finset.univ) = slotVal p := fun f p p1 p2 p3 => (slot_skip alloca_r0 ![2, 0, 0] ![5, 0, 0] inb_S6x512x512_S1x512x512_2_0_0 inb_S6x512x512_S1x512x512_5_0_0 (by decide) _ p3).trans <| (slot_skip alloca_r0 ![2, 0, 0] ![4, 0, 0] inb_S6x512x512_S1x512x512_2_0_0 inb_S6x512x512_S1x512x512_4_0_0 (by decide) _ p2).trans <| (slot_skip alloca_r0 ![2, 0, 0] ![3, 0, 0] inb_S6x512x512_S1x512x512_2_0_0 inb_S6x512x512_S1x512x512_3_0_0 (by decide) _ p1).trans <| slot_read alloca_r0 ![2, 0, 0] inb_S6x512x512_S1x512x512_2_0_0 f p
    have q3_2 : ∀ (f : alloca_r0.view.ty.Contents (Elt F)) (p p1 p2 : S512x512.Idx → Elt F .f32), View.readAt (Elt F) alloca_r0.view (Rect.unit (s := S6x512x512) ![3, 0, 0] S1x512x512.size inb_S6x512x512_S1x512x512_3_0_0).toLoadRect (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view f p Finset.univ) p1 Finset.univ) p2 Finset.univ) = slotVal p := fun f p p1 p2 => (slot_skip alloca_r0 ![3, 0, 0] ![5, 0, 0] inb_S6x512x512_S1x512x512_3_0_0 inb_S6x512x512_S1x512x512_5_0_0 (by decide) _ p2).trans <| (slot_skip alloca_r0 ![3, 0, 0] ![4, 0, 0] inb_S6x512x512_S1x512x512_3_0_0 inb_S6x512x512_S1x512x512_4_0_0 (by decide) _ p1).trans <| slot_read alloca_r0 ![3, 0, 0] inb_S6x512x512_S1x512x512_3_0_0 f p
    have q4_1 : ∀ (f : alloca_r0.view.ty.Contents (Elt F)) (p p1 : S512x512.Idx → Elt F .f32), View.readAt (Elt F) alloca_r0.view (Rect.unit (s := S6x512x512) ![4, 0, 0] S1x512x512.size inb_S6x512x512_S1x512x512_4_0_0).toLoadRect (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view f p Finset.univ) p1 Finset.univ) = slotVal p := fun f p p1 => (slot_skip alloca_r0 ![4, 0, 0] ![5, 0, 0] inb_S6x512x512_S1x512x512_4_0_0 inb_S6x512x512_S1x512x512_5_0_0 (by decide) _ p1).trans <| slot_read alloca_r0 ![4, 0, 0] inb_S6x512x512_S1x512x512_4_0_0 f p
    have q5_0 : ∀ (f : alloca_r0.view.ty.Contents (Elt F)) (p : S512x512.Idx → Elt F .f32), View.readAt (Elt F) alloca_r0.view (Rect.unit (s := S6x512x512) ![5, 0, 0] S1x512x512.size inb_S6x512x512_S1x512x512_5_0_0).toLoadRect (View.write (Elt F) ((alloca_r0.slice (Rect.unit (s := S6x512x512) ![5, 0, 0] S1x512x512.size inb_S6x512x512_S1x512x512_5_0_0) (fun _ => rfl)).squeeze S512x512 squeezes_S1x512x512_S512x512).view f p Finset.univ) = slotVal p := fun f p => slot_read alloca_r0 ![5, 0, 0] inb_S6x512x512_S1x512x512_5_0_0 f p
    have q0_5 : ∀ (f : alloca_r0.view.ty.Contents (Elt F)) (p p1 p2 p3 p4 p5 : S512x512.Idx → Elt F .f32), View.readAt (Elt F) alloca_r0.view (Rect.unit (s := S6x512x512) ![0, 0, 0] S1x512x512.size inb_S6x512x512_S1x512x512_0_0_0).toLoadRect (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view (View.write (Elt F) ((alloca_r0.slice (Rect.unit (s := S6x512x512) ![1, 0, 0] S1x512x512.size inb_S6x512x512_S1x512x512_1_0_0) (fun _ => rfl)).squeeze S512x512 squeezes_S1x512x512_S512x512).view (View.write (Elt F) ((alloca_r0.slice (Rect.unit (s := S6x512x512) ![0, 0, 0] S1x512x512.size inb_S6x512x512_S1x512x512_0_0_0) (fun _ => rfl)).squeeze S512x512 squeezes_S1x512x512_S512x512).view f p Finset.univ) p1 Finset.univ) p2 Finset.univ) p3 Finset.univ) p4 Finset.univ) p5 Finset.univ) = slotVal p := fun f p p1 p2 p3 p4 p5 => (slot_skip alloca_r0 ![0, 0, 0] ![5, 0, 0] inb_S6x512x512_S1x512x512_0_0_0 inb_S6x512x512_S1x512x512_5_0_0 (by decide) _ p5).trans <| (slot_skip alloca_r0 ![0, 0, 0] ![4, 0, 0] inb_S6x512x512_S1x512x512_0_0_0 inb_S6x512x512_S1x512x512_4_0_0 (by decide) _ p4).trans <| (slot_skip alloca_r0 ![0, 0, 0] ![3, 0, 0] inb_S6x512x512_S1x512x512_0_0_0 inb_S6x512x512_S1x512x512_3_0_0 (by decide) _ p3).trans <| (slot_skip alloca_r0 ![0, 0, 0] ![2, 0, 0] inb_S6x512x512_S1x512x512_0_0_0 inb_S6x512x512_S1x512x512_2_0_0 (by decide) _ p2).trans <| (slot_skip alloca_r0 ![0, 0, 0] ![1, 0, 0] inb_S6x512x512_S1x512x512_0_0_0 inb_S6x512x512_S1x512x512_1_0_0 (by decide) _ p1).trans <| slot_read alloca_r0 ![0, 0, 0] inb_S6x512x512_S1x512x512_0_0_0 f p
    have q1_5 : ∀ (f : alloca_r0.view.ty.Contents (Elt F)) (p p1 p2 p3 p4 p5 : S512x512.Idx → Elt F .f32), View.readAt (Elt F) alloca_r0.view (Rect.unit (s := S6x512x512) ![1, 0, 0] S1x512x512.size inb_S6x512x512_S1x512x512_1_0_0).toLoadRect (View.write (Elt F) ((alloca_r0.slice (Rect.unit (s := S6x512x512) ![0, 0, 0] S1x512x512.size inb_S6x512x512_S1x512x512_0_0_0) (fun _ => rfl)).squeeze S512x512 squeezes_S1x512x512_S512x512).view (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view (View.write (Elt F) ((alloca_r0.slice (Rect.unit (s := S6x512x512) ![1, 0, 0] S1x512x512.size inb_S6x512x512_S1x512x512_1_0_0) (fun _ => rfl)).squeeze S512x512 squeezes_S1x512x512_S512x512).view f p Finset.univ) p1 Finset.univ) p2 Finset.univ) p3 Finset.univ) p4 Finset.univ) p5 Finset.univ) = slotVal p := fun f p p1 p2 p3 p4 p5 => (slot_skip alloca_r0 ![1, 0, 0] ![0, 0, 0] inb_S6x512x512_S1x512x512_1_0_0 inb_S6x512x512_S1x512x512_0_0_0 (by decide) _ p5).trans <| (slot_skip alloca_r0 ![1, 0, 0] ![5, 0, 0] inb_S6x512x512_S1x512x512_1_0_0 inb_S6x512x512_S1x512x512_5_0_0 (by decide) _ p4).trans <| (slot_skip alloca_r0 ![1, 0, 0] ![4, 0, 0] inb_S6x512x512_S1x512x512_1_0_0 inb_S6x512x512_S1x512x512_4_0_0 (by decide) _ p3).trans <| (slot_skip alloca_r0 ![1, 0, 0] ![3, 0, 0] inb_S6x512x512_S1x512x512_1_0_0 inb_S6x512x512_S1x512x512_3_0_0 (by decide) _ p2).trans <| (slot_skip alloca_r0 ![1, 0, 0] ![2, 0, 0] inb_S6x512x512_S1x512x512_1_0_0 inb_S6x512x512_S1x512x512_2_0_0 (by decide) _ p1).trans <| slot_read alloca_r0 ![1, 0, 0] inb_S6x512x512_S1x512x512_1_0_0 f p
    have q2_5 : ∀ (f : alloca_r0.view.ty.Contents (Elt F)) (p p1 p2 p3 p4 p5 : S512x512.Idx → Elt F .f32), View.readAt (Elt F) alloca_r0.view (Rect.unit (s := S6x512x512) ![2, 0, 0] S1x512x512.size inb_S6x512x512_S1x512x512_2_0_0).toLoadRect (View.write (Elt F) ((alloca_r0.slice (Rect.unit (s := S6x512x512) ![1, 0, 0] S1x512x512.size inb_S6x512x512_S1x512x512_1_0_0) (fun _ => rfl)).squeeze S512x512 squeezes_S1x512x512_S512x512).view (View.write (Elt F) ((alloca_r0.slice (Rect.unit (s := S6x512x512) ![0, 0, 0] S1x512x512.size inb_S6x512x512_S1x512x512_0_0_0) (fun _ => rfl)).squeeze S512x512 squeezes_S1x512x512_S512x512).view (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view f p Finset.univ) p1 Finset.univ) p2 Finset.univ) p3 Finset.univ) p4 Finset.univ) p5 Finset.univ) = slotVal p := fun f p p1 p2 p3 p4 p5 => (slot_skip alloca_r0 ![2, 0, 0] ![1, 0, 0] inb_S6x512x512_S1x512x512_2_0_0 inb_S6x512x512_S1x512x512_1_0_0 (by decide) _ p5).trans <| (slot_skip alloca_r0 ![2, 0, 0] ![0, 0, 0] inb_S6x512x512_S1x512x512_2_0_0 inb_S6x512x512_S1x512x512_0_0_0 (by decide) _ p4).trans <| (slot_skip alloca_r0 ![2, 0, 0] ![5, 0, 0] inb_S6x512x512_S1x512x512_2_0_0 inb_S6x512x512_S1x512x512_5_0_0 (by decide) _ p3).trans <| (slot_skip alloca_r0 ![2, 0, 0] ![4, 0, 0] inb_S6x512x512_S1x512x512_2_0_0 inb_S6x512x512_S1x512x512_4_0_0 (by decide) _ p2).trans <| (slot_skip alloca_r0 ![2, 0, 0] ![3, 0, 0] inb_S6x512x512_S1x512x512_2_0_0 inb_S6x512x512_S1x512x512_3_0_0 (by decide) _ p1).trans <| slot_read alloca_r0 ![2, 0, 0] inb_S6x512x512_S1x512x512_2_0_0 f p
    have q3_5 : ∀ (f : alloca_r0.view.ty.Contents (Elt F)) (p p1 p2 p3 p4 p5 : S512x512.Idx → Elt F .f32), View.readAt (Elt F) alloca_r0.view (Rect.unit (s := S6x512x512) ![3, 0, 0] S1x512x512.size inb_S6x512x512_S1x512x512_3_0_0).toLoadRect (View.write (Elt F) ((alloca_r0.slice (Rect.unit (s := S6x512x512) ![2, 0, 0] S1x512x512.size inb_S6x512x512_S1x512x512_2_0_0) (fun _ => rfl)).squeeze S512x512 squeezes_S1x512x512_S512x512).view (View.write (Elt F) ((alloca_r0.slice (Rect.unit (s := S6x512x512) ![1, 0, 0] S1x512x512.size inb_S6x512x512_S1x512x512_1_0_0) (fun _ => rfl)).squeeze S512x512 squeezes_S1x512x512_S512x512).view (View.write (Elt F) ((alloca_r0.slice (Rect.unit (s := S6x512x512) ![0, 0, 0] S1x512x512.size inb_S6x512x512_S1x512x512_0_0_0) (fun _ => rfl)).squeeze S512x512 squeezes_S1x512x512_S512x512).view (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view f p Finset.univ) p1 Finset.univ) p2 Finset.univ) p3 Finset.univ) p4 Finset.univ) p5 Finset.univ) = slotVal p := fun f p p1 p2 p3 p4 p5 => (slot_skip alloca_r0 ![3, 0, 0] ![2, 0, 0] inb_S6x512x512_S1x512x512_3_0_0 inb_S6x512x512_S1x512x512_2_0_0 (by decide) _ p5).trans <| (slot_skip alloca_r0 ![3, 0, 0] ![1, 0, 0] inb_S6x512x512_S1x512x512_3_0_0 inb_S6x512x512_S1x512x512_1_0_0 (by decide) _ p4).trans <| (slot_skip alloca_r0 ![3, 0, 0] ![0, 0, 0] inb_S6x512x512_S1x512x512_3_0_0 inb_S6x512x512_S1x512x512_0_0_0 (by decide) _ p3).trans <| (slot_skip alloca_r0 ![3, 0, 0] ![5, 0, 0] inb_S6x512x512_S1x512x512_3_0_0 inb_S6x512x512_S1x512x512_5_0_0 (by decide) _ p2).trans <| (slot_skip alloca_r0 ![3, 0, 0] ![4, 0, 0] inb_S6x512x512_S1x512x512_3_0_0 inb_S6x512x512_S1x512x512_4_0_0 (by decide) _ p1).trans <| slot_read alloca_r0 ![3, 0, 0] inb_S6x512x512_S1x512x512_3_0_0 f p
    have q4_5 : ∀ (f : alloca_r0.view.ty.Contents (Elt F)) (p p1 p2 p3 p4 p5 : S512x512.Idx → Elt F .f32), View.readAt (Elt F) alloca_r0.view (Rect.unit (s := S6x512x512) ![4, 0, 0] S1x512x512.size inb_S6x512x512_S1x512x512_4_0_0).toLoadRect (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view (View.write (Elt F) ((alloca_r0.slice (Rect.unit (s := S6x512x512) ![1, 0, 0] S1x512x512.size inb_S6x512x512_S1x512x512_1_0_0) (fun _ => rfl)).squeeze S512x512 squeezes_S1x512x512_S512x512).view (View.write (Elt F) ((alloca_r0.slice (Rect.unit (s := S6x512x512) ![0, 0, 0] S1x512x512.size inb_S6x512x512_S1x512x512_0_0_0) (fun _ => rfl)).squeeze S512x512 squeezes_S1x512x512_S512x512).view (View.write (Elt F) ((alloca_r0.slice (Rect.unit (s := S6x512x512) ![5, 0, 0] S1x512x512.size inb_S6x512x512_S1x512x512_5_0_0) (fun _ => rfl)).squeeze S512x512 squeezes_S1x512x512_S512x512).view (View.write (Elt F) ((alloca_r0.slice (Rect.unit (s := S6x512x512) ![4, 0, 0] S1x512x512.size inb_S6x512x512_S1x512x512_4_0_0) (fun _ => rfl)).squeeze S512x512 squeezes_S1x512x512_S512x512).view f p Finset.univ) p1 Finset.univ) p2 Finset.univ) p3 Finset.univ) p4 Finset.univ) p5 Finset.univ) = slotVal p := fun f p p1 p2 p3 p4 p5 => (slot_skip alloca_r0 ![4, 0, 0] ![3, 0, 0] inb_S6x512x512_S1x512x512_4_0_0 inb_S6x512x512_S1x512x512_3_0_0 (by decide) _ p5).trans <| (slot_skip alloca_r0 ![4, 0, 0] ![2, 0, 0] inb_S6x512x512_S1x512x512_4_0_0 inb_S6x512x512_S1x512x512_2_0_0 (by decide) _ p4).trans <| (slot_skip alloca_r0 ![4, 0, 0] ![1, 0, 0] inb_S6x512x512_S1x512x512_4_0_0 inb_S6x512x512_S1x512x512_1_0_0 (by decide) _ p3).trans <| (slot_skip alloca_r0 ![4, 0, 0] ![0, 0, 0] inb_S6x512x512_S1x512x512_4_0_0 inb_S6x512x512_S1x512x512_0_0_0 (by decide) _ p2).trans <| (slot_skip alloca_r0 ![4, 0, 0] ![5, 0, 0] inb_S6x512x512_S1x512x512_4_0_0 inb_S6x512x512_S1x512x512_5_0_0 (by decide) _ p1).trans <| slot_read alloca_r0 ![4, 0, 0] inb_S6x512x512_S1x512x512_4_0_0 f p
    have q5_5 : ∀ (f : alloca_r0.view.ty.Contents (Elt F)) (p p1 p2 p3 p4 p5 : S512x512.Idx → Elt F .f32), View.readAt (Elt F) alloca_r0.view (Rect.unit (s := S6x512x512) ![5, 0, 0] S1x512x512.size inb_S6x512x512_S1x512x512_5_0_0).toLoadRect (View.write (Elt F) ((alloca_r0.slice (Rect.unit (s := S6x512x512) ![4, 0, 0] S1x512x512.size inb_S6x512x512_S1x512x512_4_0_0) (fun _ => rfl)).squeeze S512x512 squeezes_S1x512x512_S512x512).view (View.write (Elt F) ((alloca_r0.slice (Rect.unit (s := S6x512x512) ![3, 0, 0] S1x512x512.size inb_S6x512x512_S1x512x512_3_0_0) (fun _ => rfl)).squeeze S512x512 squeezes_S1x512x512_S512x512).view (View.write (Elt F) ((alloca_r0.slice (Rect.unit (s := S6x512x512) ![2, 0, 0] S1x512x512.size inb_S6x512x512_S1x512x512_2_0_0) (fun _ => rfl)).squeeze S512x512 squeezes_S1x512x512_S512x512).view (View.write (Elt F) ((alloca_r0.slice (Rect.unit (s := S6x512x512) ![1, 0, 0] S1x512x512.size inb_S6x512x512_S1x512x512_1_0_0) (fun _ => rfl)).squeeze S512x512 squeezes_S1x512x512_S512x512).view (View.write (Elt F) ((alloca_r0.slice (Rect.unit (s := S6x512x512) ![0, 0, 0] S1x512x512.size inb_S6x512x512_S1x512x512_0_0_0) (fun _ => rfl)).squeeze S512x512 squeezes_S1x512x512_S512x512).view (View.write (Elt F) ((alloca_r0.slice (Rect.unit (s := S6x512x512) ![5, 0, 0] S1x512x512.size inb_S6x512x512_S1x512x512_5_0_0) (fun _ => rfl)).squeeze S512x512 squeezes_S1x512x512_S512x512).view f p Finset.univ) p1 Finset.univ) p2 Finset.univ) p3 Finset.univ) p4 Finset.univ) p5 Finset.univ) = slotVal p := fun f p p1 p2 p3 p4 p5 => (slot_skip alloca_r0 ![5, 0, 0] ![4, 0, 0] inb_S6x512x512_S1x512x512_5_0_0 inb_S6x512x512_S1x512x512_4_0_0 (by decide) _ p5).trans <| (slot_skip alloca_r0 ![5, 0, 0] ![3, 0, 0] inb_S6x512x512_S1x512x512_5_0_0 inb_S6x512x512_S1x512x512_3_0_0 (by decide) _ p4).trans <| (slot_skip alloca_r0 ![5, 0, 0] ![2, 0, 0] inb_S6x512x512_S1x512x512_5_0_0 inb_S6x512x512_S1x512x512_2_0_0 (by decide) _ p3).trans <| (slot_skip alloca_r0 ![5, 0, 0] ![1, 0, 0] inb_S6x512x512_S1x512x512_5_0_0 inb_S6x512x512_S1x512x512_1_0_0 (by decide) _ p2).trans <| (slot_skip alloca_r0 ![5, 0, 0] ![0, 0, 0] inb_S6x512x512_S1x512x512_5_0_0 inb_S6x512x512_S1x512x512_0_0_0 (by decide) _ p1).trans <| slot_read alloca_r0 ![5, 0, 0] inb_S6x512x512_S1x512x512_5_0_0 f p
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]
    · iexists _; isplitr; · ipureintro; exact harg17.read_unread _
      iexact H12
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]
    · iexists _, _; isplitr; swap; · iexact HS8
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

end Cert.Kernel.Gen

end
-- ==== Proof.Mix.RunB.lean ====
/- The token mixing call's middle points (1 to 31): the block of the tile before, then this tile. -/
module

public import proofs.«01_k».proof.Proof.Mix.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1784000 in
/-- What the body's stores leave in each output's staging memref, as pieces (last first) IN CASE B (`scf.if` 0 not taken, `scf.if` 1 taken, `scf.if` 2 not taken: points 1, 2, … 31: 31 of 33), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (13, 14) at anything, handed back at some contents nothing names. -/
noncomputable def kernelRun0_B (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : cond0_1 i) (hc2 : ¬cond0_2 i)
    (x0 : Vec F S512x1024 .f32) (x1 : Vec F S16x1024 .f32) (x2 : Vec F S1x2048 .f32) (x3 : Vec F S1x1x4608 .f32) (x4 : Vec F S1x1024 .f32) (x5 : Vec F S1x1024 .f32) (x6 : Vec F S8x128x128 .f32) (x7 : Vec F S1x8x128 .f32) (x8 : Vec F S1x1024 .f32) (x9 : Vec F S1x1024 .f32) (x10 : Vec F S32x4096 .f32) (x11 : Vec F S128x1024 .f32) (xs0 : Vec F S1024x8704 .bf16) (xs1 : Vec F S1536x1024 .bf16) (xs2 : Vec F S1024x1024 .bf16) (xs3 : Vec F S1024x1024 .bf16) (xs4 : Vec F S8x128x128 .bf16) (xs6 : Vec F S544x1536 .f32) (xs7 : Vec F S512x1024 .f32) (fh0 : HbBuf0 (F := F) c hbM0_0) (fh1 : HbBuf0 (F := F) c hbM0_1) (fh2 : HbBuf0 (F := F) c hbM0_2) (fh3 : HbBuf0 (F := F) c hbM0_3) :
    Σ' (L12 : List (View.Piece (Elt F) S512x1024 .f32)), Σ' (LS0 : List (View.Piece (Elt F) S1024x8704 .bf16)), Σ' (LS1 : List (View.Piece (Elt F) S1536x1024 .bf16)), Σ' (LS2 : List (View.Piece (Elt F) S1024x1024 .bf16)), Σ' (LS3 : List (View.Piece (Elt F) S1024x1024 .bf16)), Σ' (LS4 : List (View.Piece (Elt F) S8x128x128 .bf16)), Σ' (LS6 : List (View.Piece (Elt F) S544x1536 .f32)), Σ' (LS7 : List (View.Piece (Elt F) S512x1024 .f32)), { LT5 : List (View.Piece (Elt F) S528x1024 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare x8 ∗ owns (c : Thread nD τ) arg14 fullShare x9 ∗ owns (c : Thread nD τ) arg15 fullShare x10 ∗ owns (c : Thread nD τ) arg16 fullShare x11 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4 ∗ (∃ d, owns (c : Thread nD τ) arg25 fullShare d) ∗ owns (c : Thread nD τ) arg26 fullShare xs6 ∗ owns (c : Thread nD τ) arg27 fullShare xs7 ∗ (∃ d, owns (c : Thread nD τ) alloca_r0 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare x8 ∗ owns (c : Thread nD τ) arg14 fullShare x9 ∗ owns (c : Thread nD τ) arg15 fullShare x10 ∗ owns (c : Thread nD τ) arg16 fullShare x11 ∗ (∃ f, arg17.view.loc (c : Thread nD τ) ↦[arg17.view.set]{fullShare} arg17.view.writes (Elt F) f L12) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4 ∗ (∃ f, arg25.view.loc (c : Thread nD τ) ↦[arg25.view.set]{fullShare} arg25.view.writes (Elt F) f LT5) ∗ (∃ f, arg26.view.loc (c : Thread nD τ) ↦[arg26.view.set]{fullShare} arg26.view.writes (Elt F) f LS6) ∗ (∃ f, arg27.view.loc (c : Thread nD τ) ↦[arg27.view.set]{fullShare} arg27.view.writes (Elt F) f LS7) ∗ (∃ d, owns (c : Thread nD τ) alloca_r0 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_token_mix i arg1 harg1 arg2 harg2 (Memref.whole main_v1) (Memref.isWhole_whole _) arg4 harg4 arg5 harg5 arg6 harg6 arg7 harg7 arg8 harg8 arg9 harg9 (Memref.whole main_v10) (Memref.isWhole_whole _) (Memref.whole main_v11) (Memref.isWhole_whole _) (Memref.whole main_v12) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 cc0_scoped1) K } := by
  refine ⟨?_, [], [], [], [], [], ?_, ?_, ?_, fun W K => ?run⟩
  case run =>
    simp only [cc0_token_mix_eq_skeleton]; unfold cc0_token_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%fs6, %hfs6, HS6⟩, ⟨%fs7, %hfs7, HS7⟩, ⟨%ds8, %fs8, -, HS8⟩, Hq0, Hq1, Hq2, Hq3, Hq4, Hq5, Hh0, Hh1, Hh2, Hh3, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf8; obtain rfl := harg14.eq_unread hf9; obtain rfl := harg15.eq_unread hf10; obtain rfl := harg16.eq_unread hf11; obtain rfl := harg20.eq_unread hfs0; obtain rfl := harg21.eq_unread hfs1; obtain rfl := harg22.eq_unread hfs2; obtain rfl := harg23.eq_unread hfs3; obtain rfl := harg24.eq_unread hfs4; obtain rfl := harg26.eq_unread hfs6; obtain rfl := harg27.eq_unread hfs7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]; · iexists _; iexact H12
    isplitl [H13]
    · iexists _, _; isplitr; swap; · iexact H13
      ipureintro; rfl
    isplitl [H14]
    · iexists _, _; isplitr; swap; · iexact H14
      ipureintro; rfl
    isplitl [HS0]
    · iexists _; isplitr; · ipureintro; exact harg20.read_unread _
      iexact HS0
    isplitl [HS1]
    · iexists _; isplitr; · ipureintro; exact harg21.read_unread _
      iexact HS1
    isplitl [HS2]
    · iexists _; isplitr; · ipureintro; exact harg22.read_unread _
      iexact HS2
    isplitl [HS3]
    · iexists _; isplitr; · ipureintro; exact harg23.read_unread _
      iexact HS3
    isplitl [HS4]
    · iexists _; isplitr; · ipureintro; exact harg24.read_unread _
      iexact HS4
    isplitl [HS5]; · iexists _; iexact HS5
    isplitl [HS6]; · iexists _; iexact HS6
    isplitl [HS7]; · iexists _; iexact HS7
    isplitl [HS8]
    · iexists _, _; isplitr; swap; · iexact HS8
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

end Cert.Kernel.Gen

end
-- ==== Proof.Mix.RunC.lean ====
/- The token mixing call's last point (32): the block of the last tile. -/
module

public import proofs.«01_k».proof.Proof.Mix.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1140000 in
/-- What the body's stores leave in each output's staging memref, as pieces (last first) IN CASE C (`scf.if` 0 not taken, `scf.if` 1 not taken, `scf.if` 2 taken: points 32), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (13, 14) at anything, handed back at some contents nothing names. -/
noncomputable def kernelRun0_C (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : ¬cond0_1 i) (hc2 : cond0_2 i)
    (x0 : Vec F S512x1024 .f32) (x1 : Vec F S16x1024 .f32) (x2 : Vec F S1x2048 .f32) (x3 : Vec F S1x1x4608 .f32) (x4 : Vec F S1x1024 .f32) (x5 : Vec F S1x1024 .f32) (x6 : Vec F S8x128x128 .f32) (x7 : Vec F S1x8x128 .f32) (x8 : Vec F S1x1024 .f32) (x9 : Vec F S1x1024 .f32) (x10 : Vec F S32x4096 .f32) (x11 : Vec F S128x1024 .f32) (xs0 : Vec F S1024x8704 .bf16) (xs1 : Vec F S1536x1024 .bf16) (xs2 : Vec F S1024x1024 .bf16) (xs3 : Vec F S1024x1024 .bf16) (xs4 : Vec F S8x128x128 .bf16) (xs6 : Vec F S544x1536 .f32) (xs7 : Vec F S512x1024 .f32) (fh0 : HbBuf0 (F := F) c hbM0_0) (fh1 : HbBuf0 (F := F) c hbM0_1) (fh2 : HbBuf0 (F := F) c hbM0_2) (fh3 : HbBuf0 (F := F) c hbM0_3) :
    Σ' (L12 : List (View.Piece (Elt F) S512x1024 .f32)), Σ' (LS0 : List (View.Piece (Elt F) S1024x8704 .bf16)), Σ' (LS1 : List (View.Piece (Elt F) S1536x1024 .bf16)), Σ' (LS2 : List (View.Piece (Elt F) S1024x1024 .bf16)), Σ' (LS3 : List (View.Piece (Elt F) S1024x1024 .bf16)), Σ' (LS4 : List (View.Piece (Elt F) S8x128x128 .bf16)), Σ' (LS6 : List (View.Piece (Elt F) S544x1536 .f32)), Σ' (LS7 : List (View.Piece (Elt F) S512x1024 .f32)), { LT5 : List (View.Piece (Elt F) S528x1024 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare x8 ∗ owns (c : Thread nD τ) arg14 fullShare x9 ∗ owns (c : Thread nD τ) arg15 fullShare x10 ∗ owns (c : Thread nD τ) arg16 fullShare x11 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4 ∗ (∃ d, owns (c : Thread nD τ) arg25 fullShare d) ∗ owns (c : Thread nD τ) arg26 fullShare xs6 ∗ owns (c : Thread nD τ) arg27 fullShare xs7 ∗ (∃ d, owns (c : Thread nD τ) alloca_r0 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare x8 ∗ owns (c : Thread nD τ) arg14 fullShare x9 ∗ owns (c : Thread nD τ) arg15 fullShare x10 ∗ owns (c : Thread nD τ) arg16 fullShare x11 ∗ (∃ f, arg17.view.loc (c : Thread nD τ) ↦[arg17.view.set]{fullShare} arg17.view.writes (Elt F) f L12) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4 ∗ (∃ d, owns (c : Thread nD τ) arg25 fullShare d) ∗ owns (c : Thread nD τ) arg26 fullShare xs6 ∗ owns (c : Thread nD τ) arg27 fullShare xs7 ∗ (∃ d, owns (c : Thread nD τ) alloca_r0 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_token_mix i arg1 harg1 arg2 harg2 (Memref.whole main_v1) (Memref.isWhole_whole _) arg4 harg4 arg5 harg5 arg6 harg6 arg7 harg7 arg8 harg8 arg9 harg9 (Memref.whole main_v10) (Memref.isWhole_whole _) (Memref.whole main_v11) (Memref.isWhole_whole _) (Memref.whole main_v12) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 cc0_scoped1) K } := by
  refine ⟨?_, [], [], [], [], [], [], [], [], fun W K => ?run⟩
  case run =>
    simp only [cc0_token_mix_eq_skeleton]; unfold cc0_token_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%fs6, %hfs6, HS6⟩, ⟨%fs7, %hfs7, HS7⟩, ⟨%ds8, %fs8, -, HS8⟩, Hq0, Hq1, Hq2, Hq3, Hq4, Hq5, Hh0, Hh1, Hh2, Hh3, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf8; obtain rfl := harg14.eq_unread hf9; obtain rfl := harg15.eq_unread hf10; obtain rfl := harg16.eq_unread hf11; obtain rfl := harg20.eq_unread hfs0; obtain rfl := harg21.eq_unread hfs1; obtain rfl := harg22.eq_unread hfs2; obtain rfl := harg23.eq_unread hfs3; obtain rfl := harg24.eq_unread hfs4; obtain rfl := harg26.eq_unread hfs6; obtain rfl := harg27.eq_unread hfs7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; · ipureintro; exact harg15.read_unread _
      iexact H10
    isplitl [H11]
    · iexists _; isplitr; · ipureintro; exact harg16.read_unread _
      iexact H11
    isplitl [H12]; · iexists _; iexact H12
    isplitl [H13]
    · iexists _, _; isplitr; swap; · iexact H13
      ipureintro; rfl
    isplitl [H14]
    · iexists _, _; isplitr; swap; · iexact H14
      ipureintro; rfl
    isplitl [HS0]
    · iexists _; isplitr; · ipureintro; exact harg20.read_unread _
      iexact HS0
    isplitl [HS1]
    · iexists _; isplitr; · ipureintro; exact harg21.read_unread _
      iexact HS1
    isplitl [HS2]
    · iexists _; isplitr; · ipureintro; exact harg22.read_unread _
      iexact HS2
    isplitl [HS3]
    · iexists _; isplitr; · ipureintro; exact harg23.read_unread _
      iexact HS3
    isplitl [HS4]
    · iexists _; isplitr; · ipureintro; exact harg24.read_unread _
      iexact HS4
    isplitl [HS5]
    · iexists _, _; isplitr; swap; · iexact HS5
      ipureintro; rfl
    isplitl [HS6]
    · iexists _; isplitr; · ipureintro; exact harg26.read_unread _
      iexact HS6
    isplitl [HS7]
    · iexists _; isplitr; · ipureintro; exact harg27.read_unread _
      iexact HS7
    isplitl [HS8]
    · iexists _, _; isplitr; swap; · iexact HS8
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

end Cert.Kernel.Gen

end
-- ==== Proof.Mix.Outs.lean ====
/- What each case of the token mixing call leaves in its output block and in the scratch it carries. -/
module

public import proofs.«01_k».proof.Proof.Mix.RunA
public import proofs.«01_k».proof.Proof.Mix.RunB
public import proofs.«01_k».proof.Proof.Mix.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section

variable (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
  (x0 : Vec F S512x1024 .f32) (x1 : Vec F S16x1024 .f32) (x2 : Vec F S1x2048 .f32) (x3 : Vec F S1x1x4608 .f32) (x4 : Vec F S1x1024 .f32) (x5 : Vec F S1x1024 .f32) (x6 : Vec F S8x128x128 .f32) (x7 : Vec F S1x8x128 .f32) (x8 : Vec F S1x1024 .f32) (x9 : Vec F S1x1024 .f32) (x10 : Vec F S32x4096 .f32) (x11 : Vec F S128x1024 .f32) (fh0 : HbBuf0 (F := F) c hbM0_0) (fh1 : HbBuf0 (F := F) c hbM0_1) (fh2 : HbBuf0 (F := F) c hbM0_2) (fh3 : HbBuf0 (F := F) c hbM0_3)

/-- Case A stores nothing into output 12 (the window is idle at its points and not written back there):
    no pieces — a placeholder (junk read back) that nothing consults, since at these points the window is neither
    written back nor read at the next point (Lib/Pipeline.lean "Idle points"). -/
def out0_A_12 : Vec F S512x1024 .f32 :=
  VO0_12.read (Elt F) (VO0_12.writes (Elt F) VO0_12.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).1)

/-- Case A's pieces for scratch `arg20`, which the kernel carries between points, cover it: 34 pieces of `S512x512` tiling it (Lib/Ring.lean `Piece.tiledL`). -/
theorem scover0_A_0 (y : S1024x8704.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.1, y ∈ pc.1.set :=
  View.cover_of_tiledL (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.1 S512x512.size (by sl_kernel_rfl) y

/-- What case A leaves in scratch `arg20`: its pieces read back over junk. -/
def sout0_A_0 : Vec F S1024x8704 .bf16 :=
  VS0_0.read (Elt F) (VS0_0.writes (Elt F) VS0_0.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.1)

/-- Case A's pieces for scratch `arg21`, which the kernel carries between points, cover it: 6 pieces of `S512x512` tiling it (Lib/Ring.lean `Piece.tiledL`). -/
theorem scover0_A_1 (y : S1536x1024.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.1, y ∈ pc.1.set :=
  View.cover_of_tiledL (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.1 S512x512.size (by sl_kernel_rfl) y

/-- What case A leaves in scratch `arg21`: its pieces read back over junk. -/
def sout0_A_1 : Vec F S1536x1024 .bf16 :=
  VS0_1.read (Elt F) (VS0_1.writes (Elt F) VS0_1.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.1)

/-- Case A's pieces for scratch `arg22`, which the kernel carries between points, cover it: 4 pieces of `S512x512` tiling it (Lib/Ring.lean `Piece.tiledL`). -/
theorem scover0_A_2 (y : S1024x1024.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.1, y ∈ pc.1.set :=
  View.cover_of_tiledL (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.1 S512x512.size (by sl_kernel_rfl) y

/-- What case A leaves in scratch `arg22`: its pieces read back over junk. -/
def sout0_A_2 : Vec F S1024x1024 .bf16 :=
  VS0_2.read (Elt F) (VS0_2.writes (Elt F) VS0_2.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.1)

/-- Case A's pieces for scratch `arg23`, which the kernel carries between points, cover it: 4 pieces of `S512x512` tiling it (Lib/Ring.lean `Piece.tiledL`). -/
theorem scover0_A_3 (y : S1024x1024.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.1, y ∈ pc.1.set :=
  View.cover_of_tiledL (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.1 S512x512.size (by sl_kernel_rfl) y

/-- What case A leaves in scratch `arg23`: its pieces read back over junk. -/
def sout0_A_3 : Vec F S1024x1024 .bf16 :=
  VS0_3.read (Elt F) (VS0_3.writes (Elt F) VS0_3.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.1)

/-- Case A's pieces for scratch `arg24`, which the kernel carries between points, cover it: 1 piece of `S8x128x128` tiling it (Lib/Ring.lean `Piece.tiledL`). -/
theorem scover0_A_4 (y : S8x128x128.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.1, y ∈ pc.1.set :=
  View.cover_of_tiledL (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.1 S8x128x128.size (by sl_kernel_rfl) y

/-- What case A leaves in scratch `arg24`: its pieces read back over junk. -/
def sout0_A_4 : Vec F S8x128x128 .bf16 :=
  VS0_4.read (Elt F) (VS0_4.writes (Elt F) VS0_4.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.1)

/-- Case A's pieces for scratch `arg26`, which the kernel carries between points, cover it: 5 pieces (stores and landed copies) of several sizes (`S16x1536`, `S528x512`) tiling it when cut into blocks of `![16, 512]` (Lib/Ring.lean `Piece.tiledBy`). -/
theorem scover0_A_6 (y : S544x1536.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.2.1, y ∈ pc.1.set :=
  View.cover_of_tiledBy (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.2.1 ![16, 512] (by sl_kernel_rfl) y

/-- What case A leaves in scratch `arg26`: its pieces read back over junk. -/
def sout0_A_6 : Vec F S544x1536 .f32 :=
  VS0_6.read (Elt F) (VS0_6.writes (Elt F) VS0_6.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.2.1)

/-- Case A's pieces for scratch `arg27`, which the kernel carries between points, cover it: 1 piece of `S512x1024` tiling it (Lib/Ring.lean `Piece.tiledL`). -/
theorem scover0_A_7 (y : S512x1024.Idx) :
    ∃ pc ∈ (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.2.2.1, y ∈ pc.1.set :=
  View.cover_of_tiledL (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.2.2.1 S512x1024.size (by sl_kernel_rfl) y

/-- What case A leaves in scratch `arg27`: its pieces read back over junk. -/
def sout0_A_7 : Vec F S512x1024 .f32 :=
  VS0_7.read (Elt F) (VS0_7.writes (Elt F) VS0_7.junk (kernelRun0_A c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3).2.2.2.2.2.2.2.1)

end

section

variable (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : cond0_1 i) (hc2 : ¬cond0_2 i)
  (x0 : Vec F S512x1024 .f32) (x1 : Vec F S16x1024 .f32) (x2 : Vec F S1x2048 .f32) (x3 : Vec F S1x1x4608 .f32) (x4 : Vec F S1x1024 .f32) (x5 : Vec F S1x1024 .f32) (x6 : Vec F S8x128x128 .f32) (x7 : Vec F S1x8x128 .f32) (x8 : Vec F S1x1024 .f32) (x9 : Vec F S1x1024 .f32) (x10 : Vec F S32x4096 .f32) (x11 : Vec F S128x1024 .f32) (xs0 : Vec F S1024x8704 .bf16) (xs1 : Vec F S1536x1024 .bf16) (xs2 : Vec F S1024x1024 .bf16) (xs3 : Vec F S1024x1024 .bf16) (xs4 : Vec F S8x128x128 .bf16) (xs6 : Vec F S544x1536 .f32) (xs7 : Vec F S512x1024 .f32) (fh0 : HbBuf0 (F := F) c hbM0_0) (fh1 : HbBuf0 (F := F) c hbM0_1) (fh2 : HbBuf0 (F := F) c hbM0_2) (fh3 : HbBuf0 (F := F) c hbM0_3)

/-- Case B's pieces for output 12 tile its block (32 stores of `S16x1024`, checked by the kernel's evaluation: Lib/Ring.lean `Piece.tiledL`, linear in the pieces, through a loop's `@[irreducible]` trip theorem too), so they cover it. -/
theorem cover0_B_12 (y : S512x1024.Idx) :
    ∃ pc ∈ (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).1, y ∈ pc.1.set :=
  View.cover_of_tiledL (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).1 S16x1024.size (by sl_kernel_rfl) y

/-- What case B leaves in output 12's staging buffer: its pieces read back over junk. -/
def out0_B_12 : Vec F S512x1024 .f32 :=
  VO0_12.read (Elt F) (VO0_12.writes (Elt F) VO0_12.junk (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).1)

/-- Case B's pieces for scratch `arg26`, which the kernel carries between points, cover it: 4 pieces (stores and landed copies) of several sizes (`S16x1536`, `S528x512`) tiling it when cut into blocks of `![16, 512]` (Lib/Ring.lean `Piece.tiledBy`). -/
theorem scover0_B_6 (y : S544x1536.Idx) :
    ∃ pc ∈ (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).2.2.2.2.2.2.1, y ∈ pc.1.set :=
  View.cover_of_tiledBy (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).2.2.2.2.2.2.1 ![16, 512] (by sl_kernel_rfl) y

/-- What case B leaves in scratch `arg26`: its pieces read back over junk. -/
def sout0_B_6 : Vec F S544x1536 .f32 :=
  VS0_6.read (Elt F) (VS0_6.writes (Elt F) VS0_6.junk (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).2.2.2.2.2.2.1)

/-- Case B's pieces for scratch `arg27`, which the kernel carries between points, cover it: 1 piece of `S512x1024` tiling it (Lib/Ring.lean `Piece.tiledL`). -/
theorem scover0_B_7 (y : S512x1024.Idx) :
    ∃ pc ∈ (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).2.2.2.2.2.2.2.1, y ∈ pc.1.set :=
  View.cover_of_tiledL (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).2.2.2.2.2.2.2.1 S512x1024.size (by sl_kernel_rfl) y

/-- What case B leaves in scratch `arg27`: its pieces read back over junk. -/
def sout0_B_7 : Vec F S512x1024 .f32 :=
  VS0_7.read (Elt F) (VS0_7.writes (Elt F) VS0_7.junk (kernelRun0_B c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).2.2.2.2.2.2.2.1)

end

section

variable (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : ¬cond0_1 i) (hc2 : cond0_2 i)
  (x0 : Vec F S512x1024 .f32) (x1 : Vec F S16x1024 .f32) (x2 : Vec F S1x2048 .f32) (x3 : Vec F S1x1x4608 .f32) (x4 : Vec F S1x1024 .f32) (x5 : Vec F S1x1024 .f32) (x6 : Vec F S8x128x128 .f32) (x7 : Vec F S1x8x128 .f32) (x8 : Vec F S1x1024 .f32) (x9 : Vec F S1x1024 .f32) (x10 : Vec F S32x4096 .f32) (x11 : Vec F S128x1024 .f32) (xs0 : Vec F S1024x8704 .bf16) (xs1 : Vec F S1536x1024 .bf16) (xs2 : Vec F S1024x1024 .bf16) (xs3 : Vec F S1024x1024 .bf16) (xs4 : Vec F S8x128x128 .bf16) (xs6 : Vec F S544x1536 .f32) (xs7 : Vec F S512x1024 .f32) (fh0 : HbBuf0 (F := F) c hbM0_0) (fh1 : HbBuf0 (F := F) c hbM0_1) (fh2 : HbBuf0 (F := F) c hbM0_2) (fh3 : HbBuf0 (F := F) c hbM0_3)

/-- Case C's pieces for output 12 tile its block (32 stores of `S16x1024`, checked by the kernel's evaluation: Lib/Ring.lean `Piece.tiledL`, linear in the pieces, through a loop's `@[irreducible]` trip theorem too), so they cover it. -/
theorem cover0_C_12 (y : S512x1024.Idx) :
    ∃ pc ∈ (kernelRun0_C c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).1, y ∈ pc.1.set :=
  View.cover_of_tiledL (kernelRun0_C c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).1 S16x1024.size (by sl_kernel_rfl) y

/-- What case C leaves in output 12's staging buffer: its pieces read back over junk. -/
def out0_C_12 : Vec F S512x1024 .f32 :=
  VO0_12.read (Elt F) (VO0_12.writes (Elt F) VO0_12.junk (kernelRun0_C c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3).1)

end

end Cert.Kernel.Gen

end
-- ==== Proof.Mix.Frame.lean ====
/- The frame of the token mixing call: what its output block and its scratch hold after every point, the body's
   obligation in its three cases, the launch, and the run. -/
module

public import proofs.«01_k».proof.Proof.Mix.Outs
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## What the outputs hold after each point -/

set_option maxHeartbeats 4000000 in
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S1024x8704 .bf16 × Vec F S1536x1024 .bf16 × Vec F S1024x1024 .bf16 × Vec F S1024x1024 .bf16 × Vec F S8x128x128 .bf16 × Vec F S544x1536 .f32 × Vec F S512x1024 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12), sout0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (V m c main_v1) (V m c main_v10) (V m c main_v11) (V m c main_v12))
  | n + 1, hn =>
    if h0 : (n + 1) % 33 = 0 then
      if h1 : (1 ≤ (n + 1) % 33 ∧ (n + 1) % 33 ≤ 31) then
        False.elim (by have hN : n + 1 < 33 := lt_of_lt_of_eq hn (show cfg0.N = 33 from N_0); omega)
      else
        if h2 : (n + 1) % 33 = 32 then
          False.elim (by have hN : n + 1 < 33 := lt_of_lt_of_eq hn (show cfg0.N = 33 from N_0); omega)
        else
          (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12), sout0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (V m c main_v1) (V m c main_v10) (V m c main_v11) (V m c main_v12))
    else
      if h1 : (1 ≤ (n + 1) % 33 ∧ (n + 1) % 33 ≤ 31) then
        if h2 : (n + 1) % 33 = 32 then
          False.elim (by have hN : n + 1 < 33 := lt_of_lt_of_eq hn (show cfg0.N = 33 from N_0); omega)
        else
          (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v1) (V m c main_v10) (V m c main_v11) (V m c main_v12), (outsAt0 c n (Nat.lt_of_succ_lt hn)).2.1, (outsAt0 c n (Nat.lt_of_succ_lt hn)).2.2.1, (outsAt0 c n (Nat.lt_of_succ_lt hn)).2.2.2.1, (outsAt0 c n (Nat.lt_of_succ_lt hn)).2.2.2.2.1, (outsAt0 c n (Nat.lt_of_succ_lt hn)).2.2.2.2.2.1, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v1) (V m c main_v10) (V m c main_v11) (V m c main_v12), sout0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v1) (V m c main_v10) (V m c main_v11) (V m c main_v12))
      else
        if h2 : (n + 1) % 33 = 32 then
          (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v1) (V m c main_v10) (V m c main_v11) (V m c main_v12), (outsAt0 c n (Nat.lt_of_succ_lt hn)).2.1, (outsAt0 c n (Nat.lt_of_succ_lt hn)).2.2.1, (outsAt0 c n (Nat.lt_of_succ_lt hn)).2.2.2.1, (outsAt0 c n (Nat.lt_of_succ_lt hn)).2.2.2.2.1, (outsAt0 c n (Nat.lt_of_succ_lt hn)).2.2.2.2.2.1, (outsAt0 c n (Nat.lt_of_succ_lt hn)).2.2.2.2.2.2.1, (outsAt0 c n (Nat.lt_of_succ_lt hn)).2.2.2.2.2.2.2)
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 33 = 0) (h1 : ¬(1 ≤ t.val % 33 ∧ t.val % 33 ≤ 31)) (h2 : ¬t.val % 33 = 32) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12), sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12)) := by
  obtain ⟨n, hn⟩ := t
  cases n with
  | zero => exact rfl
  | succ n => exact absurd h0 (by have hN : n + 1 < 33 := lt_of_lt_of_eq hn (show cfg0.N = 33 from N_0); dsimp only; omega)

/-- `outsAt0` at a point of case B: that case's contents, over what the point before left. -/
theorem outsAt0_B (c : Dev nD) (t : Fin cfg0.N) (h0 : ¬t.val % 33 = 0) (h1 : (1 ≤ t.val % 33 ∧ t.val % 33 ≤ 31)) (h2 : ¬t.val % 33 = 32) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v1) (V m c main_v10) (V m c main_v11) (V m c main_v12), (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, (outsAt0 m c (t.val - 1) (Nat.lt_of_le_of_lt (Nat.sub_le _ _) t.isLt)).2.2.2.2.1, (outsAt0 m c (t.val - 1) (Nat.lt_of_le_of_lt (Nat.sub_le _ _) t.isLt)).2.2.2.2.2.1, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v1) (V m c main_v10) (V m c main_v11) (V m c main_v12), sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v1) (V m c main_v10) (V m c main_v11) (V m c main_v12)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 33 = 0) (h1 : ¬(1 ≤ t.val % 33 ∧ t.val % 33 ≤ 31)) (h2 : t.val % 33 = 32) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v1) (V m c main_v10) (V m c main_v11) (V m c main_v12), (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2.1, (outsAt0 m c (t.val - 1) (Nat.lt_of_le_of_lt (Nat.sub_le _ _) t.isLt)).2.2.2.2.1, (outsAt0 m c (t.val - 1) (Nat.lt_of_le_of_lt (Nat.sub_le _ _) t.isLt)).2.2.2.2.2.1, (outsAt0 m c (t.val - 1) (Nat.lt_of_le_of_lt (Nat.sub_le _ _) t.isLt)).2.2.2.2.2.2.1, (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ (∃ d, owns (c : Thread nD τ) scM0_5 fullShare d) ∗ owns (c : Thread nD τ) scM0_6 fullShare ((outsAt0 m c n hn).2.2.2.2.2.2.1) ∗ owns (c : Thread nD τ) scM0_7 fullShare ((outsAt0 m c n hn).2.2.2.2.2.2.2) ∗ (∃ d, owns (c : Thread nD τ) scM0_8 fullShare d)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v1) ∗ hbPt0 c hbM0_1 (V m c main_v10) ∗ hbPt0 c hbM0_2 (V m c main_v11) ∗ hbPt0 c hbM0_3 (V m c main_v12)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2.1) ∗ (∃ d, owns (c : Thread nD τ) scM0_5 fullShare d) ∗ owns (c : Thread nD τ) scM0_6 fullShare ((outsAt0 m c n hn).2.2.2.2.2.2.1) ∗ owns (c : Thread nD τ) scM0_7 fullShare ((outsAt0 m c n hn).2.2.2.2.2.2.2) ∗ (∃ d, owns (c : Thread nD τ) scM0_8 fullShare d)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v1) ∗ hbPt0 c hbM0_1 (V m c main_v10) ∗ hbPt0 c hbM0_2 (V m c main_v11) ∗ hbPt0 c hbM0_3 (V m c main_v12))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2.1) ∗ (∃ d, owns (c : Thread nD τ) scM0_5 fullShare d) ∗ owns (c : Thread nD τ) scM0_6 fullShare ((outsAt0 m c (n - 1) (by omega)).2.2.2.2.2.2.1) ∗ owns (c : Thread nD τ) scM0_7 fullShare ((outsAt0 m c (n - 1) (by omega)).2.2.2.2.2.2.2) ∗ (∃ d, owns (c : Thread nD τ) scM0_8 fullShare d)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_v1) ∗ hbPt0 c hbM0_1 (V m c main_v10) ∗ hbPt0 c hbM0_2 (V m c main_v11) ∗ hbPt0 c hbM0_3 (V m c main_v12))) := by
  cases n with
  | zero => exact absurd rfl hz
  | succ n => rfl

/-! ## The pipeline's proof data -/

/-- The output windows this certificate FORGETS (13, 14): nothing reads what the kernel leaves in them, so nothing
    of it is named (Lib/Pipeline/Dat.lean `Dat.toRForget`). -/
def forgets0 : Fin 15 → Bool := fun w => w.val == 13 || w.val == 14
theorem forgets0_12 : forgets0 (12 : Fin 15) = false := by decide

/-- The proof data of the one pipeline on core `c`: the arrays as the region finds them (`V`); after the body at
    point `t` each input's buffer at its block and the NAMED outputs' at `outsAt0` (the forgotten at `Dat.unnamed`); the invariant
    (Lib/Pipeline/Frame.lean `ΦD`: the scoped rest, the generator register, the own cells at zero, the HBM operands at
    their launch contents); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (∃ d, owns (c : Thread nD τ) (ms0_14 t) fullShare d))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : (1 ≤ t.val % 33 ∧ t.val % 33 ≤ 31)
    · exfalso; omega
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [Dat.leavesExact_idle (dats m 0 c) 12 t (idleAt0_12_A t ((hcond0_0 t).mpr h0) (fun h => h1 ((hcond0_1 t).mp h)) (fun h => h2 ((hcond0_2 t).mp h))) (noFlush0_12_A t ((hcond0_0 t).mpr h0) (fun h => h1 ((hcond0_1 t).mp h)) (fun h => h2 ((hcond0_2 t).mp h)))]
        by_cases hz : t.val = 0
        · rw [PhiS_castSucc m c t, PhiS_zero m c _ _ hz, PhiD0_eq]
          rw [outsAt0_A m c t h0 h1 h2]
          unfold sout0_A_0 sout0_A_1 sout0_A_2 sout0_A_3 sout0_A_4 sout0_A_6 sout0_A_7; (try dsimp only)
          iintro ⟨⟨⟨HS0, HS1, HS2, HS3, HS4, HS5, HS6, HS7, HS8⟩, Hg, ⟨Hq0, Hq1, Hq2, Hq3, Hq4, Hq5⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v1) (V m c main_v10) (V m c main_v11) (V m c main_v12)).2.2.2.2.2.2.2.2.2 _ W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hh0]; · iexact Hh0
          isplitl [Hh1]; · iexact Hh1
          isplitl [Hh2]; · iexact Hh2
          isplitl [Hh3]; · iexact Hh3
          isplitl [HW]; · iexact HW
          iintro ⟨H0, H1, H2, H3, H4, H5, H6, H7, H8, H9, H10, H11, H12, H13, H14, ⟨%es0, HS0⟩, ⟨%es1, HS1⟩, ⟨%es2, HS2⟩, ⟨%es3, HS3⟩, ⟨%es4, HS4⟩, ⟨%fT5, HS5⟩, ⟨%es6, HS6⟩, ⟨%es7, HS7⟩, HS8, Hq0, Hq1, Hq2, Hq3, Hq4, Hq5, Hh0, Hh1, Hh2, Hh3, ⟨%W', HW'⟩⟩
          isplitl [HS0 HS1 HS2 HS3 HS4 HS5 HS6 HS7 HS8 Hg Hq0 Hq1 Hq2 Hq3 Hq4 Hq5 Hh0 Hh1 Hh2 Hh3]
          · isplitl [HS0 HS1 HS2 HS3 HS4 HS5 HS6 HS7 HS8]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS4]
              · unfold owns; iexists _; isplitr
                swap; · iexact HS4
                ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS5]
              · iexists _; unfold owns; iexists _; isplitr
                swap; · iexact HS5
                ipureintro; rfl
              isplitl [HS6]
              · unfold owns; iexists _; isplitr
                swap; · iexact HS6
                ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS7]
              · unfold owns; iexists _; isplitr
                swap; · iexact HS7
                ipureintro; exact View.read_writes_of_cover _ _ _ _ _ (scover0_A_7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact HS8
            isplitl [Hg]
            · iexact Hg
            isplitl [Hq0 Hq1 Hq2 Hq3 Hq4 Hq5]
            · isplitl [Hq0]; · iexact Hq0
              isplitl [Hq1]; · iexact Hq1
              isplitl [Hq2]; · iexact Hq2
              isplitl [Hq3]; · iexact Hq3
              isplitl [Hq4]; · iexact Hq4
              iexact Hq5
            isplitl [Hh0]; · iexact Hh0
            isplitl [Hh1]; · iexact Hh1
            isplitl [Hh2]; · iexact Hh2
            iexact Hh3
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          iexact H14
        · exfalso; have hN : t.val < 33 := lt_of_lt_of_eq t.isLt (show cfg0.N = 33 from N_0); omega
  · by_cases h1 : (1 ≤ t.val % 33 ∧ t.val % 33 ≤ 31)
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          unfold out0_B_12 sout0_B_6 sout0_B_7; (try dsimp only)
          iintro ⟨⟨⟨HS0, HS1, HS2, HS3, HS4, HS5, HS6, HS7, HS8⟩, Hg, ⟨Hq0, Hq1, Hq2, Hq3, Hq4, Hq5⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _ (V m c main_v1) (V m c main_v10) (V m c main_v11) (V m c main_v12)).2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hh0]; · iexact Hh0
          isplitl [Hh1]; · iexact Hh1
          isplitl [Hh2]; · iexact Hh2
          isplitl [Hh3]; · iexact Hh3
          isplitl [HW]; · iexact HW
          iintro ⟨H0, H1, H2, H3, H4, H5, H6, H7, H8, H9, H10, H11, ⟨%e12, H12⟩, H13, H14, HS0, HS1, HS2, HS3, HS4, ⟨%fT5, HS5⟩, ⟨%es6, HS6⟩, ⟨%es7, HS7⟩, HS8, Hq0, Hq1, Hq2, Hq3, Hq4, Hq5, Hh0, Hh1, Hh2, Hh3, ⟨%W', HW'⟩⟩
          isplitl [HS0 HS1 HS2 HS3 HS4 HS5 HS6 HS7 HS8 Hg Hq0 Hq1 Hq2 Hq3 Hq4 Hq5 Hh0 Hh1 Hh2 Hh3]
          · isplitl [HS0 HS1 HS2 HS3 HS4 HS5 HS6 HS7 HS8]
            · isplitl [HS0]; · iexact HS0
              isplitl [HS1]; · iexact HS1
              isplitl [HS2]; · iexact HS2
              isplitl [HS3]; · iexact HS3
              isplitl [HS4]; · iexact HS4
              isplitl [HS5]
              · iexists _; unfold owns; iexists _; isplitr
                swap; · iexact HS5
                ipureintro; rfl
              isplitl [HS6]
              · unfold owns; iexists _; isplitr
                swap; · iexact HS6
                ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS7]
              · unfold owns; iexists _; isplitr
                swap; · iexact HS7
                ipureintro; exact View.read_writes_of_cover _ _ _ _ _ (scover0_B_7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact HS8
            isplitl [Hg]
            · iexact Hg
            isplitl [Hq0 Hq1 Hq2 Hq3 Hq4 Hq5]
            · isplitl [Hq0]; · iexact Hq0
              isplitl [Hq1]; · iexact Hq1
              isplitl [Hq2]; · iexact Hq2
              isplitl [Hq3]; · iexact Hq3
              isplitl [Hq4]; · iexact Hq4
              iexact Hq5
            isplitl [Hh0]; · iexact Hh0
            isplitl [Hh1]; · iexact Hh1
            isplitl [Hh2]; · iexact Hh2
            iexact Hh3
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]; · iexact H13
          iexact H14
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2)], after0_12]
        by_cases hz : t.val = 0
        · exfalso; have hN : t.val < 33 := lt_of_lt_of_eq t.isLt (show cfg0.N = 33 from N_0); omega
        · rw [PhiS_castSucc m c t, PhiS_pos m c _ _ hz]
          rw [outsAt0_C m c t h0 h1 h2]
          unfold out0_C_12; (try dsimp only)
          iintro ⟨⟨⟨HS0, HS1, HS2, HS3, HS4, HS5, HS6, HS7, HS8⟩, Hg, ⟨Hq0, Hq1, Hq2, Hq3, Hq4, Hq5⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _ (V m c main_v1) (V m c main_v10) (V m c main_v11) (V m c main_v12)).2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hh0]; · iexact Hh0
          isplitl [Hh1]; · iexact Hh1
          isplitl [Hh2]; · iexact Hh2
          isplitl [Hh3]; · iexact Hh3
          isplitl [HW]; · iexact HW
          iintro ⟨H0, H1, H2, H3, H4, H5, H6, H7, H8, H9, H10, H11, ⟨%e12, H12⟩, H13, H14, HS0, HS1, HS2, HS3, HS4, HS5, HS6, HS7, HS8, Hq0, Hq1, Hq2, Hq3, Hq4, Hq5, Hh0, Hh1, Hh2, Hh3, ⟨%W', HW'⟩⟩
          isplitl [HS0 HS1 HS2 HS3 HS4 HS5 HS6 HS7 HS8 Hg Hq0 Hq1 Hq2 Hq3 Hq4 Hq5 Hh0 Hh1 Hh2 Hh3]
          · isplitl [HS0 HS1 HS2 HS3 HS4 HS5 HS6 HS7 HS8]
            · isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              iexact HS8
            isplitl [Hg]
            · iexact Hg
            isplitl [Hq0 Hq1 Hq2 Hq3 Hq4 Hq5]
            · isplitl [Hq0]; · iexact Hq0
              isplitl [Hq1]; · iexact Hq1
              isplitl [Hq2]; · iexact Hq2
              isplitl [Hq3]; · iexact Hq3
              isplitl [Hq4]; · iexact Hq4
              iexact Hq5
            isplitl [Hh0]; · iexact Hh0
            isplitl [Hh1]; · iexact Hh1
            isplitl [Hh2]; · iexact Hh2
            iexact Hh3
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]; · iexact H13
          iexact H14
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7, HS8⟩, Hg, ⟨Hq0, Hq1, Hq2, Hq3, Hq4, Hq5⟩, ⟨Hh0, Hh1, Hh2, Hh3⟩⟩
  isplitl [HS0 HS1 HS2 HS3 HS4 HS5 HS6 HS7 HS8]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexact HS5
    isplitl [HS6]
    · iexists _; iexact HS6
    isplitl [HS7]
    · iexists _; iexact HS7
    iexact HS8
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  isplitl [Hh2]; · iexact Hh2
  iexact Hh3

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget_shared (Q' := _) cfgs (dats m) (0 : Fin 1) launch₀0 osem0 defs₀ Variants.none forgets0 ownSemFacts0 H0 H0_sub m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel.Gen

end
-- ==== Proof.Mix.Claims.lean ====
/- The claims about the token mixing call. -/
module

public import proofs.«01_k».proof.Defs
public import proofs.«01_k».proof.Proof.Mix.Frame
public import proofs.«01_k».proof.Proof.Gen.KernelIdeal
public import proofs.«01_k».proof.Proof.Gen.ReferenceIdeal
public import proofs.«01_k».proof.Proof.Gen.ReferenceIdeal.Run
public import Idealize.ShloMosaic.Lib.Tactic
public import Idealize.ShloMosaic.Lib.Quiescent

@[expose] public section

set_option maxRecDepth 16384

noncomputable section

namespace Cert.Mix

open Idealize.ShloMosaic Idealize.ShloMosaic.TcCoe Idealize.SL.Sem

theorem frame : Cert.quiescent_Kernel (hKernel := Cert.Kernel.Gen.facts) := fun m g _ => Cert.Kernel.Gen.frame m g

/-- The two prints of the call are one program. -/
theorem main_same : Cert.KernelIdeal.main (F := Ideal) = Cert.Kernel.main (F := Ideal) := by sl_kernel_rfl

theorem defs_same : Cert.KernelIdeal.defs (F := Ideal) = Cert.Kernel.defs (F := Ideal) := by sl_kernel_rfl

theorem frame_ideal : Cert.quiescent_KernelIdeal (hKernelIdeal := Cert.KernelIdeal.Gen.facts) := fun m g _ => by
  have h := Cert.Kernel.Gen.frame (F := Ideal) m g
  rw [main_same, defs_same]
  exact h

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Mix
-- ==== Proof.Mix.Tile.lean ====
/- One tile of the token mixing: its arrays, entry by entry. -/
module

public import proofs.«01_k».proof.Proof.Gen.Kernel.Skeleton
public import proofs.«01_k».proof.Proof.Gen.Kernel.Launch
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem

/-- The mean of a row of 1024 values, as the programs take it. -/
def meanF (a : Fin 1024 → EReal) : EReal := Ideal.div (∑ k : Fin 1024, a k) (Ideal.ofBits .f32 0x44800000#32)
/-- One entry of the layer norm of a row with the small number `e`: centre, scale by the reciprocal root of the variance plus `e`, gain, offset. -/
def lnE (e : EReal) (a g b : Fin 1024 → EReal) (l : Fin 1024) : EReal :=
  (a l - meanF a) * Ideal.rsqrt (meanF (fun k => (a k - meanF a) * (a k - meanF a)) + e) * g l + b l
/-- A row times a column. -/
def dotF (x w : Fin 1024 → EReal) : EReal := ∑ k : Fin 1024, x k * w k
/-- Twice gelu in its tanh form, as the kernel spells it. -/
def g2F (z : EReal) : EReal := z + z * Ideal.tanh (z * (Ideal.ofBits .f32 0x3F4C422A#32 + Ideal.ofBits .f32 0x3D122279#32 * (z * z)))

/-- Selecting on a comparison that fails puts the same rows back: the spliced block is the block itself. -/
theorem tieM (a : BitVec 32) (ha : Scalar.cmpi .slt a 0#32 = 0#1) (s : FVec Ideal S16x128 .bf16) (v : FVec Ideal S512x1024 .bf16) :
    concatenate S512x1024 0 [⟨S16x1024, concatenate S16x1024 1 [⟨S16x128, Scalar.select (Scalar.cmpi .slt a 0#32) s (extractStridedSlice S16x128 ![0, 0] v slices_S512x1024_o0_0_S16x128)⟩, ⟨S16x896, extractStridedSlice S16x896 ![0, 128] v slices_S512x1024_o0_128_S16x896⟩] concatenates_S16x128_S16x896_S16x1024_d1⟩, ⟨S496x1024, extractStridedSlice S496x1024 ![16, 0] v slices_S512x1024_o16_0_S496x1024⟩] concatenates_S16x1024_S496x1024_S512x1024_d0 = v := by
  rw [ha]
  funext j
  idx_vars j
  pointwise
  split
  · split
    · rfl
    · exact congrArg v (by idx_ext <;> omega)
  · exact congrArg v (by idx_ext <;> omega)

/-- The same for the rows of the tile with those that follow it. -/
theorem tieE (a : BitVec 32) (ha : Scalar.cmpi .slt a 0#32 = 0#1) (s : FVec Ideal S16x128 .bf16) (v : FVec Ideal S528x1024 .bf16) :
    concatenate S528x1024 0 [⟨S16x1024, concatenate S16x1024 1 [⟨S16x128, Scalar.select (Scalar.cmpi .slt a 0#32) s (extractStridedSlice S16x128 ![0, 0] v slices_S528x1024_o0_0_S16x128)⟩, ⟨S16x896, extractStridedSlice S16x896 ![0, 128] v slices_S528x1024_o0_128_S16x896⟩] concatenates_S16x128_S16x896_S16x1024_d1⟩, ⟨S512x1024, extractStridedSlice S512x1024 ![16, 0] v slices_S528x1024_o16_0_S512x1024⟩] concatenates_S16x1024_S512x1024_S528x1024_d0 = v := by
  rw [ha]
  funext j
  idx_vars j
  pointwise
  split
  · split
    · rfl
    · exact congrArg v (by idx_ext <;> omega)
  · exact congrArg v (by idx_ext <;> omega)

/-- A projection of the rows of the tile and of those that follow. -/
theorem proj_at (X : FVec Ideal S528x1024 .bf16) (w : FVec Ideal S1024x512 .bf16) (a : Fin 528) (b : Fin 512) :
    k0_pay255 (F := Ideal) X w (ix2 a b) = dotF (fun k => X (ix2 a k)) (fun k => w (ix2 k b)) := by
  pointwise [k0_pay255]
  rfl

/-- The value branch's gelu of a projection. -/
theorem gelu_at (X : FVec Ideal S512x1024 .bf16) (w : FVec Ideal S1024x256 .bf16) (a : Fin 512) (b : Fin 256) :
    k0_pay256 (F := Ideal) X w (ix2 a b) = g2F (dotF (fun k => X (ix2 a k)) (fun k => w (ix2 k b))) := by
  pointwise [k0_pay256]
  rfl

/-- The gate branch's gelu of a projection. -/
theorem gelu_u_at (X : FVec Ideal S512x1024 .bf16) (w : FVec Ideal S1024x1024 .bf16) (a : Fin 512) (b : Fin 1024) :
    k0_pay287 (F := Ideal) X w (ix2 a b) = g2F (dotF (fun k => X (ix2 a k)) (fun k => w (ix2 k b))) := by
  pointwise [k0_pay287]
  rfl

/-- The four parts of the value branch beside each other. -/
def catV (p0 p1 p2 p3 : FVec Ideal S512x256 .f32) : FVec Ideal S512x1024 .f32 :=
  concatenate S512x1024 1 [⟨S512x256, p0⟩, ⟨S512x256, p1⟩, ⟨S512x256, p2⟩, ⟨S512x256, p3⟩] concatenates_S512x256_S512x256_S512x256_S512x256_S512x1024_d1

/-- The layer norm of the value branch. -/
theorem norm_v_at (G B : FVec Ideal S1x1024 .f32) (p0 p1 p2 p3 : FVec Ideal S512x256 .f32) (a : Fin 512) (b : Fin 1024) :
    k0_pay282 (F := Ideal) (k0_pay278 G) (k0_pay279 B) (k0_pay280 p0 p1 p2 p3) (k0_pay281 p0 p1 p2 p3) (ix2 a b)
      = lnE (Ideal.ofBits .f32 0x3827C5AC#32) (fun k => catV p0 p1 p2 p3 (ix2 a k)) (fun k => G (ix2 0 k)) (fun k => B (ix2 0 k)) b := by
  simp only [k0_pay281, k0_pay280]
  rw [← catV]
  generalize catV p0 p1 p2 p3 = V
  pointwise [k0_pay282, k0_pay278, k0_pay279]
  rfl

/-- The halved gate offsets and the second gate, doubled. -/
theorem gate_b_at (X : FVec Ideal S512x1024 .bf16) (b2 : FVec Ideal S1x2048 .f32) (w : FVec Ideal S1024x1024 .bf16) (a : Fin 512) (b : Fin 1024) :
    k0_pay303 (F := Ideal) (k0_pay302 X b2 w) (ix2 a b)
      = Ideal.ofBits .f32 0x3F800000#32 + Ideal.tanh (dotF (fun k => X (ix2 a k)) (fun k => w (ix2 k b)) + Ideal.ofBits .f32 0x3F000000#32 * b2 (ix2 0 ⟨1024 + b, by omega⟩)) := by
  pointwise [k0_pay303, k0_pay302, k0_pay301]
  rfl

theorem gate_a_at (b2 : FVec Ideal S1x2048 .f32) (b : Fin 1024) :
    k0_pay306 (F := Ideal) (k0_pay301 b2) (ix2 0 b) = Ideal.ofBits .f32 0x3F000000#32 * b2 (ix2 0 ⟨b, by omega⟩) := by
  pointwise [k0_pay306, k0_pay301]

theorem dot_at (X : FVec Ideal S512x1024 .bf16) (w : FVec Ideal S1024x1024 .bf16) (a : Fin 512) (b : Fin 1024) :
    k0_pay305 (F := Ideal) X w (ix2 a b) = dotF (fun k => X (ix2 a k)) (fun k => w (ix2 k b)) := by
  pointwise [k0_pay305]
  rfl

/-- Mixer B's branch projection of the gated rows. -/
theorem y_b_at (U M : FVec Ideal S512x1024 .f32) (w : FVec Ideal S1024x1024 .bf16) (a : Fin 512) (b : Fin 1024) :
    k0_pay304 (F := Ideal) U M w (ix2 a b) = dotF (fun k => U (ix2 a k) * M (ix2 a k)) (fun k => w (ix2 k b)) := by
  pointwise [k0_pay304]
  rfl

/-- The carried rows from the branches. -/
theorem carry_at (X : FVec Ideal S512x1024 .f32) (A : FVec Ideal S512x1536 .bf16) (gb yb za : FVec Ideal S512x1024 .f32) (ba : FVec Ideal S1x1024 .f32)
    (wpa : FVec Ideal S1536x1024 .bf16) (wo : FVec Ideal S1024x1024 .bf16) (a : Fin 512) (b : Fin 1024) :
    k0_pay3 (F := Ideal) X A gb yb za ba wpa wo (ix2 a b)
      = Ideal.ofBits .f32 0x3F9837F0#32 * X (ix2 a b)
        + dotF (fun e => gb (ix2 a e) * yb (ix2 a e)
            + (Ideal.ofBits .f32 0x3F800000#32 + Ideal.tanh (za (ix2 a e) + ba (ix2 0 e))) * ∑ q : Fin 1536, A (ix2 a q) * wpa (ix2 q e))
          (fun e => wo (ix2 e b)) := by
  pointwise [k0_pay3]
  rfl

end Cert.Kernel.Value
-- ==== Proof.Mix.Mixers.lean ====
/- The two mixers of one tile of the token mixing, entry by entry. -/
module

public import proofs.«01_k».proof.Proof.Mix.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem

/-- The value branch's row, from its four parts' columns of the projection. -/
theorem catV_at (X : FVec Ideal S512x1024 .bf16) (w0 w1 w2 w3 : FVec Ideal S1024x256 .bf16) (w : Fin 1024 → Fin 1024 → EReal)
    (h0 : ∀ k (j : Fin 256), w0 (ix2 k j) = w k ⟨j, by omega⟩) (h1 : ∀ k (j : Fin 256), w1 (ix2 k j) = w k ⟨256 + j, by omega⟩)
    (h2 : ∀ k (j : Fin 256), w2 (ix2 k j) = w k ⟨512 + j, by omega⟩) (h3 : ∀ k (j : Fin 256), w3 (ix2 k j) = w k ⟨768 + j, by omega⟩)
    (a : Fin 512) (b : Fin 1024) :
    catV (k0_pay256 (F := Ideal) X w0) (k0_pay256 X w1) (k0_pay256 X w2) (k0_pay256 X w3) (ix2 a b) = g2F (dotF (fun k => X (ix2 a k)) (fun k => w k b)) := by
  have e0 : ∀ j : Fin 256, k0_pay256 (F := Ideal) X w0 (ix2 a j) = g2F (dotF (fun k => X (ix2 a k)) (fun k => w k ⟨j, by omega⟩)) := fun j => by rw [gelu_at]; simp only [h0]
  have e1 : ∀ j : Fin 256, k0_pay256 (F := Ideal) X w1 (ix2 a j) = g2F (dotF (fun k => X (ix2 a k)) (fun k => w k ⟨256 + j, by omega⟩)) := fun j => by rw [gelu_at]; simp only [h1]
  have e2 : ∀ j : Fin 256, k0_pay256 (F := Ideal) X w2 (ix2 a j) = g2F (dotF (fun k => X (ix2 a k)) (fun k => w k ⟨512 + j, by omega⟩)) := fun j => by rw [gelu_at]; simp only [h2]
  have e3 : ∀ j : Fin 256, k0_pay256 (F := Ideal) X w3 (ix2 a j) = g2F (dotF (fun k => X (ix2 a k)) (fun k => w k ⟨768 + j, by omega⟩)) := fun j => by rw [gelu_at]; simp only [h3]
  generalize k0_pay256 (F := Ideal) X w0 = p0 at *
  generalize k0_pay256 (F := Ideal) X w1 = p1 at *
  generalize k0_pay256 (F := Ideal) X w2 = p2 at *
  generalize k0_pay256 (F := Ideal) X w3 = p3 at *
  pointwise [catV]
  split
  · rw [e0]
  · split
    · rw [e1]; congr 3; funext k; congr 1; ext; simp; omega
    · split
      · rw [e2]; congr 3; funext k; congr 1; ext; simp; omega
      · rw [e3]; congr 3; funext k; congr 1; ext; simp; omega

/-- One head of the spatial gate: the four chunks of the tile each through the head's matrix, and the head's offsets. -/
def headF (V : FVec Ideal S512x1024 .bf16) (w : FVec Ideal S1x128x128 .bf16) (o : Fin 128 → EReal) (c : ℕ) (hc : c + 128 ≤ 1024) (a : Fin 512) (b : Fin 128) : EReal :=
  (∑ p : Fin 128, w (ix3 0 ⟨a % 128, by omega⟩ p) * V (ix2 ⟨128 * (a / 128) + p, by omega⟩ ⟨c + b, by omega⟩)) + o ⟨a % 128, by omega⟩

theorem headF_of (V : FVec Ideal S512x1024 .bf16) (w : FVec Ideal S1x128x128 .bf16) (o : Fin 128 → EReal) (c : ℕ) (hc : c + 128 ≤ 1024) (a : Fin 512) (b : Fin 128)
    (i : Fin 128) (r : Fin 128 → Fin 512) (l : Fin 1024) (hi : (i : ℕ) = a % 128) (hr : ∀ p, (r p : ℕ) = 128 * (a / 128) + p) (hl : (l : ℕ) = c + b) :
    (∑ p : Fin 128, w (ix3 0 i p) * V (ix2 (r p) l)) + o i = headF V w o c hc a b := by
  rw [show i = ⟨a % 128, by omega⟩ from Fin.ext hi]
  rw [show l = ⟨c + b, by omega⟩ from Fin.ext hl]
  rw [show r = fun p => ⟨128 * (a / 128) + p, by omega⟩ from funext fun p => Fin.ext (hr p)]
  rfl

theorem head0_at (V : FVec Ideal S512x1024 .bf16) (B : FVec Ideal S1x8x128 .f32) (w : FVec Ideal S1x128x128 .bf16) (a : Fin 512) (b : Fin 128) :
    k0_pay289 (F := Ideal) V B w (ix2 a b) = headF V w (fun i => B (ix3 0 0 i)) 0 (by omega) a b := by
  pointwise [k0_pay289, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 0 i)) 0 (by omega) a b ⟨a, by omega⟩ (fun p => ⟨p, by omega⟩) ⟨b, by omega⟩ (by dsimp only <;> omega) (fun p => by dsimp only <;> omega) (by dsimp only <;> omega)
  split
  · exact headF_of V w (fun i => B (ix3 0 0 i)) 0 (by omega) a b ⟨a - 128, by omega⟩ (fun p => ⟨128 + p, by omega⟩) ⟨b, by omega⟩ (by dsimp only <;> omega) (fun p => by dsimp only <;> omega) (by dsimp only <;> omega)
  split
  · exact headF_of V w (fun i => B (ix3 0 0 i)) 0 (by omega) a b ⟨a - 128 - 128, by omega⟩ (fun p => ⟨256 + p, by omega⟩) ⟨256 + b - 128 - 128, by omega⟩ (by dsimp only <;> omega) (fun p => by dsimp only <;> omega) (by dsimp only <;> omega)
  · exact headF_of V w (fun i => B (ix3 0 0 i)) 0 (by omega) a b ⟨a - 128 - 128 - 128, by omega⟩ (fun p => ⟨384 + p, by omega⟩) ⟨384 + b - 128 - 128 - 128, by omega⟩ (by dsimp only <;> omega) (fun p => by dsimp only <;> omega) (by dsimp only <;> omega)

theorem head1_at (V : FVec Ideal S512x1024 .bf16) (B : FVec Ideal S1x8x128 .f32) (w : FVec Ideal S1x128x128 .bf16) (a : Fin 512) (b : Fin 128) :
    k0_pay290 (F := Ideal) V B w (ix2 a b) = headF V w (fun i => B (ix3 0 1 i)) 128 (by omega) a b := by
  pointwise [k0_pay290, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 1 i)) 128 (by omega) a b ⟨a, by omega⟩ (fun p => ⟨p, by omega⟩) ⟨128 + (b), by omega⟩ (by dsimp only <;> omega) (fun p => by dsimp only <;> omega) (by dsimp only <;> omega)
  split
  · exact headF_of V w (fun i => B (ix3 0 1 i)) 128 (by omega) a b ⟨a - 128, by omega⟩ (fun p => ⟨128 + p, by omega⟩) ⟨128 + (b), by omega⟩ (by dsimp only <;> omega) (fun p => by dsimp only <;> omega) (by dsimp only <;> omega)
  split
  · exact headF_of V w (fun i => B (ix3 0 1 i)) 128 (by omega) a b ⟨a - 128 - 128, by omega⟩ (fun p => ⟨256 + p, by omega⟩) ⟨128 + (256 + b - 128 - 128), by omega⟩ (by dsimp only <;> omega) (fun p => by dsimp only <;> omega) (by dsimp only <;> omega)
  · exact headF_of V w (fun i => B (ix3 0 1 i)) 128 (by omega) a b ⟨a - 128 - 128 - 128, by omega⟩ (fun p => ⟨384 + p, by omega⟩) ⟨128 + (384 + b - 128 - 128 - 128), by omega⟩ (by dsimp only <;> omega) (fun p => by dsimp only <;> omega) (by dsimp only <;> omega)

theorem head2_at (V : FVec Ideal S512x1024 .bf16) (B : FVec Ideal S1x8x128 .f32) (w : FVec Ideal S1x128x128 .bf16) (a : Fin 512) (b : Fin 128) :
    k0_pay294 (F := Ideal) (k0_pay291 V B w) (k0_pay292 V B w) (k0_pay293 V B w) (ix2 a b) = headF V w (fun i => B (ix3 0 2 i)) 256 (by omega) a b := by
  pointwise [k0_pay294, k0_pay293, k0_pay292, k0_pay291, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 2 i)) 256 (by omega) a b ⟨a, by omega⟩ (fun p => ⟨p, by omega⟩) ⟨256 + (b), by omega⟩ (by dsimp only <;> omega) (fun p => by dsimp only <;> omega) (by dsimp only <;> omega)
  split
  · exact headF_of V w (fun i => B (ix3 0 2 i)) 256 (by omega) a b ⟨a - 128, by omega⟩ (fun p => ⟨128 + p, by omega⟩) ⟨256 + (b), by omega⟩ (by dsimp only <;> omega) (fun p => by dsimp only <;> omega) (by dsimp only <;> omega)
  split
  · exact headF_of V w (fun i => B (ix3 0 2 i)) 256 (by omega) a b ⟨a - 128 - 128, by omega⟩ (fun p => ⟨256 + p, by omega⟩) ⟨256 + (256 + b - 128 - 128), by omega⟩ (by dsimp only <;> omega) (fun p => by dsimp only <;> omega) (by dsimp only <;> omega)
  · exact headF_of V w (fun i => B (ix3 0 2 i)) 256 (by omega) a b ⟨a - 128 - 128 - 128, by omega⟩ (fun p => ⟨384 + p, by omega⟩) ⟨256 + (384 + b - 128 - 128 - 128), by omega⟩ (by dsimp only <;> omega) (fun p => by dsimp only <;> omega) (by dsimp only <;> omega)

theorem head3_at (V : FVec Ideal S512x1024 .bf16) (B : FVec Ideal S1x8x128 .f32) (w : FVec Ideal S1x128x128 .bf16) (a : Fin 512) (b : Fin 128) :
    k0_pay295 (F := Ideal) V (k0_pay288 B) w (ix2 a b) = headF V w (fun i => B (ix3 0 3 i)) 384 (by omega) a b := by
  pointwise [k0_pay295, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 3 i)) 384 (by omega) a b ⟨a, by omega⟩ (fun p => ⟨p, by omega⟩) ⟨384 + (b), by omega⟩ (by dsimp only <;> omega) (fun p => by dsimp only <;> omega) (by dsimp only <;> omega)
  split
  · exact headF_of V w (fun i => B (ix3 0 3 i)) 384 (by omega) a b ⟨a - 128, by omega⟩ (fun p => ⟨128 + p, by omega⟩) ⟨384 + (b), by omega⟩ (by dsimp only <;> omega) (fun p => by dsimp only <;> omega) (by dsimp only <;> omega)
  split
  · exact headF_of V w (fun i => B (ix3 0 3 i)) 384 (by omega) a b ⟨a - 128 - 128, by omega⟩ (fun p => ⟨256 + p, by omega⟩) ⟨384 + (256 + b - 128 - 128), by omega⟩ (by dsimp only <;> omega) (fun p => by dsimp only <;> omega) (by dsimp only <;> omega)
  · exact headF_of V w (fun i => B (ix3 0 3 i)) 384 (by omega) a b ⟨a - 128 - 128 - 128, by omega⟩ (fun p => ⟨384 + p, by omega⟩) ⟨384 + (384 + b - 128 - 128 - 128), by omega⟩ (by dsimp only <;> omega) (fun p => by dsimp only <;> omega) (by dsimp only <;> omega)

theorem head4_at (V : FVec Ideal S512x1024 .bf16) (B : FVec Ideal S1x8x128 .f32) (w : FVec Ideal S1x128x128 .bf16) (a : Fin 512) (b : Fin 128) :
    k0_pay296 (F := Ideal) V (k0_pay288 B) w (ix2 a b) = headF V w (fun i => B (ix3 0 4 i)) 512 (by omega) a b := by
  pointwise [k0_pay296, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 4 i)) 512 (by omega) a b ⟨a, by omega⟩ (fun p => ⟨p, by omega⟩) ⟨512 + (b), by omega⟩ (by dsimp only <;> omega) (fun p => by dsimp only <;> omega) (by dsimp only <;> omega)
  split
  · exact headF_of V w (fun i => B (ix3 0 4 i)) 512 (by omega) a b ⟨a - 128, by omega⟩ (fun p => ⟨128 + p, by omega⟩) ⟨512 + (b), by omega⟩ (by dsimp only <;> omega) (fun p => by dsimp only <;> omega) (by dsimp only <;> omega)
  split
  · exact headF_of V w (fun i => B (ix3 0 4 i)) 512 (by omega) a b ⟨a - 128 - 128, by omega⟩ (fun p => ⟨256 + p, by omega⟩) ⟨512 + (256 + b - 128 - 128), by omega⟩ (by dsimp only <;> omega) (fun p => by dsimp only <;> omega) (by dsimp only <;> omega)
  · exact headF_of V w (fun i => B (ix3 0 4 i)) 512 (by omega) a b ⟨a - 128 - 128 - 128, by omega⟩ (fun p => ⟨384 + p, by omega⟩) ⟨512 + (384 + b - 128 - 128 - 128), by omega⟩ (by dsimp only <;> omega) (fun p => by dsimp only <;> omega) (by dsimp only <;> omega)

theorem head5_at (V : FVec Ideal S512x1024 .bf16) (B : FVec Ideal S1x8x128 .f32) (w : FVec Ideal S1x128x128 .bf16) (a : Fin 512) (b : Fin 128) :
    k0_pay294 (F := Ideal) (k0_pay297 V (k0_pay288 B) w) (k0_pay298 V (k0_pay288 B) w) (k0_pay299 V (k0_pay288 B) w) (ix2 a b) = headF V w (fun i => B (ix3 0 5 i)) 640 (by omega) a b := by
  pointwise [k0_pay294, k0_pay297, k0_pay298, k0_pay299, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 5 i)) 640 (by omega) a b ⟨a, by omega⟩ (fun p => ⟨p, by omega⟩) ⟨640 + (b), by omega⟩ (by dsimp only <;> omega) (fun p => by dsimp only <;> omega) (by dsimp only <;> omega)
  split
  · exact headF_of V w (fun i => B (ix3 0 5 i)) 640 (by omega) a b ⟨a - 128, by omega⟩ (fun p => ⟨128 + p, by omega⟩) ⟨640 + (b), by omega⟩ (by dsimp only <;> omega) (fun p => by dsimp only <;> omega) (by dsimp only <;> omega)
  split
  · exact headF_of V w (fun i => B (ix3 0 5 i)) 640 (by omega) a b ⟨a - 128 - 128, by omega⟩ (fun p => ⟨256 + p, by omega⟩) ⟨640 + (256 + b - 128 - 128), by omega⟩ (by dsimp only <;> omega) (fun p => by dsimp only <;> omega) (by dsimp only <;> omega)
  · exact headF_of V w (fun i => B (ix3 0 5 i)) 640 (by omega) a b ⟨a - 128 - 128 - 128, by omega⟩ (fun p => ⟨384 + p, by omega⟩) ⟨640 + (384 + b - 128 - 128 - 128), by omega⟩ (by dsimp only <;> omega) (fun p => by dsimp only <;> omega) (by dsimp only <;> omega)

/-- The gate's head 6 on the four chunks of the tile. -/
def head6 (v1765 : FVec Ideal S512x1024 .bf16) (v1836 : FVec Ideal S128x8 .f32) (w : Vec Ideal S1x128x128 .bf16) : FVec Ideal S512x128 .f32 :=
  have v1885 : FVec Ideal S128x128 .bf16 := extractStridedSlice S128x128 ![0, 768] v1765 slices_S512x1024_o0_768_S128x128
  have v1886 : FVec Ideal S128x128 .bf16 := extractStridedSlice S128x128 ![128, 768] v1765 slices_S512x1024_o128_768_S128x128
  have v1887 : FVec Ideal S128x128 .bf16 := extractStridedSlice S128x128 ![256, 768] v1765 slices_S512x1024_o256_768_S128x128
  have v1888 : FVec Ideal S128x128 .bf16 := extractStridedSlice S128x128 ![384, 768] v1765 slices_S512x1024_o384_768_S128x128
  have v1889 : FVec Ideal S128x512 .bf16 := concatenate S128x512 1 [⟨S128x128, v1885⟩, ⟨S128x128, v1886⟩, ⟨S128x128, v1887⟩, ⟨S128x128, v1888⟩] concatenates_S128x128_S128x128_S128x128_S128x128_S128x512_d1
  have v1891 : FVec Ideal S128x128 .bf16 := shapeCast S128x128 w shapeCasts_S1x128x128_S128x128
  have cst_565 : FVec Ideal S128x512 .f32 := constant S128x512 .f32 0x00000000#32
  have v1892 : FVec Ideal S128x512 .f32 := matmul dot_S128x128_S128x512_S128x512_1_0_0_1_n_n none v1891 v1889 cst_565
  have v1893 : FVec Ideal S128x1 .f32 := extractStridedSlice S128x1 ![0, 6] v1836 slices_S128x8_o0_6_S128x1
  have v1894 : FVec Ideal S128x512 .f32 := broadcastTo S128x512 v1893 broadcasts_S128x1_S128x512
  have v1895 : FVec Ideal S128x512 .f32 := addf v1892 v1894
  have v1896 : FVec Ideal S128x128 .f32 := extractStridedSlice S128x128 ![0, 0] v1895 slices_S128x512_o0_0_S128x128
  have v1897 : FVec Ideal S128x128 .f32 := extractStridedSlice S128x128 ![0, 128] v1895 slices_S128x512_o0_128_S128x128
  have v1898 : FVec Ideal S128x128 .f32 := extractStridedSlice S128x128 ![0, 256] v1895 slices_S128x512_o0_256_S128x128
  have v1899 : FVec Ideal S128x128 .f32 := extractStridedSlice S128x128 ![0, 384] v1895 slices_S128x512_o0_384_S128x128
  have v1900 : FVec Ideal S512x128 .f32 := concatenate S512x128 0 [⟨S128x128, v1896⟩, ⟨S128x128, v1897⟩, ⟨S128x128, v1898⟩, ⟨S128x128, v1899⟩] concatenates_S128x128_S128x128_S128x128_S128x128_S512x128_d0
  v1900

/-- The gate's head 7 on the four chunks of the tile. -/
def head7 (v1765 : FVec Ideal S512x1024 .bf16) (v1836 : FVec Ideal S128x8 .f32) (w : Vec Ideal S1x128x128 .bf16) : FVec Ideal S512x128 .f32 :=
  have v1885 : FVec Ideal S128x128 .bf16 := extractStridedSlice S128x128 ![0, 896] v1765 slices_S512x1024_o0_896_S128x128
  have v1886 : FVec Ideal S128x128 .bf16 := extractStridedSlice S128x128 ![128, 896] v1765 slices_S512x1024_o128_896_S128x128
  have v1887 : FVec Ideal S128x128 .bf16 := extractStridedSlice S128x128 ![256, 896] v1765 slices_S512x1024_o256_896_S128x128
  have v1888 : FVec Ideal S128x128 .bf16 := extractStridedSlice S128x128 ![384, 896] v1765 slices_S512x1024_o384_896_S128x128
  have v1889 : FVec Ideal S128x512 .bf16 := concatenate S128x512 1 [⟨S128x128, v1885⟩, ⟨S128x128, v1886⟩, ⟨S128x128, v1887⟩, ⟨S128x128, v1888⟩] concatenates_S128x128_S128x128_S128x128_S128x128_S128x512_d1
  have v1891 : FVec Ideal S128x128 .bf16 := shapeCast S128x128 w shapeCasts_S1x128x128_S128x128
  have cst_565 : FVec Ideal S128x512 .f32 := constant S128x512 .f32 0x00000000#32
  have v1892 : FVec Ideal S128x512 .f32 := matmul dot_S128x128_S128x512_S128x512_1_0_0_1_n_n none v1891 v1889 cst_565
  have v1893 : FVec Ideal S128x1 .f32 := extractStridedSlice S128x1 ![0, 7] v1836 slices_S128x8_o0_7_S128x1
  have v1894 : FVec Ideal S128x512 .f32 := broadcastTo S128x512 v1893 broadcasts_S128x1_S128x512
  have v1895 : FVec Ideal S128x512 .f32 := addf v1892 v1894
  have v1896 : FVec Ideal S128x128 .f32 := extractStridedSlice S128x128 ![0, 0] v1895 slices_S128x512_o0_0_S128x128
  have v1897 : FVec Ideal S128x128 .f32 := extractStridedSlice S128x128 ![0, 128] v1895 slices_S128x512_o0_128_S128x128
  have v1898 : FVec Ideal S128x128 .f32 := extractStridedSlice S128x128 ![0, 256] v1895 slices_S128x512_o0_256_S128x128
  have v1899 : FVec Ideal S128x128 .f32 := extractStridedSlice S128x128 ![0, 384] v1895 slices_S128x512_o0_384_S128x128
  have v1900 : FVec Ideal S512x128 .f32 := concatenate S512x128 0 [⟨S128x128, v1896⟩, ⟨S128x128, v1897⟩, ⟨S128x128, v1898⟩, ⟨S128x128, v1899⟩] concatenates_S128x128_S128x128_S128x128_S128x128_S512x128_d0
  v1900

theorem head6_at (V : FVec Ideal S512x1024 .bf16) (B : FVec Ideal S1x8x128 .f32) (w : FVec Ideal S1x128x128 .bf16) (a : Fin 512) (b : Fin 128) :
    head6 V (k0_pay288 B) w (ix2 a b) = headF V w (fun i => B (ix3 0 6 i)) 768 (by omega) a b := by
  pointwise [head6, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 6 i)) 768 (by omega) a b ⟨a, by omega⟩ (fun p => ⟨p, by omega⟩) ⟨768 + (b), by omega⟩ (by dsimp only <;> omega) (fun p => by dsimp only <;> omega) (by dsimp only <;> omega)
  split
  · exact headF_of V w (fun i => B (ix3 0 6 i)) 768 (by omega) a b ⟨a - 128, by omega⟩ (fun p => ⟨128 + p, by omega⟩) ⟨768 + (b), by omega⟩ (by dsimp only <;> omega) (fun p => by dsimp only <;> omega) (by dsimp only <;> omega)
  split
  · exact headF_of V w (fun i => B (ix3 0 6 i)) 768 (by omega) a b ⟨a - 128 - 128, by omega⟩ (fun p => ⟨256 + p, by omega⟩) ⟨768 + (256 + b - 128 - 128), by omega⟩ (by dsimp only <;> omega) (fun p => by dsimp only <;> omega) (by dsimp only <;> omega)
  · exact headF_of V w (fun i => B (ix3 0 6 i)) 768 (by omega) a b ⟨a - 128 - 128 - 128, by omega⟩ (fun p => ⟨384 + p, by omega⟩) ⟨768 + (384 + b - 128 - 128 - 128), by omega⟩ (by dsimp only <;> omega) (fun p => by dsimp only <;> omega) (by dsimp only <;> omega)

theorem head7_at (V : FVec Ideal S512x1024 .bf16) (B : FVec Ideal S1x8x128 .f32) (w : FVec Ideal S1x128x128 .bf16) (a : Fin 512) (b : Fin 128) :
    head7 V (k0_pay288 B) w (ix2 a b) = headF V w (fun i => B (ix3 0 7 i)) 896 (by omega) a b := by
  pointwise [head7, k0_pay288]
  have m1 : ¬128 + (b : ℕ) < 128 := by omega
  have m2 : 128 + (b : ℕ) - 128 < 128 := by omega
  have n1 : ¬256 + (b : ℕ) < 128 := by omega
  have n2 : ¬256 + (b : ℕ) - 128 < 128 := by omega
  have n3 : 256 + (b : ℕ) - 128 - 128 < 128 := by omega
  have k1 : ¬384 + (b : ℕ) < 128 := by omega
  have k2 : ¬384 + (b : ℕ) - 128 < 128 := by omega
  have k3 : ¬384 + (b : ℕ) - 128 - 128 < 128 := by omega
  simp only [m1, m2, n1, n2, n3, k1, k2, k3, dif_pos, dif_neg, not_false_eq_true, ↓reduceDIte]
  split
  · exact headF_of V w (fun i => B (ix3 0 7 i)) 896 (by omega) a b ⟨a, by omega⟩ (fun p => ⟨p, by omega⟩) ⟨896 + (b), by omega⟩ (by dsimp only <;> omega) (fun p => by dsimp only <;> omega) (by dsimp only <;> omega)
  split
  · exact headF_of V w (fun i => B (ix3 0 7 i)) 896 (by omega) a b ⟨a - 128, by omega⟩ (fun p => ⟨128 + p, by omega⟩) ⟨896 + (b), by omega⟩ (by dsimp only <;> omega) (fun p => by dsimp only <;> omega) (by dsimp only <;> omega)
  split
  · exact headF_of V w (fun i => B (ix3 0 7 i)) 896 (by omega) a b ⟨a - 128 - 128, by omega⟩ (fun p => ⟨256 + p, by omega⟩) ⟨896 + (256 + b - 128 - 128), by omega⟩ (by dsimp only <;> omega) (fun p => by dsimp only <;> omega) (by dsimp only <;> omega)
  · exact headF_of V w (fun i => B (ix3 0 7 i)) 896 (by omega) a b ⟨a - 128 - 128 - 128, by omega⟩ (fun p => ⟨384 + p, by omega⟩) ⟨896 + (384 + b - 128 - 128 - 128), by omega⟩ (by dsimp only <;> omega) (fun p => by dsimp only <;> omega) (by dsimp only <;> omega)

/-- The eight heads' columns beside each other. -/
def cat8 (h0 h1 h2 h3 h4 h5 h6 h7 : FVec Ideal S512x128 .f32) : FVec Ideal S512x1024 .f32 :=
  concatenate S512x1024 1 [⟨S512x128, h0⟩, ⟨S512x128, h1⟩, ⟨S512x128, h2⟩, ⟨S512x128, h3⟩, ⟨S512x128, h4⟩, ⟨S512x128, h5⟩, ⟨S512x128, h6⟩, ⟨S512x128, h7⟩] concatenates_S512x128_S512x128_S512x128_S512x128_S512x128_S512x128_S512x128_S512x128_S512x1024_d1

theorem cat8_eq (V : FVec Ideal S512x1024 .bf16) (B : FVec Ideal S1x8x128 .f32) (h0 h1 h2 h3 h4 : FVec Ideal S512x128 .f32) (w5 w6 w7 : FVec Ideal S1x128x128 .bf16) :
    k0_pay300 (F := Ideal) V (k0_pay288 B) h0 h1 h2 h3 h4 (k0_pay297 V (k0_pay288 B) w5) (k0_pay298 V (k0_pay288 B) w5) (k0_pay299 V (k0_pay288 B) w5) w6 w7
      = cat8 h0 h1 h2 h3 h4 (k0_pay294 (F := Ideal) (k0_pay297 V (k0_pay288 B) w5) (k0_pay298 V (k0_pay288 B) w5) (k0_pay299 V (k0_pay288 B) w5))
          (head6 V (k0_pay288 B) w6) (head7 V (k0_pay288 B) w7) := rfl

/-- One entry of the spatial gate's mixed rows. -/
def mixedF (V : FVec Ideal S512x1024 .bf16) (W : FVec Ideal S8x128x128 .bf16) (B : FVec Ideal S1x8x128 .f32) (a : Fin 512) (b : Fin 1024) : EReal :=
  (∑ p : Fin 128, W (ix3 ⟨b / 128, by omega⟩ ⟨a % 128, by omega⟩ p) * V (ix2 ⟨128 * (a / 128) + p, by omega⟩ b)) + B (ix3 0 ⟨b / 128, by omega⟩ ⟨a % 128, by omega⟩)

theorem mixedF_of (V : FVec Ideal S512x1024 .bf16) (W : FVec Ideal S8x128x128 .bf16) (B : FVec Ideal S1x8x128 .f32) (w : FVec Ideal S1x128x128 .bf16) (n : Fin 8)
    (hw : ∀ i p, w (ix3 0 i p) = W (ix3 n i p)) (c : ℕ) (hc : c + 128 ≤ 1024) (hn : c = 128 * n) (a : Fin 512) (b : Fin 1024) (d : Fin 128) (hd : (b : ℕ) = c + d) :
    headF V w (fun i => B (ix3 0 n i)) c hc a d = mixedF V W B a b := by
  have hb : (⟨b / 128, by omega⟩ : Fin 8) = n := Fin.ext (by dsimp only; omega)
  rw [headF, mixedF, hb]
  simp only [hw]
  congr 1
  refine Finset.sum_congr rfl fun p _ => congrArg _ (congrArg V ?_)
  idx_ext <;> omega

/-- The mixed rows, entry by entry. -/
theorem mixed_at (V : FVec Ideal S512x1024 .bf16) (W : FVec Ideal S8x128x128 .bf16) (B : FVec Ideal S1x8x128 .f32)
    (w0 w1 w2 w3 w4 w5 w6 w7 : FVec Ideal S1x128x128 .bf16)
    (e0 : ∀ i p, w0 (ix3 0 i p) = W (ix3 0 i p)) (e1 : ∀ i p, w1 (ix3 0 i p) = W (ix3 1 i p)) (e2 : ∀ i p, w2 (ix3 0 i p) = W (ix3 2 i p)) (e3 : ∀ i p, w3 (ix3 0 i p) = W (ix3 3 i p))
    (e4 : ∀ i p, w4 (ix3 0 i p) = W (ix3 4 i p)) (e5 : ∀ i p, w5 (ix3 0 i p) = W (ix3 5 i p)) (e6 : ∀ i p, w6 (ix3 0 i p) = W (ix3 6 i p)) (e7 : ∀ i p, w7 (ix3 0 i p) = W (ix3 7 i p))
    (a : Fin 512) (b : Fin 1024) :
    k0_pay300 (F := Ideal) V (k0_pay288 B) (k0_pay289 V B w0) (k0_pay290 V B w1) (k0_pay294 (k0_pay291 V B w2) (k0_pay292 V B w2) (k0_pay293 V B w2))
        (k0_pay295 V (k0_pay288 B) w3) (k0_pay296 V (k0_pay288 B) w4) (k0_pay297 V (k0_pay288 B) w5) (k0_pay298 V (k0_pay288 B) w5) (k0_pay299 V (k0_pay288 B) w5) w6 w7 (ix2 a b)
      = mixedF V W B a b := by
  rw [cat8_eq]
  have f0 := head0_at V B w0 a
  have f1 := head1_at V B w1 a
  have f2 := head2_at V B w2 a
  have f3 := head3_at V B w3 a
  have f4 := head4_at V B w4 a
  have f5 := head5_at V B w5 a
  have f6 := head6_at V B w6 a
  have f7 := head7_at V B w7 a
  generalize k0_pay289 (F := Ideal) V B w0 = h0 at *
  generalize k0_pay290 (F := Ideal) V B w1 = h1 at *
  generalize k0_pay294 (F := Ideal) (k0_pay291 V B w2) (k0_pay292 V B w2) (k0_pay293 V B w2) = h2 at *
  generalize k0_pay295 (F := Ideal) V (k0_pay288 B) w3 = h3 at *
  generalize k0_pay296 (F := Ideal) V (k0_pay288 B) w4 = h4 at *
  generalize k0_pay294 (F := Ideal) (k0_pay297 V (k0_pay288 B) w5) (k0_pay298 V (k0_pay288 B) w5) (k0_pay299 V (k0_pay288 B) w5) = h5 at *
  generalize head6 V (k0_pay288 B) w6 = h6 at *
  generalize head7 V (k0_pay288 B) w7 = h7 at *
  pointwise [cat8]
  split
  · exact (f0 _).trans (mixedF_of V W B w0 0 e0 0 (by omega) rfl a b _ (by dsimp only; omega))
  split
  · exact (f1 _).trans (mixedF_of V W B w1 1 e1 128 (by omega) rfl a b _ (by dsimp only; omega))
  split
  · exact (f2 _).trans (mixedF_of V W B w2 2 e2 256 (by omega) rfl a b _ (by dsimp only; omega))
  split
  · exact (f3 _).trans (mixedF_of V W B w3 3 e3 384 (by omega) rfl a b _ (by dsimp only; omega))
  split
  · exact (f4 _).trans (mixedF_of V W B w4 4 e4 512 (by omega) rfl a b _ (by dsimp only; omega))
  split
  · exact (f5 _).trans (mixedF_of V W B w5 5 e5 640 (by omega) rfl a b _ (by dsimp only; omega))
  split
  · exact (f6 _).trans (mixedF_of V W B w6 6 e6 768 (by omega) rfl a b _ (by dsimp only; omega))
  · exact (f7 _).trans (mixedF_of V W B w7 7 e7 896 (by omega) rfl a b _ (by dsimp only; omega))

end Cert.Kernel.Value
-- ==== Proof.Mix.Ref.lean ====
/- The reference's token mixing, entry by entry. -/
module

public import proofs.«01_k».proof.Proof.Mix.Tile
public import proofs.«01_k».proof.Proof.Gen.ReferenceIdeal.Run
public import Idealize.ShloMosaic.Lib.Pipeline.ValueKit
public import Idealize.ShloMosaic.Lib.Pipeline.ReadBack
public import Idealize.ShloMosaic.Lib.Pointwise

@[expose] public section

set_option maxRecDepth 16384
set_option maxHeartbeats 2000000

noncomputable section

namespace Cert.ReferenceIdeal.Value

open Cert.ReferenceIdeal Cert.ReferenceIdeal.Gen Idealize.ShloMosaic Idealize.ShloMosaic.TcCoe Idealize.SL.Sem
open Cert.Kernel.Value (meanF lnE dotF g2F)

abbrev A0 (V0 : Valuation τ sig (Elt Ideal)) : FVec Ideal S1x16384x1024 .f32 := V0 (Proc.devRef .tc main_arg0)
abbrev A1 (V0 : Valuation τ sig (Elt Ideal)) : FVec Ideal S1x1024x8704 .f32 := V0 (Proc.devRef .tc main_arg1)
abbrev A2 (V0 : Valuation τ sig (Elt Ideal)) : FVec Ideal S1x2048 .f32 := V0 (Proc.devRef .tc main_arg2)
abbrev A3 (V0 : Valuation τ sig (Elt Ideal)) : FVec Ideal S1x3x1536 .f32 := V0 (Proc.devRef .tc main_arg3)
abbrev A4 (V0 : Valuation τ sig (Elt Ideal)) : FVec Ideal S1x1024 .f32 := V0 (Proc.devRef .tc main_arg4)
abbrev A5 (V0 : Valuation τ sig (Elt Ideal)) : FVec Ideal S1x1024 .f32 := V0 (Proc.devRef .tc main_arg5)
abbrev A6 (V0 : Valuation τ sig (Elt Ideal)) : FVec Ideal S1x8x128x128 .f32 := V0 (Proc.devRef .tc main_arg6)
abbrev A7 (V0 : Valuation τ sig (Elt Ideal)) : FVec Ideal S1x8x128 .f32 := V0 (Proc.devRef .tc main_arg7)
abbrev A8 (V0 : Valuation τ sig (Elt Ideal)) : FVec Ideal S1x1536x1024 .f32 := V0 (Proc.devRef .tc main_arg8)
abbrev A9 (V0 : Valuation τ sig (Elt Ideal)) : FVec Ideal S1x1024x1024 .f32 := V0 (Proc.devRef .tc main_arg9)
abbrev A10 (V0 : Valuation τ sig (Elt Ideal)) : FVec Ideal S1x1024x1024 .f32 := V0 (Proc.devRef .tc main_arg10)
abbrev A11 (V0 : Valuation τ sig (Elt Ideal)) : FVec Ideal S1x1024 .f32 := V0 (Proc.devRef .tc main_arg11)
abbrev A12 (V0 : Valuation τ sig (Elt Ideal)) : FVec Ideal S1x1024 .f32 := V0 (Proc.devRef .tc main_arg12)

/-- The projection. -/
def pR (X : FVec Ideal S1x16384x1024 .f32) (W : FVec Ideal S1x1024x8704 .f32) : FVec Ideal S1x16384x8704 .f32 :=
  Host.dotGeneral dot_S1x16384x1024_S1024x8704_S1x16384x8704_2_0_01_1_n_n none X (shapeCast _ W shapeCasts_S1x1024x8704_S1024x8704)

theorem pR_at (X : FVec Ideal S1x16384x1024 .f32) (W : FVec Ideal S1x1024x8704 .f32) (a : Fin 16384) (c : Fin 8704) :
    pR X W (ix3 0 a c) = dotF (fun k => X (ix3 0 a k)) (fun k => W (ix3 0 k c)) := by
  pointwise [pR]
  rfl

/-- The gates. -/
def gateR (P : FVec Ideal S1x16384x8704 .f32) (b : FVec Ideal S1x2048 .f32) : FVec Ideal S1x16384x2048 .f32 :=
  Host.divf (broadcastInDim S1x16384x2048 ![] bcast_S_S1x16384x2048 (constant S_ .f32 0x3F800000#32)) (addf (broadcastInDim S1x16384x2048 ![] bcast_S_S1x16384x2048 (constant S_ .f32 0x3F800000#32)) (Host.exp (Host.negf (addf (extractStridedSlice S1x16384x2048 ![0, 0, 6656] P slices_S1x16384x8704_S1x16384x2048_0_0_6656) (broadcastInDim S1x16384x2048 ![0, 1, 2] bcast_S1x1x2048_S1x16384x2048_0_1_2 (broadcastInDim S1x1x2048 ![2] bcast_S2048_S1x1x2048_2 (shapeCast _ b shapeCasts_S1x2048_S2048)))))))

theorem gateR_at (P : FVec Ideal S1x16384x8704 .f32) (b : FVec Ideal S1x2048 .f32) (a : Fin 16384) (e : Fin 2048) :
    gateR P b (ix3 0 a e) = Ideal.div (Ideal.ofBits .f32 0x3F800000#32) (Ideal.ofBits .f32 0x3F800000#32 + Ideal.exp (-(P (ix3 0 a ⟨6656 + e, by omega⟩) + b (ix2 0 e)))) := by
  pointwise [gateR]

/-- The products, with a row of zeros at both ends. -/
def padR (P : FVec Ideal S1x16384x8704 .f32) : FVec Ideal S1x16386x1536 .f32 :=
  pad S1x16386x1536 ![0, 1, 0] ![0, 1, 0] ![0, 0, 0] (mulf (extractStridedSlice S1x16384x1536 ![0, 0, 1536] P slices_S1x16384x8704_S1x16384x1536_0_0_1536) (extractStridedSlice S1x16384x1536 ![0, 0, 3072] P slices_S1x16384x8704_S1x16384x1536_0_0_3072)) (sitofp .f32 (constantI S_ 32 0#32)) pads_S1x16384x1536_S1x16386x1536_000_110_000 h_S_

theorem padR_at (P : FVec Ideal S1x16384x8704 .f32) (r : Fin 16386) (q : Fin 1536) :
    padR P (ix3 0 r q) = if h : 1 ≤ (r : ℕ) ∧ (r : ℕ) < 16385 then P (ix3 0 ⟨r - 1, by omega⟩ ⟨1536 + q, by omega⟩) * P (ix3 0 ⟨r - 1, by omega⟩ ⟨3072 + q, by omega⟩) else 0 := by
  pointwise [padR]
  by_cases h : 1 ≤ (r : ℕ) ∧ (r : ℕ) < 16385
  · rw [dif_pos h, dif_pos (by omega)]
  · rw [dif_neg h, dif_neg (by omega)]
    show (((0#32 : BitVec 32).toInt : ℝ) : EReal) = 0
    simp

/-- Gelu, in its tanh form. -/
def geluR (Z : FVec Ideal S1x16384x1024 .f32) : FVec Ideal S1x16384x1024 .f32 :=
  mulf (broadcastInDim S1x16384x1024 ![] bcast_S_S1x16384x1024 (constant S_ .f32 0x3F000000#32)) (addf Z (mulf Z (Host.tanh (addf (mulf (broadcastInDim S1x16384x1024 ![] bcast_S_S1x16384x1024 (constant S_ .f32 0x3F4C422A#32)) Z) (mulf (broadcastInDim S1x16384x1024 ![] bcast_S_S1x16384x1024 (constant S_ .f32 0x3D122279#32)) (mulf (mulf Z Z) Z))))))

/-- Gelu of one number, as the reference spells it. -/
def gF (z : EReal) : EReal := Ideal.ofBits .f32 0x3F000000#32 * (z + z * Ideal.tanh (Ideal.ofBits .f32 0x3F4C422A#32 * z + Ideal.ofBits .f32 0x3D122279#32 * (z * z * z)))

theorem geluR_at (Z : FVec Ideal S1x16384x1024 .f32) (a : Fin 16384) (b : Fin 1024) : geluR Z (ix3 0 a b) = gF (Z (ix3 0 a b)) := by
  pointwise [geluR]
  rfl

/-- The mean of every row. -/
def meanR (Z : FVec Ideal S1x16384x1024 .f32) : FVec Ideal S1x16384x1 .f32 :=
  Host.divf (broadcastInDim S1x16384x1 ![0, 1] bcast_S1x16384_S1x16384x1_0_1 (Host.reduceAdd Z (constant S_ .f32 0x00000000#32) reducesTo_S1x16384x1024_S1x16384_d2 h_S_)) (broadcastInDim S1x16384x1 ![] bcast_S_S1x16384x1 (constant S_ .f32 0x44800000#32))

theorem meanR_at (Z : FVec Ideal S1x16384x1024 .f32) (a : Fin 16384) : meanR Z (ix3 0 a 0) = meanF (fun k => Z (ix3 0 a k)) := by
  pointwise [meanR]
  rfl

/-- The norm of every row. -/
def vnR (Z : FVec Ideal S1x16384x1024 .f32) (M : FVec Ideal S1x16384x1 .f32) (C : FVec Ideal S1x16384x1024 .f32) (g b : FVec Ideal S1x1024 .f32) : FVec Ideal S1x16384x1024 .f32 :=
  (addf (mulf (mulf (subf Z (broadcastInDim S1x16384x1024 ![0, 1, 2] bcast_S1x16384x1_S1x16384x1024_0_1_2 M)) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf C C) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x3727C5AC#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))) (broadcastInDim S1x16384x1024 ![0, 1, 2] bcast_S1x1x1024_S1x16384x1024_0_1_2 (broadcastInDim S1x1x1024 ![2] bcast_S1024_S1x1x1024_2 (shapeCast _ b shapeCasts_S1x1024_S1024))))

theorem vnR_at (Z : FVec Ideal S1x16384x1024 .f32) (M : FVec Ideal S1x16384x1 .f32) (C : FVec Ideal S1x16384x1024 .f32) (g b : FVec Ideal S1x1024 .f32) (a : Fin 16384) (l : Fin 1024)
    (hM : M (ix3 0 a 0) = meanF (fun k => Z (ix3 0 a k))) (hC : ∀ k, C (ix3 0 a k) = Z (ix3 0 a k) - meanF (fun k => Z (ix3 0 a k))) :
    vnR Z M C g b (ix3 0 a l) = lnE (Ideal.ofBits .f32 0x3727C5AC#32) (fun k => Z (ix3 0 a k)) (fun k => g (ix2 0 k)) (fun k => b (ix2 0 k)) l := by
  pointwise [vnR]
  simp only [hM, hC]
  rfl

/-- The spatial gate's mixed rows. -/
def mixR (vn : FVec Ideal S1x16384x1024 .f32) (W : FVec Ideal S1x8x128x128 .f32) (B : FVec Ideal S1x8x128 .f32) : FVec Ideal S1x16384x1024 .f32 :=
  shapeCast _ (addf (transpose S1x128x128x8x128 [1, 2, 4, 0, 3] (Host.dotGeneral dot_S1x128x128x8x128_S8x128x128_S8x1x128x128x128_2_2_014_1_3_0 none (shapeCast _ vn shapeCasts_S1x16384x1024_S1x128x128x8x128) (shapeCast _ W shapeCasts_S1x8x128x128_S8x128x128)) transposes_S8x1x128x128x128_S1x128x128x8x128_1_2_4_0_3) (broadcastInDim S1x128x128x8x128 ![0, 1, 2, 3, 4] bcast_S1x1x128x8x1_S1x128x128x8x128_0_1_2_3_4 (broadcastInDim S1x1x128x8x1 ![2, 3] bcast_S128x8_S1x1x128x8x1_2_3 (transpose S128x8 [1, 0] (shapeCast _ B shapeCasts_S1x8x128_S8x128) transposes_S8x128_S128x8_1_0)))) shapeCasts_S1x128x128x8x128_S1x16384x1024

theorem mixR_at (vn : FVec Ideal S1x16384x1024 .f32) (W : FVec Ideal S1x8x128x128 .f32) (B : FVec Ideal S1x8x128 .f32) (a : Fin 16384) (b : Fin 1024) :
    mixR vn W B (ix3 0 a b) = (∑ j : Fin 128, vn (ix3 0 ⟨a / 128 * 128 + j, by omega⟩ b) * W (ix4 0 ⟨b / 128, by omega⟩ ⟨a % 128, by omega⟩ j)) + B (ix3 0 ⟨b / 128, by omega⟩ ⟨a % 128, by omega⟩) := by
  pointwise [mixR]

/-- The gated rows of the convolution. -/
def convR (P : FVec Ideal S1x16384x8704 .f32) (Q : FVec Ideal S1x16386x1536 .f32) (K : FVec Ideal S3x1536 .f32) : FVec Ideal S1x16384x1536 .f32 :=
  (mulf (extractStridedSlice S1x16384x1536 ![0, 0, 0] P slices_S1x16384x8704_S1x16384x1536_0_0_0) (addf (addf (mulf (extractStridedSlice S1x16384x1536 ![0, 0, 0] Q slices_S1x16386x1536_S1x16384x1536_0_0_0) (broadcastInDim S1x16384x1536 ![0, 1, 2] bcast_S1x1x1536_S1x16384x1536_0_1_2 (broadcastInDim S1x1x1536 ![2] bcast_S1536_S1x1x1536_2 (shapeCast _ (extractStridedSlice S1x1536 ![0, 0] K slices_S3x1536_S1x1536_0_0) shapeCasts_S1x1536_S1536)))) (mulf (extractStridedSlice S1x16384x1536 ![0, 1, 0] Q slices_S1x16386x1536_S1x16384x1536_0_1_0) (broadcastInDim S1x16384x1536 ![0, 1, 2] bcast_S1x1x1536_S1x16384x1536_0_1_2 (broadcastInDim S1x1x1536 ![2] bcast_S1536_S1x1x1536_2 (shapeCast _ (extractStridedSlice S1x1536 ![1, 0] K slices_S3x1536_S1x1536_1_0) shapeCasts_S1x1536_S1536))))) (mulf (extractStridedSlice S1x16384x1536 ![0, 2, 0] Q slices_S1x16386x1536_S1x16384x1536_0_2_0) (broadcastInDim S1x16384x1536 ![0, 1, 2] bcast_S1x1x1536_S1x16384x1536_0_1_2 (broadcastInDim S1x1x1536 ![2] bcast_S1536_S1x1x1536_2 (shapeCast _ (extractStridedSlice S1x1536 ![2, 0] K slices_S3x1536_S1x1536_2_0) shapeCasts_S1x1536_S1536))))))

theorem convR_at (P : FVec Ideal S1x16384x8704 .f32) (Q : FVec Ideal S1x16386x1536 .f32) (K : FVec Ideal S3x1536 .f32) (a : Fin 16384) (q : Fin 1536) :
    convR P Q K (ix3 0 a q) = P (ix3 0 a ⟨q, by omega⟩) * (Q (ix3 0 ⟨a, by omega⟩ q) * K (ix2 0 q) + Q (ix3 0 ⟨1 + a, by omega⟩ q) * K (ix2 1 q) + Q (ix3 0 ⟨2 + a, by omega⟩ q) * K (ix2 2 q)) := by
  pointwise [convR]

theorem kR_at (V0 : Valuation τ sig (Elt Ideal)) (j : Fin 3) (q : Fin 1536) : res_main_v21 (F := Ideal) V0 (ix2 j q) = A3 V0 (ix3 0 j q) := by
  pointwise [res_main_v21]

/-- The two mixers, gated and through the output matrix. -/
def outR (G : FVec Ideal S1x16384x2048 .f32) (CV : FVec Ideal S1x16384x1536 .f32) (U MX : FVec Ideal S1x16384x1024 .f32) (wa : FVec Ideal S1x1536x1024 .f32)
    (wb wo : FVec Ideal S1x1024x1024 .f32) : FVec Ideal S1x16384x1024 .f32 :=
  Host.dotGeneral dot_S1x16384x1024_S1024x1024_S1x16384x1024_2_0_01_1_n_n none (addf (mulf (extractStridedSlice S1x16384x1024 ![0, 0, 0] G slices_S1x16384x2048_S1x16384x1024_0_0_0) (Host.dotGeneral dot_S1x16384x1536_S1536x1024_S1x16384x1024_2_0_01_1_n_n none CV (shapeCast _ wa shapeCasts_S1x1536x1024_S1536x1024))) (mulf (extractStridedSlice S1x16384x1024 ![0, 0, 1024] G slices_S1x16384x2048_S1x16384x1024_0_0_1024) (Host.dotGeneral dot_S1x16384x1024_S1024x1024_S1x16384x1024_2_0_01_1_n_n none (mulf U MX) (shapeCast _ wb shapeCasts_S1x1024x1024_S1024x1024)))) (shapeCast _ wo shapeCasts_S1x1024x1024_S1024x1024)

theorem outR_at (G : FVec Ideal S1x16384x2048 .f32) (CV : FVec Ideal S1x16384x1536 .f32) (U MX : FVec Ideal S1x16384x1024 .f32) (wa : FVec Ideal S1x1536x1024 .f32)
    (wb wo : FVec Ideal S1x1024x1024 .f32) (a : Fin 16384) (b : Fin 1024) :
    outR G CV U MX wa wb wo (ix3 0 a b)
      = dotF (fun e => G (ix3 0 a ⟨e, by omega⟩) * (∑ q : Fin 1536, CV (ix3 0 a q) * wa (ix3 0 q e))
          + G (ix3 0 a ⟨1024 + e, by omega⟩) * dotF (fun k => U (ix3 0 a k) * MX (ix3 0 a k)) (fun k => wb (ix3 0 k e))) (fun e => wo (ix3 0 e b)) := by
  pointwise [outR]
  rfl

theorem v113_eq (V0 : Valuation τ sig (Elt Ideal)) :
    res_main_v113 (F := Ideal) V0 = outR (res_main_v17 V0) (convR (res_main_v1 V0) (res_main_v22 V0) (res_main_v21 V0)) (geluR (res_main_v5 V0))
      (mixR (vnR (res_main_v67 V0) (res_main_v75 V0) (res_main_v77 V0) (A4 V0) (A5 V0)) (A6 V0) (A7 V0)) (A8 V0) (A9 V0) (A10 V0) := rfl

theorem v1_eq (V0 : Valuation τ sig (Elt Ideal)) : res_main_v1 (F := Ideal) V0 = pR (A0 V0) (A1 V0) := rfl
theorem v17_eq (V0 : Valuation τ sig (Elt Ideal)) : res_main_v17 (F := Ideal) V0 = gateR (res_main_v1 V0) (A2 V0) := rfl
theorem v22_eq (V0 : Valuation τ sig (Elt Ideal)) : res_main_v22 (F := Ideal) V0 = padR (res_main_v1 V0) := rfl
theorem v67_eq (V0 : Valuation τ sig (Elt Ideal)) : res_main_v67 (F := Ideal) V0 = geluR (res_main_v6 V0) := rfl
theorem v75_eq (V0 : Valuation τ sig (Elt Ideal)) : res_main_v75 (F := Ideal) V0 = meanR (res_main_v67 V0) := rfl
theorem v122_eq (V0 : Valuation τ sig (Elt Ideal)) : res_main_v122 (F := Ideal) V0 = meanR (res_main_v116 V0) := rfl

theorem v5_at (V0 : Valuation τ sig (Elt Ideal)) (a : Fin 16384) (b : Fin 1024) : res_main_v5 (F := Ideal) V0 (ix3 0 a b) = res_main_v1 (F := Ideal) V0 (ix3 0 a ⟨4608 + b, by omega⟩) := by
  generalize hP : res_main_v1 (F := Ideal) V0 = P
  rw [res_main_v5, hP]
  pointwise []

theorem v6_at (V0 : Valuation τ sig (Elt Ideal)) (a : Fin 16384) (b : Fin 1024) : res_main_v6 (F := Ideal) V0 (ix3 0 a b) = res_main_v1 (F := Ideal) V0 (ix3 0 a ⟨5632 + b, by omega⟩) := by
  generalize hP : res_main_v1 (F := Ideal) V0 = P
  rw [res_main_v6, hP]
  pointwise []

/-- Every row less its mean. -/
def subR (Z : FVec Ideal S1x16384x1024 .f32) (M : FVec Ideal S1x16384x1 .f32) : FVec Ideal S1x16384x1024 .f32 :=
  subf Z (broadcastInDim S1x16384x1024 ![0, 1, 2] bcast_S1x16384x1_S1x16384x1024_0_1_2 M)

theorem subR_at (Z : FVec Ideal S1x16384x1024 .f32) (M : FVec Ideal S1x16384x1 .f32) (a : Fin 16384) (b : Fin 1024) :
    subR Z M (ix3 0 a b) = Z (ix3 0 a b) - M (ix3 0 a 0) := by
  pointwise [subR]

theorem v77_eq (V0 : Valuation τ sig (Elt Ideal)) : res_main_v77 (F := Ideal) V0 = subR (res_main_v67 V0) (res_main_v75 V0) := rfl
theorem v124_eq (V0 : Valuation τ sig (Elt Ideal)) : res_main_v124 (F := Ideal) V0 = subR (res_main_v116 V0) (res_main_v122 V0) := rfl

theorem v116_at (V0 : Valuation τ sig (Elt Ideal)) (a : Fin 16384) (b : Fin 1024) :
    res_main_v116 (F := Ideal) V0 (ix3 0 a b) = Ideal.ofBits .f32 0x3F9837F0#32 * A0 V0 (ix3 0 a b) + res_main_v113 (F := Ideal) V0 (ix3 0 a b) := by
  generalize hP : res_main_v113 (F := Ideal) V0 = P
  rw [res_main_v116, hP]
  pointwise []

end Cert.ReferenceIdeal.Value
-- ==== Proof.Mix.Ties.lean ====
/- The chains of guarded selects the tile puts between its products select the block itself. -/
module

public import proofs.«01_k».proof.Proof.Mix.Tile
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Kernel.Value

open Cert.Kernel Cert.Kernel.Gen Idealize.ShloMosaic Idealize.ShloMosaic.TcCoe Idealize.SL.Sem

theorem chain_v1 (A : BitVec 32) (hA : Scalar.cmpi .slt A 0#32 = 0#1) (s1 s2 s3 s4 : FVec Ideal S16x128 .bf16) (X : FVec Ideal S512x1024 .bf16) (w : FVec Ideal S1024x256 .bf16) :
    k0_pay261 (F := Ideal) (k0_pay260 A s1 s2 s3 s4 X) w = k0_pay256 X w := by
  simp only [k0_pay261, k0_pay260, k0_pay256, tieM _ hA]

theorem chain_v2 (A : BitVec 32) (hA : Scalar.cmpi .slt A 0#32 = 0#1) (s1 s2 s3 s4 : FVec Ideal S16x128 .bf16) (X : FVec Ideal S512x1024 .bf16) (w : FVec Ideal S1024x256 .bf16) :
    k0_pay264 (F := Ideal) A s1 s2 s3 (k0_pay263 A s4 X) 0#32 w = k0_pay256 X w := by
  simp only [k0_pay264, k0_pay263, k0_pay256, tieM _ hA]

theorem chain_v3 (A : BitVec 32) (hA : Scalar.cmpi .slt A 0#32 = 0#1) (s1 s2 s3 s4 : FVec Ideal S16x128 .bf16) (X : FVec Ideal S512x1024 .bf16) (w : FVec Ideal S1024x256 .bf16) :
    k0_pay271 (F := Ideal) (k0_pay269 A s1 s2 s3 s4 X w) (k0_pay270 A s1 s2 s3 s4 X w) = k0_pay256 X w := by
  simp only [k0_pay271, k0_pay269, k0_pay270, k0_pay256, tieM _ hA]

theorem chain_h0 (A : BitVec 32) (hA : Scalar.cmpi .slt A 0#32 = 0#1) (s1 s2 s3 s4 : FVec Ideal S16x128 .bf16) (X : FVec Ideal S528x1024 .bf16) (w : FVec Ideal S1024x512 .bf16) :
    k0_pay259 (F := Ideal) A s1 s2 s3 (k0_pay257 A s4 X) (Scalar.cmpi .slt A 0#32) (k0_pay258 A s4 X) w = k0_pay255 X w := by
  simp only [k0_pay259, k0_pay258, k0_pay257, k0_pay255, tieE _ hA]

theorem chain_c1 (A : BitVec 32) (hA : Scalar.cmpi .slt A 0#32 = 0#1) (s1 s2 s3 s4 : FVec Ideal S16x128 .bf16) (X : FVec Ideal S528x1024 .bf16) (w : FVec Ideal S1024x512 .bf16) :
    k0_pay262 (F := Ideal) A s1 s2 s3 s4 X w = k0_pay255 X w := by
  simp only [k0_pay262, k0_pay255, tieE _ hA]

theorem chain_h1 (A : BitVec 32) (hA : Scalar.cmpi .slt A 0#32 = 0#1) (s1 s2 s3 s4 : FVec Ideal S16x128 .bf16) (X : FVec Ideal S528x1024 .bf16) (w : FVec Ideal S1024x512 .bf16) :
    k0_pay268 (F := Ideal) A s1 (k0_pay265 A s2 s3 X) (k0_pay266 A s2 s3 s4 X) (k0_pay267 A s2 s3 X) w = k0_pay255 X w := by
  simp only [k0_pay268, k0_pay267, k0_pay266, k0_pay265, k0_pay255, tieE _ hA]

theorem chain_c2 (A : BitVec 32) (hA : Scalar.cmpi .slt A 0#32 = 0#1) (s1 s2 s3 s4 : FVec Ideal S16x128 .bf16) (X : FVec Ideal S528x1024 .bf16) (w : FVec Ideal S1024x512 .bf16) :
    k0_pay272 (F := Ideal) A s1 s2 s3 s4 X w = k0_pay255 X w := by
  simp only [k0_pay272, k0_pay255, tieE _ hA]

theorem chain_h2 (A : BitVec 32) (hA : Scalar.cmpi .slt A 0#32 = 0#1) (s1 s2 s3 s4 : FVec Ideal S16x128 .bf16) (t : FVec Ideal S528x512 .f32) (X : FVec Ideal S528x1024 .bf16) (w : FVec Ideal S1024x512 .bf16) :
    k0_pay277 (F := Ideal) A s1 s2 t (k0_pay273 A s3 s4 X) (Scalar.cmpi .slt A 0#32) (k0_pay274 A s3 s4 X) w = k0_pay276 t (k0_pay255 X w) := by
  simp only [k0_pay277, k0_pay276, k0_pay274, k0_pay273, k0_pay255, tieE _ hA]

end Cert.Kernel.Value
-- ==== Proof.Mix.Pieces.lean ====
/- The rows one tile of the token mixing reads: its own, those of its neighbour, and the products of all of them with the gates of the convolution. -/
module

public import proofs.«01_k».proof.Proof.Mix.Tile
public import Idealize.ShloMosaic.Lib.Pipeline.ValueKit
public import Idealize.ShloMosaic.Lib.Pipeline.ReadBack
public import Idealize.ShloMosaic.Lib.Pointwise

@[expose] public section

set_option maxRecDepth 16384
set_option maxHeartbeats 1000000

noncomputable section

namespace Cert.Kernel.Value

open Cert.Kernel Cert.Kernel.Gen Idealize.ShloMosaic Idealize.ShloMosaic.TcCoe Idealize.SL.Sem

/-- One row of the tile and its neighbour's first ones. -/
def rowE (x0 : FVec Ideal S512x1024 .f32) (x1 : FVec Ideal S16x1024 .f32) (s : BitVec 1) (r : Fin 528) (k : Fin 1024) : EReal :=
  if h : (r : ℕ) < 512 then x0 (ix2 ⟨r, h⟩ k) else if s = 1#1 then x1 (ix2 ⟨r - 512, by omega⟩ k) else 0

theorem own_at (x0 : FVec Ideal S512x1024 .f32) (a : Fin 512) (k : Fin 1024) : k0_pay252 (F := Ideal) x0 (ix2 a k) = x0 (ix2 a k) := by
  pointwise [k0_pay252, k0_pay251]

theorem own2_at (x0 : FVec Ideal S512x1024 .f32) (a : Fin 512) (k : Fin 1024) : k0_pay251 (F := Ideal) x0 (ix2 a k) = x0 (ix2 a k) := by
  pointwise [k0_pay251]

theorem next_at (s : BitVec 1) (x1 : FVec Ideal S16x1024 .f32) (a : Fin 16) (k : Fin 1024) :
    k0_pay253 (F := Ideal) s x1 (ix2 a k) = if s = 1#1 then x1 (ix2 a k) else 0 := by
  have hs : s = 0#1 ∨ s = 1#1 := by revert s; decide
  rcases hs with rfl | rfl
  · pointwise [k0_pay253, Scalar.select]
    rw [if_neg (by decide), if_neg (by decide)]
    rfl
  · pointwise [k0_pay253, Scalar.select]
    rw [if_pos (by decide)]

theorem two_cover (p0 : FVec Ideal S512x1024 .bf16) (p1 : FVec Ideal S16x1024 .bf16) (r : Fin 528) (k : Fin 1024) :
    ∃ p ∈ ([⟨Rect.unit ![512, 0] ![16, 1024] inb_S528x1024_S16x1024_512_0, p1⟩, ⟨Rect.unit ![0, 0] ![512, 1024] inb_S528x1024_S512x1024_0_0, p0⟩] : List (View.Piece (Elt Ideal) S528x1024 .bf16)),
      (ix2 r k : S528x1024.Idx) ∈ p.1.set := by
  by_cases h : (r : ℕ) < 512
  · refine ⟨⟨Rect.unit ![0, 0] ![512, 1024] inb_S528x1024_S512x1024_0_0, p0⟩, List.Mem.tail _ (List.Mem.head _), ?_⟩
    refine (Rect.mem_set_unit (inb := inb_S528x1024_S512x1024_0_0)).mpr fun a => ?_
    fin_cases a
    · exact ⟨Nat.zero_le _, by simpa using h⟩
    · exact ⟨Nat.zero_le _, by simpa using k.2⟩
  · refine ⟨⟨Rect.unit ![512, 0] ![16, 1024] inb_S528x1024_S16x1024_512_0, p1⟩, List.Mem.head _, ?_⟩
    refine (Rect.mem_set_unit (inb := inb_S528x1024_S16x1024_512_0)).mpr fun a => ?_
    fin_cases a
    · exact ⟨by simpa using h, by simpa using r.2⟩
    · exact ⟨Nat.zero_le _, by simpa using k.2⟩

theorem two_at (p0 : FVec Ideal S512x1024 .bf16) (p1 : FVec Ideal S16x1024 .bf16) (r : Fin 528) (k : Fin 1024) :
    View.canon ([⟨Rect.unit ![512, 0] ![16, 1024] inb_S528x1024_S16x1024_512_0, p1⟩, ⟨Rect.unit ![0, 0] ![512, 1024] inb_S528x1024_S512x1024_0_0, p0⟩] : List (View.Piece (Elt Ideal) S528x1024 .bf16)) (ix2 r k)
      = if h : (r : ℕ) < 512 then p0 (ix2 ⟨r, h⟩ k) else p1 (ix2 ⟨r - 512, by omega⟩ k) := by
  refine View.canon_eq_of_allAt _ _ _ (two_cover p0 p1 r k) (View.allAt_cons_unit _ _ _ _ _ (fun x h => ?_) (View.allAt_cons_unit _ _ _ _ _ (fun x h => ?_) (fun p hp => absurd hp List.not_mem_nil)))
  · have h0 : (r : ℕ) = 512 + (x 0 : ℕ) := h 0
    have h1 : (k : ℕ) = 0 + (x 1 : ℕ) := h 1
    rw [dif_neg (by omega)]
    congr 1
    idx_ext
  · have h0 : (r : ℕ) = 0 + (x 0 : ℕ) := h 0
    have h1 : (k : ℕ) = 0 + (x 1 : ℕ) := h 1
    have := (x 0).2
    rw [dif_pos (by show (r : ℕ) < 512; have : (x 0 : ℕ) < 512 := (x 0).2; omega)]
    congr 1
    idx_ext

theorem ext_all (v : View sig .tc .vmem S528x1024 .bf16) (x0 : FVec Ideal S512x1024 .f32) (x1 : FVec Ideal S16x1024 .f32) (s : BitVec 1) (r : Fin 528) (k : Fin 1024) :
    (v.readCov ([⟨Rect.unit ![512, 0] ![16, 1024] inb_S528x1024_S16x1024_512_0, k0_pay253 (F := Ideal) s x1⟩, ⟨Rect.unit ![0, 0] ![512, 1024] inb_S528x1024_S512x1024_0_0, k0_pay252 (F := Ideal) x0⟩] : List (View.Piece (Elt Ideal) S528x1024 .bf16)) (Rect.unit (s := S528x1024) ![0, 0] ![528, 1024] inb_S528x1024_S528x1024_0_0).toLoadRect : FVec Ideal S528x1024 .bf16) (ix2 r k) = rowE x0 x1 s r k := by
  rw [View.readCov_eq_canon']
  have e : (Rect.unit (s := S528x1024) ![0, 0] ![528, 1024] inb_S528x1024_S528x1024_0_0).toLoadRect.idx (ix2 r k) = (ix2 r k : S528x1024.Idx) := by
    funext a
    refine Fin.ext ((Rect.idx_unit_val _ _ _ _ a).trans ?_)
    fin_cases a <;> simp
  show View.canon _ _ = _
  rw [e, two_at, rowE]
  split
  · rw [own_at]
  · rw [next_at]

theorem ext_own (v : View sig .tc .vmem S528x1024 .bf16) (x0 : FVec Ideal S512x1024 .f32) (x1 : FVec Ideal S16x1024 .f32) (s : BitVec 1) (a : Fin 512) (k : Fin 1024) :
    (v.readCov ([⟨Rect.unit ![512, 0] ![16, 1024] inb_S528x1024_S16x1024_512_0, k0_pay253 (F := Ideal) s x1⟩, ⟨Rect.unit ![0, 0] ![512, 1024] inb_S528x1024_S512x1024_0_0, k0_pay252 (F := Ideal) x0⟩] : List (View.Piece (Elt Ideal) S528x1024 .bf16)) (Rect.unit (s := S528x1024) ![0, 0] ![512, 1024] inb_S528x1024_S512x1024_0_0).toLoadRect : FVec Ideal S512x1024 .bf16) (ix2 a k) = x0 (ix2 a k) := by
  rw [View.readCov_eq_canon']
  have e : (Rect.unit (s := S528x1024) ![0, 0] ![512, 1024] inb_S528x1024_S512x1024_0_0).toLoadRect.idx (ix2 a k) = (ix2 (⟨a, by omega⟩ : Fin 528) k : S528x1024.Idx) := by
    funext a'
    refine Fin.ext ((Rect.idx_unit_val _ _ _ _ a').trans ?_)
    fin_cases a' <;> simp
  show View.canon _ _ = _
  rw [e, two_at, dif_pos a.2, own_at]

theorem ch_cover (p0 p1 p2 : FVec Ideal S528x512 .f32) (h : FVec Ideal S16x1536 .f32) (r : Fin 544) (q : Fin 1536) :
    ∃ p ∈ ([⟨Rect.unit ![16, 1024] ![528, 512] inb_S544x1536_S528x512_16_1024, p2⟩, ⟨Rect.unit ![16, 512] ![528, 512] inb_S544x1536_S528x512_16_512, p1⟩, ⟨Rect.unit ![16, 0] ![528, 512] inb_S544x1536_S528x512_16_0, p0⟩, ⟨Rect.unit ![0, 0] ![16, 1536] inb_S544x1536_S16x1536_0_0, h⟩] : List (View.Piece (Elt Ideal) S544x1536 .f32)), (ix2 r q : S544x1536.Idx) ∈ p.1.set := by
  by_cases hr : (r : ℕ) < 16
  · refine ⟨⟨Rect.unit ![0, 0] ![16, 1536] inb_S544x1536_S16x1536_0_0, h⟩, List.Mem.tail _ (List.Mem.tail _ (List.Mem.tail _ (List.Mem.head _))), ?_⟩
    refine (Rect.mem_set_unit (inb := inb_S544x1536_S16x1536_0_0)).mpr fun a => ?_
    fin_cases a
    · exact ⟨by first | exact Nat.zero_le _ | simpa using hr, by first | simpa using hr | simpa using r.2⟩
    · exact ⟨by first | exact Nat.zero_le _ | simp; omega, by first | simpa using q.2 | simp; omega⟩
  have hr : 16 ≤ (r : ℕ) := by omega
  by_cases h0 : (q : ℕ) < 512
  · refine ⟨⟨Rect.unit ![16, 0] ![528, 512] inb_S544x1536_S528x512_16_0, p0⟩, List.Mem.tail _ (List.Mem.tail _ (List.Mem.head _)), ?_⟩
    refine (Rect.mem_set_unit (inb := inb_S544x1536_S528x512_16_0)).mpr fun a => ?_
    fin_cases a
    · exact ⟨by first | exact Nat.zero_le _ | simpa using hr, by first | simpa using hr | simpa using r.2⟩
    · exact ⟨by first | exact Nat.zero_le _ | simp; omega, by first | simpa using q.2 | simp; omega⟩
  by_cases h1 : (q : ℕ) < 1024
  · refine ⟨⟨Rect.unit ![16, 512] ![528, 512] inb_S544x1536_S528x512_16_512, p1⟩, List.Mem.tail _ (List.Mem.head _), ?_⟩
    refine (Rect.mem_set_unit (inb := inb_S544x1536_S528x512_16_512)).mpr fun a => ?_
    fin_cases a
    · exact ⟨by first | exact Nat.zero_le _ | simpa using hr, by first | simpa using hr | simpa using r.2⟩
    · exact ⟨by first | exact Nat.zero_le _ | simp; omega, by first | simpa using q.2 | simp; omega⟩
  · refine ⟨⟨Rect.unit ![16, 1024] ![528, 512] inb_S544x1536_S528x512_16_1024, p2⟩, List.Mem.head _, ?_⟩
    refine (Rect.mem_set_unit (inb := inb_S544x1536_S528x512_16_1024)).mpr fun a => ?_
    fin_cases a
    · exact ⟨by first | exact Nat.zero_le _ | simpa using hr, by first | simpa using hr | simpa using r.2⟩
    · exact ⟨by first | exact Nat.zero_le _ | simp; omega, by first | simpa using q.2 | simp; omega⟩

/-- The products' rows as stored: sixteen of the tile before, then the tile's own and its neighbour's. -/
def chF (h : FVec Ideal S16x1536 .f32) (G : Fin 528 → Fin 1536 → EReal) (r : Fin 544) (q : Fin 1536) : EReal :=
  if hr : (r : ℕ) < 16 then h (ix2 ⟨r, hr⟩ q) else G ⟨r - 16, by omega⟩ q

theorem ch_at (p0 p1 p2 : FVec Ideal S528x512 .f32) (h : FVec Ideal S16x1536 .f32) (G : Fin 528 → Fin 1536 → EReal)
    (e0 : ∀ r (j : Fin 512), p0 (ix2 r j) = G r ⟨0 + j, by omega⟩) (e1 : ∀ r (j : Fin 512), p1 (ix2 r j) = G r ⟨512 + j, by omega⟩) (e2 : ∀ r (j : Fin 512), p2 (ix2 r j) = G r ⟨1024 + j, by omega⟩)
    (r : Fin 544) (q : Fin 1536) : View.canon ([⟨Rect.unit ![16, 1024] ![528, 512] inb_S544x1536_S528x512_16_1024, p2⟩, ⟨Rect.unit ![16, 512] ![528, 512] inb_S544x1536_S528x512_16_512, p1⟩, ⟨Rect.unit ![16, 0] ![528, 512] inb_S544x1536_S528x512_16_0, p0⟩, ⟨Rect.unit ![0, 0] ![16, 1536] inb_S544x1536_S16x1536_0_0, h⟩] : List (View.Piece (Elt Ideal) S544x1536 .f32)) (ix2 r q) = chF h G r q := by
  unfold chF
  refine View.canon_eq_of_allAt _ _ _ (ch_cover p0 p1 p2 h r q) (View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (fun p hp => absurd hp List.not_mem_nil)))))
  · have e0r : (r : ℕ) = 16 + (x 0 : ℕ) := hx 0
    have e1q : (q : ℕ) = 1024 + (x 1 : ℕ) := hx 1
    have l0 : (x 0 : ℕ) < 528 := (x 0).2
    have l1 : (x 1 : ℕ) < 512 := (x 1).2
    rw [dif_neg (by omega)]
    have ex : x = (ix2 (⟨r - 16, by omega⟩ : Fin 528) (⟨q - 1024, by omega⟩ : Fin 512) : S528x512.Idx) := by
      funext a
      fin_cases a
      · exact Fin.ext (show (x 0 : ℕ) = r - 16 by omega)
      · exact Fin.ext (show (x 1 : ℕ) = q - 1024 by omega)
    refine (congrArg p2 ex).trans ((e2 _ _).trans ?_)
    congr 1
    exact Fin.ext (show 1024 + ((q : ℕ) - 1024) = q by omega)
  · have e0r : (r : ℕ) = 16 + (x 0 : ℕ) := hx 0
    have e1q : (q : ℕ) = 512 + (x 1 : ℕ) := hx 1
    have l0 : (x 0 : ℕ) < 528 := (x 0).2
    have l1 : (x 1 : ℕ) < 512 := (x 1).2
    rw [dif_neg (by omega)]
    have ex : x = (ix2 (⟨r - 16, by omega⟩ : Fin 528) (⟨q - 512, by omega⟩ : Fin 512) : S528x512.Idx) := by
      funext a
      fin_cases a
      · exact Fin.ext (show (x 0 : ℕ) = r - 16 by omega)
      · exact Fin.ext (show (x 1 : ℕ) = q - 512 by omega)
    refine (congrArg p1 ex).trans ((e1 _ _).trans ?_)
    congr 1
    exact Fin.ext (show 512 + ((q : ℕ) - 512) = q by omega)
  · have e0r : (r : ℕ) = 16 + (x 0 : ℕ) := hx 0
    have e1q : (q : ℕ) = 0 + (x 1 : ℕ) := hx 1
    have l0 : (x 0 : ℕ) < 528 := (x 0).2
    have l1 : (x 1 : ℕ) < 512 := (x 1).2
    rw [dif_neg (by omega)]
    have ex : x = (ix2 (⟨r - 16, by omega⟩ : Fin 528) (⟨q - 0, by omega⟩ : Fin 512) : S528x512.Idx) := by
      funext a
      fin_cases a
      · exact Fin.ext (show (x 0 : ℕ) = r - 16 by omega)
      · exact Fin.ext (show (x 1 : ℕ) = q - 0 by omega)
    refine (congrArg p0 ex).trans ((e0 _ _).trans ?_)
    congr 1
    exact Fin.ext (show 0 + ((q : ℕ) - 0) = q by omega)
  · have e0r : (r : ℕ) = 0 + (x 0 : ℕ) := hx 0
    have e1q : (q : ℕ) = 0 + (x 1 : ℕ) := hx 1
    have l0 : (x 0 : ℕ) < 16 := (x 0).2
    rw [dif_pos (by omega)]
    have ex : x = (ix2 (⟨r, by omega⟩ : Fin 16) q : S16x1536.Idx) := by
      funext a
      fin_cases a
      · exact Fin.ext (show (x 0 : ℕ) = r by omega)
      · exact Fin.ext (show (x 1 : ℕ) = q by omega)
    exact congrArg h ex

theorem ch_load (v : View sig .tc .vmem S544x1536 .f32) (p0 p1 p2 : FVec Ideal S528x512 .f32) (h : FVec Ideal S16x1536 .f32) (G : Fin 528 → Fin 1536 → EReal)
    (e0 : ∀ r (j : Fin 512), p0 (ix2 r j) = G r ⟨0 + j, by omega⟩) (e1 : ∀ r (j : Fin 512), p1 (ix2 r j) = G r ⟨512 + j, by omega⟩) (e2 : ∀ r (j : Fin 512), p2 (ix2 r j) = G r ⟨1024 + j, by omega⟩)
    (o k : ℕ) (ho : o + 512 ≤ 544) (hk : k + 512 ≤ 1536) (inb : ∀ a, ![o, k] a + ![512, 512] a ≤ S544x1536.size a) (a : Fin 512) (j : Fin 512) :
    (v.readCov ([⟨Rect.unit ![16, 1024] ![528, 512] inb_S544x1536_S528x512_16_1024, p2⟩, ⟨Rect.unit ![16, 512] ![528, 512] inb_S544x1536_S528x512_16_512, p1⟩, ⟨Rect.unit ![16, 0] ![528, 512] inb_S544x1536_S528x512_16_0, p0⟩, ⟨Rect.unit ![0, 0] ![16, 1536] inb_S544x1536_S16x1536_0_0, h⟩] : List (View.Piece (Elt Ideal) S544x1536 .f32)) (Rect.unit (s := S544x1536) ![o, k] ![512, 512] inb).toLoadRect : FVec Ideal S512x512 .f32) (ix2 a j) = chF h G ⟨o + a, by omega⟩ ⟨k + j, by omega⟩ := by
  rw [View.readCov_eq_canon']
  have e : (Rect.unit (s := S544x1536) ![o, k] ![512, 512] inb).toLoadRect.idx (ix2 a j) = (ix2 (⟨o + a, by omega⟩ : Fin 544) (⟨k + j, by omega⟩ : Fin 1536) : S544x1536.Idx) := by
    funext a'
    refine Fin.ext ((Rect.idx_unit_val _ _ _ _ a').trans ?_)
    fin_cases a' <;> simp
  show View.canon _ _ = _
  rw [e, ch_at p0 p1 p2 h G e0 e1 e2]

/-- A load of columns of a block. -/
theorem ld_cols (x : S1024x8704.Idx → Elt Ideal .bf16) (o z : ℕ) (inb : ∀ a, ![0, o] a + ![1024, z] a ≤ S1024x8704.size a) (k : Fin 1024) (j : Fin z) (c : Fin 8704) (hc : (c : ℕ) = o + j) :
    View.ld x (Rect.unit (s := S1024x8704) ![0, o] ![1024, z] inb) (ix2 k j) = x (ix2 k c) := by
  refine View.ld_unit_apply_of _ _ _ _ _ _ fun a => ?_
  fin_cases a
  · simp
  · simpa using hc

/-- The convolution of one row at one channel. -/
def convF (l m r : Fin 1536 → EReal) (x3 : FVec Ideal S1x1x4608 .f32) (q : Fin 1536) : EReal :=
  l q * x3 (ix3 0 0 ⟨q, by omega⟩) + m q * x3 (ix3 0 0 ⟨1536 + q, by omega⟩) + r q * x3 (ix3 0 0 ⟨3072 + q, by omega⟩)

theorem conv_at (X : FVec Ideal S512x1024 .bf16) (x3 : FVec Ideal S1x1x4608 .f32) (a0 b0 c0 a1 b1 c1 a2 b2 c2 : FVec Ideal S512x512 .f32) (w0 w1 w2 : FVec Ideal S1024x512 .bf16)
    (L M R : Fin 512 → Fin 1536 → EReal) (w : Fin 1024 → Fin 1536 → EReal)
    (ha0 : ∀ a (j : Fin 512), a0 (ix2 a j) = L a ⟨0 + j, by omega⟩) (hb0 : ∀ a (j : Fin 512), b0 (ix2 a j) = M a ⟨0 + j, by omega⟩) (hc0 : ∀ a (j : Fin 512), c0 (ix2 a j) = R a ⟨0 + j, by omega⟩)
    (ha1 : ∀ a (j : Fin 512), a1 (ix2 a j) = L a ⟨512 + j, by omega⟩) (hb1 : ∀ a (j : Fin 512), b1 (ix2 a j) = M a ⟨512 + j, by omega⟩) (hc1 : ∀ a (j : Fin 512), c1 (ix2 a j) = R a ⟨512 + j, by omega⟩)
    (ha2 : ∀ a (j : Fin 512), a2 (ix2 a j) = L a ⟨1024 + j, by omega⟩) (hb2 : ∀ a (j : Fin 512), b2 (ix2 a j) = M a ⟨1024 + j, by omega⟩) (hc2 : ∀ a (j : Fin 512), c2 (ix2 a j) = R a ⟨1024 + j, by omega⟩)
    (hw0 : ∀ k (j : Fin 512), w0 (ix2 k j) = w k ⟨0 + j, by omega⟩) (hw1 : ∀ k (j : Fin 512), w1 (ix2 k j) = w k ⟨512 + j, by omega⟩) (hw2 : ∀ k (j : Fin 512), w2 (ix2 k j) = w k ⟨1024 + j, by omega⟩)
    (a : Fin 512) (q : Fin 1536) :
    k0_pay286 (F := Ideal) X (k0_pay283 x3) (k0_pay284 X x3 a0 b0 c0 w0) (k0_pay285 x3 a1 b1) c1 w1 a2 b2 c2 w2 (ix2 a q)
      = dotF (fun k => X (ix2 a k)) (fun k => w k q) * convF (L a) (M a) (R a) x3 q := by
  pointwise [k0_pay286, k0_pay285, k0_pay284, k0_pay283]
  unfold convF dotF
  split
  · have e0 : ∀ h, (⟨0 + (q : ℕ), h⟩ : Fin 1536) = q := fun h => Fin.ext (by dsimp only <;> omega)
    have e1 : ∀ h, (⟨(q : ℕ), h⟩ : Fin 4608) = ⟨(q : ℕ), by omega⟩ := fun h => Fin.ext (by dsimp only <;> omega)
    have e2 : ∀ h, (⟨1536 + (q : ℕ), h⟩ : Fin 4608) = ⟨1536 + q, by omega⟩ := fun h => Fin.ext (by dsimp only <;> omega)
    have e3 : ∀ h, (⟨3072 + (q : ℕ), h⟩ : Fin 4608) = ⟨3072 + q, by omega⟩ := fun h => Fin.ext (by dsimp only <;> omega)
    simp only [ha0, hb0, hc0, hw0, e0, e1, e2, e3]
  · split
    · have e0 : ∀ h, (⟨512 + ((q : ℕ) - 512), h⟩ : Fin 1536) = q := fun h => Fin.ext (by dsimp only <;> omega)
      have e1 : ∀ h, (⟨512 + ((q : ℕ) - 512), h⟩ : Fin 4608) = ⟨(q : ℕ), by omega⟩ := fun h => Fin.ext (by dsimp only <;> omega)
      have e2 : ∀ h, (⟨2048 + ((q : ℕ) - 512), h⟩ : Fin 4608) = ⟨1536 + q, by omega⟩ := fun h => Fin.ext (by dsimp only <;> omega)
      have e3 : ∀ h, (⟨3584 + ((q : ℕ) - 512), h⟩ : Fin 4608) = ⟨3072 + q, by omega⟩ := fun h => Fin.ext (by dsimp only <;> omega)
      simp only [ha1, hb1, hc1, hw1, e0, e1, e2, e3]
    · have e0 : ∀ h, (⟨1024 + ((q : ℕ) - 512 - 512), h⟩ : Fin 1536) = q := fun h => Fin.ext (by dsimp only <;> omega)
      have e1 : ∀ h, (⟨1024 + ((q : ℕ) - 512 - 512), h⟩ : Fin 4608) = ⟨(q : ℕ), by omega⟩ := fun h => Fin.ext (by dsimp only <;> omega)
      have e2 : ∀ h, (⟨2560 + ((q : ℕ) - 512 - 512), h⟩ : Fin 4608) = ⟨1536 + q, by omega⟩ := fun h => Fin.ext (by dsimp only <;> omega)
      have e3 : ∀ h, (⟨4096 + ((q : ℕ) - 512 - 512), h⟩ : Fin 4608) = ⟨3072 + q, by omega⟩ := fun h => Fin.ext (by dsimp only <;> omega)
      simp only [ha2, hb2, hc2, hw2, e0, e1, e2, e3]

end Cert.Kernel.Value
-- ==== Proof.Mix.TileB.lean ====
/- One middle tile of the token mixing: what a point leaves in its scratch. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise
public import proofs.«01_k».proof.Proof.Mix.Ties
public import proofs.«01_k».proof.Proof.Mix.Pieces

@[expose] public section

set_option maxRecDepth 16384
set_option maxHeartbeats 2000000

noncomputable section

namespace Cert.Kernel.Value

open Cert.Kernel Cert.Kernel.Gen Idealize.ShloMosaic Idealize.ShloMosaic.TcCoe Idealize.SL.Sem
open Idealize.ShloMosaic.Pipeline (Dat)

theorem arg0_nonneg (i : grid0.Coords) : Scalar.cmpi .slt (BitVec.ofNat 32 (i 0 : ℕ)) 0#32 = 0#1 := by
  have h : ∀ k : Fin 33, Scalar.cmpi .slt (BitVec.ofNat 32 (k : ℕ)) 0#32 = 0#1 := by decide +kernel
  exact h (i 0)

/-- The product of a row's two gates of the convolution. -/
def prodF (R : Fin 528 → Fin 1024 → EReal) (w : FVec Ideal S1024x8704 .bf16) (r : Fin 528) (q : Fin 1536) : EReal :=
  dotF (R r) (fun k => w (ix2 k ⟨1536 + q, by omega⟩)) * dotF (R r) (fun k => w (ix2 k ⟨3072 + q, by omega⟩))

theorem prod_at (E : FVec Ideal S528x1024 .bf16) (R : Fin 528 → Fin 1024 → EReal) (hE : ∀ r k, E (ix2 r k) = R r k) (w : FVec Ideal S1024x8704 .bf16)
    (w1 w2 : FVec Ideal S1024x512 .bf16) (c : ℕ) (hc : c + 512 ≤ 1536) (h1 : ∀ k (j : Fin 512), w1 (ix2 k j) = w (ix2 k ⟨1536 + (c + j), by omega⟩))
    (h2 : ∀ k (j : Fin 512), w2 (ix2 k j) = w (ix2 k ⟨3072 + (c + j), by omega⟩)) (r : Fin 528) (j : Fin 512) :
    k0_pay276 (F := Ideal) (k0_pay255 E w1) (k0_pay255 E w2) (ix2 r j) = prodF R w r ⟨c + j, by omega⟩ := by
  have e1 := proj_at E w1 r j
  have e2 := proj_at E w2 r j
  generalize k0_pay255 (F := Ideal) E w1 = y1 at *
  generalize k0_pay255 (F := Ideal) E w2 = y2 at *
  pointwise [k0_pay276]
  rw [e1, e2]
  simp only [hE, h1, h2]
  rfl

theorem prod0_at (E : FVec Ideal S528x1024 .bf16) (R : Fin 528 → Fin 1024 → EReal) (hE : ∀ r k, E (ix2 r k) = R r k) (w : FVec Ideal S1024x8704 .bf16)
    (w1 w2 : FVec Ideal S1024x512 .bf16) (c : ℕ) (hc : c + 512 ≤ 1536) (h1 : ∀ k (j : Fin 512), w1 (ix2 k j) = w (ix2 k ⟨1536 + (c + j), by omega⟩))
    (h2 : ∀ k (j : Fin 512), w2 (ix2 k j) = w (ix2 k ⟨3072 + (c + j), by omega⟩)) (r : Fin 528) (j : Fin 512) :
    k0_pay275 (F := Ideal) (k0_pay255 E w1) (k0_pay255 E w2) (ix2 r j) = prodF R w r ⟨c + j, by omega⟩ :=
  prod_at E R hE w w1 w2 c hc h1 h2 r j

theorem ld_blk (x : S8x128x128.Idx → Elt Ideal .bf16) (n : ℕ) (inb : ∀ a, ![n, 0, 0] a + ![1, 128, 128] a ≤ S8x128x128.size a) (m : Fin 8) (hm : (m : ℕ) = n) (i p : Fin 128) :
    View.ld x (Rect.unit (s := S8x128x128) ![n, 0, 0] ![1, 128, 128] inb) (ix3 0 i p) = x (ix3 m i p) := by
  refine View.ld_unit_apply_of _ _ _ _ _ _ fun a => ?_
  fin_cases a
  · simpa using hm
  · simp
  · simp

theorem halo_at (x : S544x1536.Idx → Elt Ideal .f32) (j : Fin 16) (q : Fin 1536) :
    k0_pay254 (F := Ideal) (View.ld x (Rect.unit (s := S544x1536) ![512, 0] ![16, 1536] inb_S544x1536_S16x1536_512_0)) (ix2 j q) = x (ix2 ⟨512 + j, by omega⟩ q) := by
  have e : View.ld x (Rect.unit (s := S544x1536) ![512, 0] ![16, 1536] inb_S544x1536_S16x1536_512_0) (ix2 j q) = x (ix2 ⟨512 + j, by omega⟩ q) := by
    refine View.ld_unit_apply_of _ _ _ _ _ _ fun a => ?_
    fin_cases a <;> simp
  generalize View.ld x (Rect.unit (s := S544x1536) ![512, 0] ![16, 1536] inb_S544x1536_S16x1536_512_0) = y at *
  pointwise [k0_pay254]
  exact e

/-- The value branch of a row, twice gelu, normed. -/
def vnF (xr : Fin 1024 → EReal) (w : FVec Ideal S1024x8704 .bf16) (g b : FVec Ideal S1x1024 .f32) (l : Fin 1024) : EReal :=
  lnE (Ideal.ofBits .f32 0x3827C5AC#32) (fun k => g2F (dotF xr (fun t => w (ix2 t ⟨5632 + k, by omega⟩)))) (fun k => g (ix2 0 k)) (fun k => b (ix2 0 k)) l

/-- The mixed rows of the spatial gate. -/
def mixF (V : Fin 512 → Fin 1024 → EReal) (W : FVec Ideal S8x128x128 .bf16) (B : FVec Ideal S1x8x128 .f32) (a : Fin 512) (b : Fin 1024) : EReal :=
  (∑ p : Fin 128, W (ix3 ⟨b / 128, by omega⟩ ⟨a % 128, by omega⟩ p) * V ⟨128 * (a / 128) + p, by omega⟩ b) + B (ix3 0 ⟨b / 128, by omega⟩ ⟨a % 128, by omega⟩)

/-- One entry of a tile's rows before their norm. -/
def tileF (X : Fin 512 → Fin 1024 → EReal) (cv : Fin 512 → Fin 1536 → EReal) (x2 : FVec Ideal S1x2048 .f32) (x4 x5 : FVec Ideal S1x1024 .f32) (x7 : FVec Ideal S1x8x128 .f32)
    (w : FVec Ideal S1024x8704 .bf16) (wa : FVec Ideal S1536x1024 .bf16) (wb wo : FVec Ideal S1024x1024 .bf16) (W : FVec Ideal S8x128x128 .bf16) (a : Fin 512) (b : Fin 1024) : EReal :=
  Ideal.ofBits .f32 0x3F9837F0#32 * X a b
    + dotF (fun e => (Ideal.ofBits .f32 0x3F800000#32 + Ideal.tanh (dotF (X a) (fun k => w (ix2 k ⟨7680 + e, by omega⟩)) + Ideal.ofBits .f32 0x3F000000#32 * x2 (ix2 0 ⟨1024 + e, by omega⟩)))
          * dotF (fun k => g2F (dotF (X a) (fun t => w (ix2 t ⟨4608 + k, by omega⟩))) * mixF (fun a l => vnF (X a) w x4 x5 l) W x7 a k) (fun k => wb (ix2 k e))
        + (Ideal.ofBits .f32 0x3F800000#32 + Ideal.tanh (dotF (X a) (fun k => w (ix2 k ⟨6656 + e, by omega⟩)) + Ideal.ofBits .f32 0x3F000000#32 * x2 (ix2 0 ⟨e, by omega⟩)))
          * ∑ q : Fin 1536, (dotF (X a) (fun k => w (ix2 k ⟨q, by omega⟩)) * cv a q) * wa (ix2 q e))
      (fun e => wo (ix2 e b))

theorem tile_at (x0 : FVec Ideal S512x1024 .f32) (X : FVec Ideal S512x1024 .bf16) (hX : ∀ a k, X (ix2 a k) = x0 (ix2 a k)) (A : FVec Ideal S512x1536 .bf16)
    (x2 : FVec Ideal S1x2048 .f32) (x4 x5 : FVec Ideal S1x1024 .f32) (x7 : FVec Ideal S1x8x128 .f32)
    (w : FVec Ideal S1024x8704 .bf16) (wa : FVec Ideal S1536x1024 .bf16) (wb wo : FVec Ideal S1024x1024 .bf16) (W : FVec Ideal S8x128x128 .bf16)
    (cv : Fin 512 → Fin 1536 → EReal) (hA : ∀ a q, A (ix2 a q) = dotF (fun k => X (ix2 a k)) (fun k => w (ix2 k ⟨q, by omega⟩)) * cv a q)
    (wgb wu wga : FVec Ideal S1024x1024 .bf16)
    (hgb : ∀ k (e : Fin 1024), wgb (ix2 k e) = w (ix2 k ⟨7680 + e, by omega⟩)) (hu : ∀ k (e : Fin 1024), wu (ix2 k e) = w (ix2 k ⟨4608 + e, by omega⟩)) (hga : ∀ k (e : Fin 1024), wga (ix2 k e) = w (ix2 k ⟨6656 + e, by omega⟩))
    (v0 v1 v2 v3 : FVec Ideal S512x256 .f32) (u0 u1 u2 u3 : FVec Ideal S1024x256 .bf16)
    (hv0 : v0 = k0_pay256 X u0) (hv1 : v1 = k0_pay256 X u1) (hv2 : v2 = k0_pay256 X u2) (hv3 : v3 = k0_pay256 X u3)
    (hu0 : ∀ k (j : Fin 256), u0 (ix2 k j) = w (ix2 k ⟨5632 + j, by omega⟩)) (hu1 : ∀ k (j : Fin 256), u1 (ix2 k j) = w (ix2 k ⟨5632 + (256 + j), by omega⟩))
    (hu2 : ∀ k (j : Fin 256), u2 (ix2 k j) = w (ix2 k ⟨5632 + (512 + j), by omega⟩)) (hu3 : ∀ k (j : Fin 256), u3 (ix2 k j) = w (ix2 k ⟨5632 + (768 + j), by omega⟩))
    (w0 w1 w2 w3 w4 w5 w6 w7 : FVec Ideal S1x128x128 .bf16)
    (e0 : ∀ i p, w0 (ix3 0 i p) = W (ix3 0 i p)) (e1 : ∀ i p, w1 (ix3 0 i p) = W (ix3 1 i p)) (e2 : ∀ i p, w2 (ix3 0 i p) = W (ix3 2 i p)) (e3 : ∀ i p, w3 (ix3 0 i p) = W (ix3 3 i p))
    (e4 : ∀ i p, w4 (ix3 0 i p) = W (ix3 4 i p)) (e5 : ∀ i p, w5 (ix3 0 i p) = W (ix3 5 i p)) (e6 : ∀ i p, w6 (ix3 0 i p) = W (ix3 6 i p)) (e7 : ∀ i p, w7 (ix3 0 i p) = W (ix3 7 i p))
    (V : FVec Ideal S512x1024 .bf16) (hV : V = k0_pay282 (k0_pay278 x4) (k0_pay279 x5) (k0_pay280 v0 v1 v2 v3) (k0_pay281 v0 v1 v2 v3))
    (a : Fin 512) (b : Fin 1024) :
    k0_pay3 (F := Ideal) (k0_pay251 x0) A (k0_pay303 (k0_pay302 X x2 wgb))
        (k0_pay304 (k0_pay287 X wu) (k0_pay300 V (k0_pay288 x7) (k0_pay289 V x7 w0) (k0_pay290 V x7 w1) (k0_pay294 (k0_pay291 V x7 w2) (k0_pay292 V x7 w2) (k0_pay293 V x7 w2))
          (k0_pay295 V (k0_pay288 x7) w3) (k0_pay296 V (k0_pay288 x7) w4) (k0_pay297 V (k0_pay288 x7) w5) (k0_pay298 V (k0_pay288 x7) w5) (k0_pay299 V (k0_pay288 x7) w5) w6 w7) wb)
        (k0_pay305 X wga) (k0_pay306 (k0_pay301 x2)) wa wo (ix2 a b)
      = tileF (fun a k => x0 (ix2 a k)) cv x2 x4 x5 x7 w wa wb wo W a b := by
  have hVa : ∀ a l, V (ix2 a l) = vnF (fun k => x0 (ix2 a k)) w x4 x5 l := by
    intro a l
    rw [hV, norm_v_at, hv0, hv1, hv2, hv3]
    unfold vnF
    congr 1
    funext k
    rw [catV_at X u0 u1 u2 u3 (fun t c => w (ix2 t ⟨5632 + c, by omega⟩)) hu0 hu1 hu2 hu3]
    simp only [hX]
  have hm : ∀ k, k0_pay300 (F := Ideal) V (k0_pay288 x7) (k0_pay289 V x7 w0) (k0_pay290 V x7 w1) (k0_pay294 (k0_pay291 V x7 w2) (k0_pay292 V x7 w2) (k0_pay293 V x7 w2))
          (k0_pay295 V (k0_pay288 x7) w3) (k0_pay296 V (k0_pay288 x7) w4) (k0_pay297 V (k0_pay288 x7) w5) (k0_pay298 V (k0_pay288 x7) w5) (k0_pay299 V (k0_pay288 x7) w5) w6 w7 (ix2 a k)
        = mixF (fun a l => vnF (fun k => x0 (ix2 a k)) w x4 x5 l) W x7 a k := by
    intro k
    rw [mixed_at V W x7 w0 w1 w2 w3 w4 w5 w6 w7 e0 e1 e2 e3 e4 e5 e6 e7 a k, mixedF, mixF]
    simp only [hVa]
  rw [carry_at, own2_at]
  simp only [gate_b_at, dot_at, gate_a_at, y_b_at, gelu_u_at, hm, hA, hX, hgb, hga, hu]
  rfl

/-- A tile's convolution from its rows, its neighbour's and the products of the row before. -/
def cvF (h : FVec Ideal S16x1536 .f32) (R : Fin 528 → Fin 1024 → EReal) (w : FVec Ideal S1024x8704 .bf16) (x3 : FVec Ideal S1x1x4608 .f32) (a : Fin 512) (q : Fin 1536) : EReal :=
  convF (chF h (prodF R w) ⟨15 + a, by omega⟩) (chF h (prodF R w) ⟨16 + a, by omega⟩) (chF h (prodF R w) ⟨17 + a, by omega⟩) x3 q

/-- What a middle point leaves in the carried rows. -/
theorem tile_B (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (xs0 : Vec Ideal S1024x8704 .bf16) (xs1 : Vec Ideal S1536x1024 .bf16) (xs2 : Vec Ideal S1024x1024 .bf16) (xs3 : Vec Ideal S1024x1024 .bf16) (xs4 : Vec Ideal S8x128x128 .bf16) (xs6 : Vec Ideal S544x1536 .f32) (xs7 : Vec Ideal S512x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 512) (b : Fin 1024) : sout0_B_7 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3 (ix2 a b)
      = tileF (fun a k => x0 (ix2 a k)) (cvF (k0_pay254 (F := Ideal) (View.ld xs6 (Rect.unit (s := S544x1536) ![512, 0] ![16, 1536] inb_S544x1536_S16x1536_512_0))) (rowE x0 x1 (Scalar.cmpi .slt (BitVec.ofNat 32 (i 0 : ℕ)) 31#32)) xs0 x3) x2 x4 x5 x7 xs0 xs1 xs2 xs3 xs4 a b := by
  frame_out
  have hA0 := arg0_nonneg i
  have hE := fun r k => ext_all arg25.view x0 x1 (Scalar.cmpi .slt (BitVec.ofNat 32 (i 0 : ℕ)) 31#32) r k
  refine tile_at x0 _ (fun a k => ext_own _ _ _ _ a k) _ x2 x4 x5 x7 xs0 xs1 xs2 xs3 xs4 _ ?_ _ _ _ (fun k j => ld_cols xs0 7680 1024 _ k j _ (by dsimp only <;> omega)) (fun k j => ld_cols xs0 4608 1024 _ k j _ (by dsimp only <;> omega)) (fun k j => ld_cols xs0 6656 1024 _ k j _ (by dsimp only <;> omega)) _ _ _ _ _ _ _ _ rfl (chain_v1 _ hA0 _ _ _ _ _ _) (chain_v2 _ hA0 _ _ _ _ _ _) (chain_v3 _ hA0 _ _ _ _ _ _)
    (fun k j => ld_cols xs0 5632 256 _ k j _ (by dsimp only <;> omega)) (fun k j => ld_cols xs0 5888 256 _ k j _ (by dsimp only <;> omega)) (fun k j => ld_cols xs0 6144 256 _ k j _ (by dsimp only <;> omega)) (fun k j => ld_cols xs0 6400 256 _ k j _ (by dsimp only <;> omega)) _ _ _ _ _ _ _ _ (fun i p => ld_blk xs4 0 _ 0 rfl i p) (fun i p => ld_blk xs4 1 _ 1 rfl i p) (fun i p => ld_blk xs4 2 _ 2 rfl i p) (fun i p => ld_blk xs4 3 _ 3 rfl i p) (fun i p => ld_blk xs4 4 _ 4 rfl i p) (fun i p => ld_blk xs4 5 _ 5 rfl i p) (fun i p => ld_blk xs4 6 _ 6 rfl i p) (fun i p => ld_blk xs4 7 _ 7 rfl i p) _ rfl a b
  intro a q
  exact conv_at _ x3 _ _ _ _ _ _ _ _ _ _ _ _ (fun a => chF (k0_pay254 (F := Ideal) (View.ld xs6 (Rect.unit (s := S544x1536) ![512, 0] ![16, 1536] inb_S544x1536_S16x1536_512_0))) (prodF (rowE x0 x1 (Scalar.cmpi .slt (BitVec.ofNat 32 (i 0 : ℕ)) 31#32)) xs0) ⟨15 + a, by omega⟩) (fun a => chF (k0_pay254 (F := Ideal) (View.ld xs6 (Rect.unit (s := S544x1536) ![512, 0] ![16, 1536] inb_S544x1536_S16x1536_512_0))) (prodF (rowE x0 x1 (Scalar.cmpi .slt (BitVec.ofNat 32 (i 0 : ℕ)) 31#32)) xs0) ⟨16 + a, by omega⟩) (fun a => chF (k0_pay254 (F := Ideal) (View.ld xs6 (Rect.unit (s := S544x1536) ![512, 0] ![16, 1536] inb_S544x1536_S16x1536_512_0))) (prodF (rowE x0 x1 (Scalar.cmpi .slt (BitVec.ofNat 32 (i 0 : ℕ)) 31#32)) xs0) ⟨17 + a, by omega⟩) (fun k q => xs0 (ix2 k ⟨q, by omega⟩))
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        15 0 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        16 0 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        17 0 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        15 512 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        16 512 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        17 512 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        15 1024 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        16 1024 (by omega) (by omega) _ a j)
    (fun a j => ch_load _ _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j)
        17 1024 (by omega) (by omega) _ a j)
    (fun k j => ld_cols xs0 0 512 _ k j _ (by dsimp only <;> omega)) (fun k j => ld_cols xs0 512 512 _ k j _ (by dsimp only <;> omega)) (fun k j => ld_cols xs0 1024 512 _ k j _ (by dsimp only <;> omega)) a q

/-- The products of a tile's last rows, which a middle point leaves for the next one. -/
theorem halo_B (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (xs0 : Vec Ideal S1024x8704 .bf16) (xs1 : Vec Ideal S1536x1024 .bf16) (xs2 : Vec Ideal S1024x1024 .bf16) (xs3 : Vec Ideal S1024x1024 .bf16) (xs4 : Vec Ideal S8x128x128 .bf16) (xs6 : Vec Ideal S544x1536 .f32) (xs7 : Vec Ideal S512x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (r : Fin 544) (q : Fin 1536) : sout0_B_6 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3 (ix2 r q) = chF (k0_pay254 (F := Ideal) (View.ld xs6 (Rect.unit (s := S544x1536) ![512, 0] ![16, 1536] inb_S544x1536_S16x1536_512_0))) (prodF (rowE x0 x1 (Scalar.cmpi .slt (BitVec.ofNat 32 (i 0 : ℕ)) 31#32)) xs0) r q := by
  frame_out
  have hA0 := arg0_nonneg i
  have hE := fun r k => ext_all arg25.view x0 x1 (Scalar.cmpi .slt (BitVec.ofNat 32 (i 0 : ℕ)) 31#32) r k
  exact ch_at _ _ _ _ (prodF (rowE x0 x1 (Scalar.cmpi .slt (BitVec.ofNat 32 (i 0 : ℕ)) 31#32)) xs0)
        (fun r j => by rw [chain_h0 _ hA0]; exact prod0_at _ _ hE xs0 _ _ 0 (by omega) (fun k j => ld_cols xs0 1536 512 _ k j _ (by dsimp only <;> omega)) (fun k j => ld_cols xs0 3072 512 _ k j _ (by dsimp only <;> omega)) r j)
        (fun r j => by rw [chain_c1 _ hA0, chain_h1 _ hA0]; exact prod_at _ _ hE xs0 _ _ 512 (by omega) (fun k j => ld_cols xs0 2048 512 _ k j _ (by dsimp only <;> omega)) (fun k j => ld_cols xs0 3584 512 _ k j _ (by dsimp only <;> omega)) r j)
        (fun r j => by rw [chain_h2 _ hA0, chain_c2 _ hA0]; exact prod_at _ _ hE xs0 _ _ 1024 (by omega) (fun k j => ld_cols xs0 2560 512 _ k j _ (by dsimp only <;> omega)) (fun k j => ld_cols xs0 4096 512 _ k j _ (by dsimp only <;> omega)) r j) r q

end Cert.Kernel.Value
-- ==== Proof.Mix.Algebra.lean ====
/- Rules of the extended reals that the kernel's rearrangements use. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

/-- One half, two, the two coefficients of gelu, the small numbers. -/
theorem half_eq : Ideal.ofBits .f32 0x3F000000#32 = ((1 / 2 : ℝ) : EReal) := by simp [Ideal.ofBits, Ideal.ieee, -EReal.coe_mul]; norm_num
theorem one_eq : Ideal.ofBits .f32 0x3F800000#32 = ((1 : ℝ) : EReal) := by simp [Ideal.ofBits, Ideal.ieee, -EReal.coe_mul]; norm_num
theorem n_eq : Ideal.ofBits .f32 0x44800000#32 = ((1024 : ℝ) : EReal) := by simp [Ideal.ofBits, Ideal.ieee, -EReal.coe_mul]; norm_num
theorem c1_nonneg : 0 ≤ Ideal.ofBits .f32 0x3F4C422A#32 := by
  simp [Ideal.ofBits, Ideal.ieee, -EReal.coe_mul]
theorem c2_nonneg : 0 ≤ Ideal.ofBits .f32 0x3D122279#32 := by
  simp [Ideal.ofBits, Ideal.ieee, -EReal.coe_mul]
theorem eps_eq : Ideal.ofBits .f32 0x3827C5AC#32 = ((4 : ℝ) : EReal) * Ideal.ofBits .f32 0x3727C5AC#32 := by
  simp [Ideal.ofBits, Ideal.ieee, -EReal.coe_mul]; rw [← EReal.coe_mul]; congr 1; norm_num

theorem mul_add_real (c : ℝ) (hc : 0 ≤ c) (x y : EReal) : (c : EReal) * (x + y) = c * x + c * y :=
  EReal.left_distrib_of_nonneg_of_ne_top (EReal.coe_nonneg.mpr hc) (EReal.coe_ne_top c) x y

theorem mul_sum_real {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, mul_add_real c hc, ih]

theorem mul_sub_real (c : ℝ) (hc : 0 ≤ c) (x y : EReal) : (c : EReal) * (x - y) = c * x - c * y := by
  rw [sub_eq_add_neg, sub_eq_add_neg, mul_add_real c hc, mul_neg]

theorem two_half (x : EReal) : ((2 : ℝ) : EReal) * (((1 / 2 : ℝ) : EReal) * x) = x := by
  rw [← mul_assoc, ← EReal.coe_mul, show (2 : ℝ) * (1 / 2) = 1 by norm_num, EReal.coe_one, one_mul]

theorem half_two (x : EReal) : ((1 / 2 : ℝ) : EReal) * (((2 : ℝ) : EReal) * x) = x := by
  rw [← mul_assoc, ← EReal.coe_mul, show (1 / 2 : ℝ) * 2 = 1 by norm_num, EReal.coe_one, one_mul]

theorem two_two (x : EReal) : ((2 : ℝ) : EReal) * (((2 : ℝ) : EReal) * x) = ((4 : ℝ) : EReal) * x := by
  rw [← mul_assoc, ← EReal.coe_mul, show (2 : ℝ) * 2 = 4 by norm_num]

/-- Twice the logistic function is one plus the tanh of half its argument, at the infinities too. -/
theorem gate_eq (z : EReal) : Ideal.ofBits .f32 0x3F800000#32 + Ideal.tanh (Ideal.ofBits .f32 0x3F000000#32 * z)
    = ((2 : ℝ) : EReal) * Ideal.div (Ideal.ofBits .f32 0x3F800000#32) (Ideal.ofBits .f32 0x3F800000#32 + Ideal.exp (-z)) := by
  rw [one_eq, half_eq]
  induction z with
  | bot =>
    rw [EReal.coe_mul_bot_of_pos (by norm_num), EReal.neg_bot]
    have h1 : Ideal.tanh ⊥ = -1 := rfl
    have h2 : Ideal.exp ⊤ = ⊤ := rfl
    rw [h1, h2, EReal.coe_add_top]
    simp [Ideal.div]
    rw [← EReal.coe_one, ← EReal.coe_neg, ← EReal.coe_add]; norm_num
  | top =>
    rw [EReal.coe_mul_top_of_pos (by norm_num), EReal.neg_top]
    have h1 : Ideal.tanh ⊤ = 1 := rfl
    have h2 : Ideal.exp ⊥ = 0 := rfl
    rw [h1, h2]
    simp [Ideal.div]
    rw [← EReal.coe_one, ← EReal.coe_add]; congr 1; norm_num
  | coe r =>
    rw [← EReal.coe_mul, ← EReal.coe_neg]
    have h1 : ∀ x : ℝ, Ideal.tanh (x : EReal) = ((Real.tanh x : ℝ) : EReal) := fun _ => rfl
    have h2 : ∀ x : ℝ, Ideal.exp (x : EReal) = ((Real.exp x : ℝ) : EReal) := fun _ => rfl
    rw [h1, h2, ← EReal.coe_add, ← EReal.coe_add]
    have hp : (1 + Real.exp (-r)) ≠ 0 := by positivity
    have hp' : ((1 + Real.exp (-r) : ℝ) : EReal) ≠ 0 := by exact_mod_cast hp
    rw [Ideal.div, if_neg hp', ← EReal.coe_inv, ← EReal.coe_mul, ← EReal.coe_mul]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    generalize Real.exp (1 / 2 * r) = u at e2 ⊢
    generalize hv : Real.exp (-(1 / 2 * r)) = v at e2 ⊢
    have hvp : 0 < v := by rw [← hv]; positivity
    have hu : u = 1 / v := by rw [eq_div_iff hvp.ne']; exact e2
    have hup : 0 < u := by rw [hu]; positivity
    have h3 : u + v ≠ 0 := by positivity
    have h4 : 1 + v * v ≠ 0 := by positivity
    rw [hu]
    field_simp
    ring

/-- A reciprocal root of four times a number is half its reciprocal root. -/
theorem rsqrt_four (w : EReal) : Ideal.rsqrt (((4 : ℝ) : EReal) * w) = ((1 / 2 : ℝ) : EReal) * Ideal.rsqrt w := by
  induction w with
  | bot =>
    rw [EReal.coe_mul_bot_of_pos (by norm_num)]
    have h : Ideal.rsqrt ⊥ = ⊥ := rfl
    rw [h, EReal.coe_mul_bot_of_pos (by norm_num)]
  | top =>
    rw [EReal.coe_mul_top_of_pos (by norm_num)]
    have h : Ideal.rsqrt ⊤ = 0 := rfl
    rw [h, mul_zero]
  | coe r =>
    rw [← EReal.coe_mul]
    have h : ∀ x : ℝ, Ideal.rsqrt (x : EReal) = if x < 0 then ⊥ else if x = 0 then ⊤ else (((Real.sqrt x)⁻¹ : ℝ) : EReal) := fun _ => rfl
    rw [h, h]
    by_cases h0 : r < 0
    · rw [if_pos h0, if_pos (by linarith), EReal.coe_mul_bot_of_pos (by norm_num)]
    · rw [if_neg h0, if_neg (by linarith)]
      by_cases h1 : r = 0
      · rw [if_pos h1, if_pos (by rw [h1]; norm_num), EReal.coe_mul_top_of_pos (by norm_num)]
      · rw [if_neg h1, if_neg (by intro h2; exact h1 (by linarith)), ← EReal.coe_mul]
        congr 1
        rw [show (4 : ℝ) * r = 2 ^ 2 * r by norm_num, Real.sqrt_mul (by norm_num), Real.sqrt_sq (by norm_num), mul_inv]
        norm_num

theorem mean_mul (c : ℝ) (hc : 0 ≤ c) (v : Fin 1024 → EReal) : meanF (fun k => (c : EReal) * v k) = c * meanF v := by
  have hn : ((1024 : ℝ) : EReal) ≠ 0 := by exact_mod_cast (by norm_num : (1024 : ℝ) ≠ 0)
  unfold meanF
  rw [n_eq, Ideal.div, Ideal.div, if_neg hn, if_neg hn, ← mul_sum_real c hc, mul_assoc]

/-- A norm does not see a doubling of its row when its small number is taken four times. -/
theorem ln_two (v g b : Fin 1024 → EReal) (l : Fin 1024) :
    lnE (Ideal.ofBits .f32 0x3827C5AC#32) (fun k => ((2 : ℝ) : EReal) * v k) g b l = lnE (Ideal.ofBits .f32 0x3727C5AC#32) v g b l := by
  unfold lnE
  rw [mean_mul 2 (by norm_num)]
  simp only [← mul_sub_real 2 (by norm_num)]
  have hsq : ∀ d : EReal, ((2 : ℝ) : EReal) * d * (((2 : ℝ) : EReal) * d) = ((4 : ℝ) : EReal) * (d * d) := by
    intro d
    rw [mul_mul_mul_comm, ← EReal.coe_mul, show (2 : ℝ) * 2 = 4 by norm_num]
  simp only [hsq]
  rw [mean_mul 4 (by norm_num), eps_eq, ← mul_add_real 4 (by norm_num), rsqrt_four]
  congr 2
  rw [mul_mul_mul_comm, ← EReal.coe_mul, show (2 : ℝ) * (1 / 2) = 1 by norm_num, EReal.coe_one, one_mul]

/-- Gelu of one number, as the reference spells it. -/
def gF' (z : EReal) : EReal := Ideal.ofBits .f32 0x3F000000#32 * (z + z * Ideal.tanh (Ideal.ofBits .f32 0x3F4C422A#32 * z + Ideal.ofBits .f32 0x3D122279#32 * (z * z * z)))

theorem gelu_eq (z : EReal) : g2F z = ((2 : ℝ) : EReal) * gF' z := by
  unfold g2F gF'
  have hz : 0 ≤ z * z := by
    rcases le_total 0 z with h | h
    · exact EReal.mul_nonneg_iff.mpr (Or.inl ⟨h, h⟩)
    · exact EReal.mul_nonneg_iff.mpr (Or.inr ⟨h, h⟩)
  have h2 : 0 ≤ Ideal.ofBits .f32 0x3D122279#32 * (z * z) := EReal.mul_nonneg_iff.mpr (Or.inl ⟨c2_nonneg, hz⟩)
  rw [half_eq, two_half, EReal.left_distrib_of_nonneg c1_nonneg h2, mul_comm z (Ideal.ofBits .f32 0x3F4C422A#32), mul_left_comm z, mul_assoc z z z]

theorem dot_half (x w : Fin 1024 → EReal) : dotF x (fun k => w k * Ideal.ofBits .f32 0x3F000000#32) = Ideal.ofBits .f32 0x3F000000#32 * dotF x w := by
  unfold dotF
  rw [half_eq, mul_sum_real _ (by norm_num)]
  refine Finset.sum_congr rfl fun k _ => ?_
  dsimp only
  rw [mul_comm (w k), mul_left_comm]

/-- One gated term: the doubled gate against halved weights. -/
theorem term_eq (G Y O : EReal) : ((2 : ℝ) : EReal) * G * Y * (O * Ideal.ofBits .f32 0x3F000000#32) = G * Y * O := by
  rw [half_eq, mul_comm O, mul_assoc ((2 : ℝ) : EReal) G Y, mul_mul_mul_comm, ← EReal.coe_mul, show (2 : ℝ) * (1 / 2) = 1 by norm_num, EReal.coe_one, one_mul]

/-- A tile's entry in the reference's spelling, from the kernel's. -/
theorem tile_algebra (x : Fin 1024 → EReal) (w : Fin 1024 → Fin 8704 → EReal) (x2 : Fin 2048 → EReal) (MXk MX : Fin 1024 → EReal) (hMX : ∀ k, MXk k = MX k)
    (cv CV : Fin 1536 → EReal) (hcv : ∀ q : Fin 1536, dotF x (fun k => w k ⟨q, by omega⟩) * cv q = CV q)
    (wa : Fin 1536 → Fin 1024 → EReal) (wb : Fin 1024 → Fin 1024 → EReal) (wo : Fin 1024 → EReal) (X0 : EReal) :
    Ideal.ofBits .f32 0x3F9837F0#32 * X0
      + dotF (fun e => (Ideal.ofBits .f32 0x3F800000#32 + Ideal.tanh (dotF x (fun k => w k ⟨7680 + e, by omega⟩ * Ideal.ofBits .f32 0x3F000000#32) + Ideal.ofBits .f32 0x3F000000#32 * x2 ⟨1024 + e, by omega⟩))
          * dotF (fun k => g2F (dotF x (fun t => w t ⟨4608 + k, by omega⟩)) * MXk k) (fun k => wb k e * Ideal.ofBits .f32 0x3F000000#32)
        + (Ideal.ofBits .f32 0x3F800000#32 + Ideal.tanh (dotF x (fun k => w k ⟨6656 + e, by omega⟩ * Ideal.ofBits .f32 0x3F000000#32) + Ideal.ofBits .f32 0x3F000000#32 * x2 ⟨e, by omega⟩))
          * ∑ q : Fin 1536, (dotF x (fun k => w k ⟨q, by omega⟩) * cv q) * wa q e)
        (fun e => wo e * Ideal.ofBits .f32 0x3F000000#32)
    = Ideal.ofBits .f32 0x3F9837F0#32 * X0
      + dotF (fun e => Ideal.div (Ideal.ofBits .f32 0x3F800000#32) (Ideal.ofBits .f32 0x3F800000#32 + Ideal.exp (-(dotF x (fun k => w k ⟨6656 + e, by omega⟩) + x2 ⟨e, by omega⟩)))
            * (∑ q : Fin 1536, CV q * wa q e)
          + Ideal.div (Ideal.ofBits .f32 0x3F800000#32) (Ideal.ofBits .f32 0x3F800000#32 + Ideal.exp (-(dotF x (fun k => w k ⟨7680 + e, by omega⟩) + x2 ⟨1024 + e, by omega⟩)))
            * dotF (fun k => gF' (dotF x (fun t => w t ⟨4608 + k, by omega⟩)) * MX k) (fun k => wb k e)) wo := by
  simp only [hcv, hMX, gelu_eq]
  congr 1
  rw [dot_half]
  unfold dotF
  rw [half_eq, mul_sum_real _ (by norm_num)]
  refine Finset.sum_congr rfl fun e _ => ?_
  dsimp only
  have hg : ∀ (f : Fin 1024 → EReal) (y : EReal), Ideal.ofBits .f32 0x3F800000#32 + Ideal.tanh ((∑ k, x k * (f k * ((1 / 2 : ℝ) : EReal))) + ((1 / 2 : ℝ) : EReal) * y)
      = ((2 : ℝ) : EReal) * Ideal.div (Ideal.ofBits .f32 0x3F800000#32) (Ideal.ofBits .f32 0x3F800000#32 + Ideal.exp (-((∑ k, x k * f k) + y))) := by
    intro f y
    rw [← gate_eq, half_eq, mul_add_real _ (by norm_num)]
    have := dot_half x f
    unfold dotF at this
    rw [half_eq] at this
    rw [this]
  have hy : ∀ (f g : Fin 1024 → EReal), (∑ k, ((2 : ℝ) : EReal) * f k * MX k * (g k * ((1 / 2 : ℝ) : EReal))) = ∑ k, f k * MX k * g k := by
    intro f g
    refine Finset.sum_congr rfl fun k _ => ?_
    have := term_eq (f k) (MX k) (g k)
    rwa [half_eq] at this
  rw [hg, hg, hy, ← mul_assoc, mul_add_real _ (by norm_num)]
  rw [mul_assoc ((2 : ℝ) : EReal), half_two, mul_assoc ((2 : ℝ) : EReal), half_two, add_comm]

end Cert.Kernel.Value

end
-- ==== Proof.Mix.Match.lean ====
/- A tile of the token mixing call and the same rows of the reference. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise
public import proofs.«01_k».proof.Proof.Mix.Ref
public import proofs.«01_k».proof.Proof.Mix.TileB
public import proofs.«01_k».proof.Proof.Mix.Algebra

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

open Cert.ReferenceIdeal.Value (A0 A1 A2 A3 A4 A5 A6 A7 A8 A9 A10 A11 A12 pR_at gateR_at padR_at geluR_at meanR_at vnR_at mixR_at convR_at kR_at outR_at v113_eq v1_eq v17_eq v22_eq v67_eq v75_eq v77_eq v122_eq v124_eq v5_at v6_at subR_at v116_at gF vnR)
open Cert.ReferenceIdeal (main_v143)

/-- The reference's launch contents. -/
abbrev RefV : Type := Valuation Cert.ReferenceIdeal.τ Cert.ReferenceIdeal.sig (Elt Ideal)

/-- An entry of the reference's projection. -/
def pF (L : RefV) (g : Fin 16384) (j : Fin 8704) : EReal := dotF (fun k => A0 L (ix3 0 g k)) (fun k => A1 L (ix3 0 k j))

theorem v1_at (L : RefV) (g : Fin 16384) (j : Fin 8704) : Cert.ReferenceIdeal.Value.res_main_v1 (F := Ideal) L (ix3 0 g j) = pF L g j := by
  rw [v1_eq]; exact pR_at _ _ _ _

/-- A row of the reference's normed value branch. -/
def vnG (L : RefV) (g : Fin 16384) (l : Fin 1024) : EReal :=
  lnE (Ideal.ofBits .f32 0x3727C5AC#32) (fun k => gF' (pF L g ⟨5632 + k, by omega⟩)) (fun k => A4 L (ix2 0 k)) (fun k => A5 L (ix2 0 k)) l

theorem v67_at (L : RefV) (g : Fin 16384) (k : Fin 1024) : Cert.ReferenceIdeal.Value.res_main_v67 (F := Ideal) L (ix3 0 g k) = gF' (pF L g ⟨5632 + k, by omega⟩) := by
  rw [v67_eq, geluR_at, v6_at, v1_at]; rfl

theorem vn_at (L : RefV) (g : Fin 16384) (l : Fin 1024) :
    vnR (Cert.ReferenceIdeal.Value.res_main_v67 (F := Ideal) L) (Cert.ReferenceIdeal.Value.res_main_v75 L) (Cert.ReferenceIdeal.Value.res_main_v77 L) (A4 L) (A5 L) (ix3 0 g l) = vnG L g l := by
  have hM : Cert.ReferenceIdeal.Value.res_main_v75 (F := Ideal) L (ix3 0 g 0) = meanF (fun k => Cert.ReferenceIdeal.Value.res_main_v67 (F := Ideal) L (ix3 0 g k)) := by
    rw [v75_eq]; exact meanR_at _ _
  rw [vnR_at _ _ _ _ _ g l hM (fun k => by rw [v77_eq, subR_at, hM])]
  simp only [v67_at]
  rfl

/-- The reference's products with zeros around, at a padded row. -/
def qF (L : RefV) (r : ℕ) (q : Fin 1536) : EReal :=
  if h : 1 ≤ r ∧ r < 16385 then pF L ⟨r - 1, by omega⟩ ⟨1536 + q, by omega⟩ * pF L ⟨r - 1, by omega⟩ ⟨3072 + q, by omega⟩ else 0

theorem v22_at (L : RefV) (r : Fin 16386) (q : Fin 1536) : Cert.ReferenceIdeal.Value.res_main_v22 (F := Ideal) L (ix3 0 r q) = qF L r q := by
  rw [v22_eq, padR_at]
  simp only [v1_at]
  rfl

/-- The reference's rows before the last norm. -/
theorem v116_full (L : RefV) (g : Fin 16384) (b : Fin 1024) :
    Cert.ReferenceIdeal.Value.res_main_v116 (F := Ideal) L (ix3 0 g b)
      = Ideal.ofBits .f32 0x3F9837F0#32 * A0 L (ix3 0 g b)
      + dotF (fun e => Ideal.div (Ideal.ofBits .f32 0x3F800000#32) (Ideal.ofBits .f32 0x3F800000#32 + Ideal.exp (-(pF L g ⟨6656 + e, by omega⟩ + A2 L (ix2 0 ⟨e, by omega⟩))))
            * (∑ q : Fin 1536, (pF L g ⟨q, by omega⟩ * (qF L g q * A3 L (ix3 0 0 q) + qF L (1 + g) q * A3 L (ix3 0 1 q) + qF L (2 + g) q * A3 L (ix3 0 2 q))) * A8 L (ix3 0 q e))
          + Ideal.div (Ideal.ofBits .f32 0x3F800000#32) (Ideal.ofBits .f32 0x3F800000#32 + Ideal.exp (-(pF L g ⟨6656 + (1024 + e), by omega⟩ + A2 L (ix2 0 ⟨1024 + e, by omega⟩))))
            * dotF (fun k => gF' (pF L g ⟨4608 + k, by omega⟩)
                * ((∑ j : Fin 128, vnG L ⟨g / 128 * 128 + j, by omega⟩ k * A6 L (ix4 0 ⟨k / 128, by omega⟩ ⟨g % 128, by omega⟩ j)) + A7 L (ix3 0 ⟨k / 128, by omega⟩ ⟨g % 128, by omega⟩)))
              (fun k => A9 L (ix3 0 k e))) (fun e => A10 L (ix3 0 e b)) := by
  rw [v116_at, v113_eq, outR_at]
  simp only [v17_eq, gateR_at, v1_at, convR_at, v22_at, kR_at, geluR_at, v5_at, mixR_at, vn_at]
  rfl

/-- The reference's result. -/
theorem ref_at (L : RefV) (g : Fin 16384) (b : Fin 1024) :
    (shapeCast Cert.ReferenceIdeal.S16384x1024 (vnR (Cert.ReferenceIdeal.Value.res_main_v116 (F := Ideal) L) (Cert.ReferenceIdeal.Value.res_main_v122 L) (Cert.ReferenceIdeal.Value.res_main_v124 L) (A11 L) (A12 L)) Cert.ReferenceIdeal.Gen.facts.shapeCasts_S1x16384x1024_S16384x1024 : FVec Ideal Cert.ReferenceIdeal.S16384x1024 .f32) (ix2 g b)
      = lnE (Ideal.ofBits .f32 0x3727C5AC#32) (fun k => Cert.ReferenceIdeal.Value.res_main_v116 (F := Ideal) L (ix3 0 g k)) (fun k => A11 L (ix2 0 k)) (fun k => A12 L (ix2 0 k)) b := by
  have hM : Cert.ReferenceIdeal.Value.res_main_v122 (F := Ideal) L (ix3 0 g 0) = meanF (fun k => Cert.ReferenceIdeal.Value.res_main_v116 (F := Ideal) L (ix3 0 g k)) := by
    rw [v122_eq]; exact meanR_at _ _
  have h := vnR_at (Cert.ReferenceIdeal.Value.res_main_v116 (F := Ideal) L) (Cert.ReferenceIdeal.Value.res_main_v122 (F := Ideal) L) (Cert.ReferenceIdeal.Value.res_main_v124 (F := Ideal) L) (A11 L) (A12 L) g b hM (fun k => by rw [v124_eq, subR_at, hM])
  generalize vnR (Cert.ReferenceIdeal.Value.res_main_v116 (F := Ideal) L) (Cert.ReferenceIdeal.Value.res_main_v122 L) (Cert.ReferenceIdeal.Value.res_main_v124 L) (A11 L) (A12 L) = Z at h ⊢
  rw [← h]
  pointwise

/-- A tile's rows as the kernel computes them are the reference's rows. -/
theorem tile_match (L : RefV) (n : ℕ) (hn : n < 32) (X : Fin 512 → Fin 1024 → EReal) (cv : Fin 512 → Fin 1536 → EReal) (x2 : FVec Ideal S1x2048 .f32) (x4 x5 : FVec Ideal S1x1024 .f32) (x7 : FVec Ideal S1x8x128 .f32)
    (w : FVec Ideal S1024x8704 .bf16) (wa : FVec Ideal S1536x1024 .bf16) (wb wo : FVec Ideal S1024x1024 .bf16) (W : FVec Ideal S8x128x128 .bf16)
    (hX : ∀ (a : Fin 512) k, X a k = A0 L (ix3 0 ⟨n * 512 + a, by omega⟩ k))
    (h2 : ∀ e, x2 (ix2 0 e) = A2 L (ix2 0 e)) (h4 : ∀ e, x4 (ix2 0 e) = A4 L (ix2 0 e)) (h5 : ∀ e, x5 (ix2 0 e) = A5 L (ix2 0 e)) (h7 : ∀ i p, x7 (ix3 0 i p) = A7 L (ix3 0 i p))
    (hw : ∀ k (j : Fin 8704), w (ix2 k j) = if (j : ℕ) < 6656 then A1 L (ix3 0 k j) else A1 L (ix3 0 k j) * Ideal.ofBits .f32 0x3F000000#32)
    (hwa : ∀ q e, wa (ix2 q e) = A8 L (ix3 0 q e)) (hwb : ∀ k e, wb (ix2 k e) = A9 L (ix3 0 k e) * Ideal.ofBits .f32 0x3F000000#32) (hwo : ∀ k e, wo (ix2 k e) = A10 L (ix3 0 k e) * Ideal.ofBits .f32 0x3F000000#32)
    (hW : ∀ i p q, W (ix3 i p q) = A6 L (ix4 0 i p q)) (a : Fin 512) (b : Fin 1024)
    (hcv : ∀ q, cv a q = qF L (n * 512 + a) q * A3 L (ix3 0 0 q) + qF L (1 + (n * 512 + a)) q * A3 L (ix3 0 1 q) + qF L (2 + (n * 512 + a)) q * A3 L (ix3 0 2 q)) :
    tileF X cv x2 x4 x5 x7 w wa wb wo W a b = Cert.ReferenceIdeal.Value.res_main_v116 (F := Ideal) L (ix3 0 ⟨n * 512 + a, by omega⟩ b) := by
  have hlo : ∀ (a : Fin 512) (j : ℕ) (hj : j < 6656), dotF (X a) (fun k => w (ix2 k ⟨j, by omega⟩)) = pF L ⟨n * 512 + a, by omega⟩ ⟨j, by omega⟩ := by
    intro a j hj
    unfold pF
    congr 1
    · funext k; exact hX a k
    · funext k; rw [hw, if_pos (show ((⟨j, by omega⟩ : Fin 8704) : ℕ) < 6656 from hj)]
  have hhi : ∀ (j : ℕ) (hj : 6656 ≤ j ∧ j < 8704) (k : Fin 1024), w (ix2 k ⟨j, by omega⟩) = A1 L (ix3 0 k ⟨j, by omega⟩) * Ideal.ofBits .f32 0x3F000000#32 := by
    intro j hj k
    rw [hw, if_neg (show ¬((⟨j, by omega⟩ : Fin 8704) : ℕ) < 6656 by dsimp only; omega)]
  have hvn : ∀ (a : Fin 512) (l : Fin 1024), vnF (X a) w x4 x5 l = vnG L ⟨n * 512 + a, by omega⟩ l := by
    intro a l
    unfold vnF vnG
    simp only [gelu_eq, h4, h5]
    rw [ln_two]
    congr 1
    funext k
    rw [hlo a (5632 + k) (by omega)]
  have hmx : ∀ k : Fin 1024, mixF (fun a l => vnF (X a) w x4 x5 l) W x7 a k
      = (∑ j : Fin 128, vnG L ⟨(n * 512 + a) / 128 * 128 + j, by omega⟩ k * A6 L (ix4 0 ⟨k / 128, by omega⟩ ⟨(n * 512 + a) % 128, by omega⟩ j)) + A7 L (ix3 0 ⟨k / 128, by omega⟩ ⟨(n * 512 + a) % 128, by omega⟩) := by
    intro k
    unfold mixF
    have hm : (⟨(a : ℕ) % 128, by omega⟩ : Fin 128) = ⟨(n * 512 + a) % 128, by omega⟩ := Fin.ext (by dsimp only; omega)
    rw [hm, h7]
    congr 1
    refine Finset.sum_congr rfl fun j _ => ?_
    dsimp only
    rw [hvn, hW, mul_comm]
    congr 2
    exact Fin.ext (by dsimp only; omega)
  unfold tileF
  have hXa : ∀ b, X a b = A0 L (ix3 0 ⟨n * 512 + a, by omega⟩ b) := fun b => hX a b
  have e1 : ∀ e : Fin 1024, dotF (X a) (fun k => w (ix2 k ⟨7680 + e, by omega⟩)) = dotF (fun k => A0 L (ix3 0 ⟨n * 512 + a, by omega⟩ k)) (fun k => A1 L (ix3 0 k ⟨7680 + e, by omega⟩) * Ideal.ofBits .f32 0x3F000000#32) := by
    intro e
    congr 1
    · funext k; exact hX a k
    · funext k; exact hhi _ (by omega) k
  have e2 : ∀ e : Fin 1024, dotF (X a) (fun k => w (ix2 k ⟨6656 + e, by omega⟩)) = dotF (fun k => A0 L (ix3 0 ⟨n * 512 + a, by omega⟩ k)) (fun k => A1 L (ix3 0 k ⟨6656 + e, by omega⟩) * Ideal.ofBits .f32 0x3F000000#32) := by
    intro e
    congr 1
    · funext k; exact hX a k
    · funext k; exact hhi _ (by omega) k
  have e3 : ∀ k : Fin 1024, dotF (X a) (fun t => w (ix2 t ⟨4608 + k, by omega⟩)) = dotF (fun k => A0 L (ix3 0 ⟨n * 512 + a, by omega⟩ k)) (fun t => A1 L (ix3 0 t ⟨4608 + k, by omega⟩)) := fun k => hlo a _ (by omega)
  have e4 : ∀ q : Fin 1536, dotF (X a) (fun t => w (ix2 t ⟨q, by omega⟩)) = dotF (fun k => A0 L (ix3 0 ⟨n * 512 + a, by omega⟩ k)) (fun t => A1 L (ix3 0 t ⟨q, by omega⟩)) := fun q => hlo a _ (by omega)
  simp only [e1, e2, e3, e4, hwa, hwb, hwo, hXa, h2]
  refine (tile_algebra (fun k => A0 L (ix3 0 ⟨n * 512 + a, by omega⟩ k)) (fun k j => A1 L (ix3 0 k j)) (fun e => A2 L (ix2 0 e)) _ _ hmx (cv a) (fun q => pF L ⟨n * 512 + a, by omega⟩ ⟨q, by omega⟩ * (qF L (n * 512 + a) q * A3 L (ix3 0 0 q) + qF L (1 + (n * 512 + a)) q * A3 L (ix3 0 1 q) + qF L (2 + (n * 512 + a)) q * A3 L (ix3 0 2 q)))
    (fun q => by rw [hcv]; rfl) (fun q e => A8 L (ix3 0 q e)) (fun k e => A9 L (ix3 0 k e)) (fun e => A10 L (ix3 0 e b)) (A0 L (ix3 0 ⟨n * 512 + a, by omega⟩ b))).trans ?_
  rw [v116_full]
  have e5 : ∀ e : Fin 1024, (⟨6656 + (1024 + e), by omega⟩ : Fin 8704) = ⟨7680 + e, by omega⟩ := fun e => Fin.ext (by dsimp only; omega)
  simp only [e5]
  rfl

end Cert.Kernel.Value

end
-- ==== Proof.Mix.Inputs.lean ====
/- What the windows of the token mixing call hold: blocks of its arguments. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

variable (m : (ℓ : Loc nD τ sig) → Buf (Elt Ideal) ℓ)

theorem idx_x : ∀ t : Fin cfg0.N, win0_0.index t = ![min t.val 31, 0] := (by decide +kernel : ∀ t : Fin grid0.N, _)
theorem idx_n : ∀ t : Fin cfg0.N, win0_1.index t = ![min ((min t.val 31 + 1) * 32) 1023, 0] := (by decide +kernel : ∀ t : Fin grid0.N, _)
theorem idx_out : ∀ t : Fin cfg0.N, win0_12.index t = ![t.val - 1, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem flush_pos : ∀ t : Fin cfg0.N, (cfg0.win 12).flush t = true → t.val ≠ 0 := (by decide +kernel : ∀ t : Fin grid0.N, _)

theorem cast_x (W : FVec Ideal S1x16384x1024 .f32) (a : Fin 16384) (k : Fin 1024) : (shapeCast S16384x1024 W shapeCasts_S1x16384x1024_S16384x1024 : FVec Ideal S16384x1024 .f32) (ix2 a k) = W (ix3 0 a k) := by pointwise
theorem V_x (c : Dev nD) (a : Fin 16384) (k : Fin 1024) : (V m c main_v0 : FVec Ideal S16384x1024 .f32) (ix2 a k) = (m ((c : Thread nD τ).loc main_arg0) : FVec Ideal S1x16384x1024 .f32) (ix3 0 a k) := by
  have h : (V m c main_v0 : FVec Ideal S16384x1024 .f32) = shapeCast S16384x1024 (m ((c : Thread nD τ).loc main_arg0) : FVec Ideal S1x16384x1024 .f32) shapeCasts_S1x16384x1024_S16384x1024 := by
    unfold V; after_results; try rfl
  exact (congrFun h _).trans (cast_x _ a k)
theorem cast_bg (W : FVec Ideal S1x2048 .f32) (k : Fin 2048) : (shapeCast S1x2048 (shapeCast S2048 W shapeCasts_S1x2048_S2048) shapeCasts_S2048_S1x2048 : FVec Ideal S1x2048 .f32) (ix2 0 k) = W (ix2 0 k) := by pointwise
theorem V_bg (c : Dev nD) (k : Fin 2048) : (V m c main_v3 : FVec Ideal S1x2048 .f32) (ix2 0 k) = (m ((c : Thread nD τ).loc main_arg2) : FVec Ideal S1x2048 .f32) (ix2 0 k) := by
  have h : (V m c main_v3 : FVec Ideal S1x2048 .f32) = shapeCast S1x2048 (shapeCast S2048 (m ((c : Thread nD τ).loc main_arg2) : FVec Ideal S1x2048 .f32) shapeCasts_S1x2048_S2048) shapeCasts_S2048_S1x2048 := by
    unfold V; after_results; try rfl
  exact (congrFun h _).trans (cast_bg _ k)
theorem cast_conv (W : FVec Ideal S1x3x1536 .f32) (j : Fin 3) (q : Fin 1536) : (shapeCast S1x1x4608 W shapeCasts_S1x3x1536_S1x1x4608 : FVec Ideal S1x1x4608 .f32) (ix3 0 0 ⟨1536 * j + q, by omega⟩) = W (ix3 0 j q) := by pointwise
theorem V_conv (c : Dev nD) (j : Fin 3) (q : Fin 1536) : (V m c main_v4 : FVec Ideal S1x1x4608 .f32) (ix3 0 0 ⟨1536 * j + q, by omega⟩) = (m ((c : Thread nD τ).loc main_arg3) : FVec Ideal S1x3x1536 .f32) (ix3 0 j q) := by
  have h : (V m c main_v4 : FVec Ideal S1x1x4608 .f32) = shapeCast S1x1x4608 (m ((c : Thread nD τ).loc main_arg3) : FVec Ideal S1x3x1536 .f32) shapeCasts_S1x3x1536_S1x1x4608 := by
    unfold V; after_results; try rfl
  exact (congrFun h _).trans (cast_conv _ j q)
theorem cast_gv (W : FVec Ideal S1x1024 .f32) (k : Fin 1024) : (shapeCast S1x1024 (shapeCast S1024 W shapeCasts_S1x1024_S1024) shapeCasts_S1024_S1x1024 : FVec Ideal S1x1024 .f32) (ix2 0 k) = W (ix2 0 k) := by pointwise
theorem V_gv (c : Dev nD) (k : Fin 1024) : (V m c main_v6 : FVec Ideal S1x1024 .f32) (ix2 0 k) = (m ((c : Thread nD τ).loc main_arg4) : FVec Ideal S1x1024 .f32) (ix2 0 k) := by
  have h : (V m c main_v6 : FVec Ideal S1x1024 .f32) = shapeCast S1x1024 (shapeCast S1024 (m ((c : Thread nD τ).loc main_arg4) : FVec Ideal S1x1024 .f32) shapeCasts_S1x1024_S1024) shapeCasts_S1024_S1x1024 := by
    unfold V; after_results; try rfl
  exact (congrFun h _).trans (cast_gv _ k)
theorem cast_bv (W : FVec Ideal S1x1024 .f32) (k : Fin 1024) : (shapeCast S1x1024 (shapeCast S1024 W shapeCasts_S1x1024_S1024) shapeCasts_S1024_S1x1024 : FVec Ideal S1x1024 .f32) (ix2 0 k) = W (ix2 0 k) := by pointwise
theorem V_bv (c : Dev nD) (k : Fin 1024) : (V m c main_v8 : FVec Ideal S1x1024 .f32) (ix2 0 k) = (m ((c : Thread nD τ).loc main_arg5) : FVec Ideal S1x1024 .f32) (ix2 0 k) := by
  have h : (V m c main_v8 : FVec Ideal S1x1024 .f32) = shapeCast S1x1024 (shapeCast S1024 (m ((c : Thread nD τ).loc main_arg5) : FVec Ideal S1x1024 .f32) shapeCasts_S1x1024_S1024) shapeCasts_S1024_S1x1024 := by
    unfold V; after_results; try rfl
  exact (congrFun h _).trans (cast_bv _ k)
theorem cast_go (W : FVec Ideal S1x1024 .f32) (k : Fin 1024) : (shapeCast S1x1024 (shapeCast S1024 W shapeCasts_S1x1024_S1024) shapeCasts_S1024_S1x1024 : FVec Ideal S1x1024 .f32) (ix2 0 k) = W (ix2 0 k) := by pointwise
theorem V_go (c : Dev nD) (k : Fin 1024) : (V m c main_v14 : FVec Ideal S1x1024 .f32) (ix2 0 k) = (m ((c : Thread nD τ).loc main_arg11) : FVec Ideal S1x1024 .f32) (ix2 0 k) := by
  have h : (V m c main_v14 : FVec Ideal S1x1024 .f32) = shapeCast S1x1024 (shapeCast S1024 (m ((c : Thread nD τ).loc main_arg11) : FVec Ideal S1x1024 .f32) shapeCasts_S1x1024_S1024) shapeCasts_S1024_S1x1024 := by
    unfold V; after_results; try rfl
  exact (congrFun h _).trans (cast_go _ k)
theorem cast_bo (W : FVec Ideal S1x1024 .f32) (k : Fin 1024) : (shapeCast S1x1024 (shapeCast S1024 W shapeCasts_S1x1024_S1024) shapeCasts_S1024_S1x1024 : FVec Ideal S1x1024 .f32) (ix2 0 k) = W (ix2 0 k) := by pointwise
theorem V_bo (c : Dev nD) (k : Fin 1024) : (V m c main_v16 : FVec Ideal S1x1024 .f32) (ix2 0 k) = (m ((c : Thread nD τ).loc main_arg12) : FVec Ideal S1x1024 .f32) (ix2 0 k) := by
  have h : (V m c main_v16 : FVec Ideal S1x1024 .f32) = shapeCast S1x1024 (shapeCast S1024 (m ((c : Thread nD τ).loc main_arg12) : FVec Ideal S1x1024 .f32) shapeCasts_S1x1024_S1024) shapeCasts_S1024_S1x1024 := by
    unfold V; after_results; try rfl
  exact (congrFun h _).trans (cast_bo _ k)
theorem cast_ws (W : FVec Ideal S1x8x128x128 .f32) (n : Fin 8) (i p : Fin 128) : (shapeCast S8x128x128 W shapeCasts_S1x8x128x128_S8x128x128 : FVec Ideal S8x128x128 .f32) (ix3 n i p) = W (ix4 0 n i p) := by pointwise
theorem V_ws (c : Dev nD) (n : Fin 8) (i p : Fin 128) : (V m c main_v9 : FVec Ideal S8x128x128 .f32) (ix3 n i p) = (m ((c : Thread nD τ).loc main_arg6) : FVec Ideal S1x8x128x128 .f32) (ix4 0 n i p) := by
  have h : (V m c main_v9 : FVec Ideal S8x128x128 .f32) = shapeCast S8x128x128 (m ((c : Thread nD τ).loc main_arg6) : FVec Ideal S1x8x128x128 .f32) shapeCasts_S1x8x128x128_S8x128x128 := by
    unfold V; after_results; try rfl
  exact (congrFun h _).trans (cast_ws _ n i p)
theorem cast_win (W : FVec Ideal S1x1024x8704 .f32) (k : Fin 1024) (j : Fin 8704) : (shapeCast S1024x8704 W shapeCasts_S1x1024x8704_S1024x8704 : FVec Ideal S1024x8704 .f32) (ix2 k j) = W (ix3 0 k j) := by pointwise
theorem V_win (c : Dev nD) (k : Fin 1024) (j : Fin 8704) : (V m c main_v1 : FVec Ideal S1024x8704 .f32) (ix2 k j) = (m ((c : Thread nD τ).loc main_arg1) : FVec Ideal S1x1024x8704 .f32) (ix3 0 k j) := by
  have h : (V m c main_v1 : FVec Ideal S1024x8704 .f32) = shapeCast S1024x8704 (m ((c : Thread nD τ).loc main_arg1) : FVec Ideal S1x1024x8704 .f32) shapeCasts_S1x1024x8704_S1024x8704 := by
    unfold V; after_results; try rfl
  exact (congrFun h _).trans (cast_win _ k j)
theorem cast_wpa (W : FVec Ideal S1x1536x1024 .f32) (k : Fin 1536) (j : Fin 1024) : (shapeCast S1536x1024 W shapeCasts_S1x1536x1024_S1536x1024 : FVec Ideal S1536x1024 .f32) (ix2 k j) = W (ix3 0 k j) := by pointwise
theorem V_wpa (c : Dev nD) (k : Fin 1536) (j : Fin 1024) : (V m c main_v10 : FVec Ideal S1536x1024 .f32) (ix2 k j) = (m ((c : Thread nD τ).loc main_arg8) : FVec Ideal S1x1536x1024 .f32) (ix3 0 k j) := by
  have h : (V m c main_v10 : FVec Ideal S1536x1024 .f32) = shapeCast S1536x1024 (m ((c : Thread nD τ).loc main_arg8) : FVec Ideal S1x1536x1024 .f32) shapeCasts_S1x1536x1024_S1536x1024 := by
    unfold V; after_results; try rfl
  exact (congrFun h _).trans (cast_wpa _ k j)
theorem cast_wpb (W : FVec Ideal S1x1024x1024 .f32) (k : Fin 1024) (j : Fin 1024) : (shapeCast S1024x1024 W shapeCasts_S1x1024x1024_S1024x1024 : FVec Ideal S1024x1024 .f32) (ix2 k j) = W (ix3 0 k j) := by pointwise
theorem V_wpb (c : Dev nD) (k : Fin 1024) (j : Fin 1024) : (V m c main_v11 : FVec Ideal S1024x1024 .f32) (ix2 k j) = (m ((c : Thread nD τ).loc main_arg9) : FVec Ideal S1x1024x1024 .f32) (ix3 0 k j) := by
  have h : (V m c main_v11 : FVec Ideal S1024x1024 .f32) = shapeCast S1024x1024 (m ((c : Thread nD τ).loc main_arg9) : FVec Ideal S1x1024x1024 .f32) shapeCasts_S1x1024x1024_S1024x1024 := by
    unfold V; after_results; try rfl
  exact (congrFun h _).trans (cast_wpb _ k j)
theorem cast_wo (W : FVec Ideal S1x1024x1024 .f32) (k : Fin 1024) (j : Fin 1024) : (shapeCast S1024x1024 W shapeCasts_S1x1024x1024_S1024x1024 : FVec Ideal S1024x1024 .f32) (ix2 k j) = W (ix3 0 k j) := by pointwise
theorem V_wo (c : Dev nD) (k : Fin 1024) (j : Fin 1024) : (V m c main_v12 : FVec Ideal S1024x1024 .f32) (ix2 k j) = (m ((c : Thread nD τ).loc main_arg10) : FVec Ideal S1x1024x1024 .f32) (ix3 0 k j) := by
  have h : (V m c main_v12 : FVec Ideal S1024x1024 .f32) = shapeCast S1024x1024 (m ((c : Thread nD τ).loc main_arg10) : FVec Ideal S1x1024x1024 .f32) shapeCasts_S1x1024x1024_S1024x1024 := by
    unfold V; after_results; try rfl
  exact (congrFun h _).trans (cast_wo _ k j)

theorem blk_x (c : Dev nD) (t : Fin cfg0.N) (ht : t.val < 32) (a : Fin 512) (k : Fin 1024) :
    (iblk m c 0 t : FVec Ideal S512x1024 .f32) (ix2 a k) = (m ((c : Thread nD τ).loc main_arg0) : FVec Ideal S1x16384x1024 .f32) (ix3 0 ⟨t.val * 512 + a, by omega⟩ k) := by
  have hm : min t.val 31 = t.val := by omega
  rw [← V_x m c]
  blk_point [iblk, idx_x t, hm]
theorem blk_n (c : Dev nD) (t : Fin cfg0.N) (ht : t.val < 31) (a : Fin 16) (k : Fin 1024) :
    (iblk m c 1 t : FVec Ideal S16x1024 .f32) (ix2 a k) = (m ((c : Thread nD τ).loc main_arg0) : FVec Ideal S1x16384x1024 .f32) (ix3 0 ⟨t.val * 512 + (512 + a), by omega⟩ k) := by
  have hm : min ((min t.val 31 + 1) * 32) 1023 = (t.val + 1) * 32 := by omega
  rw [← V_x m c]
  blk_point [iblk, idx_n t, hm]
theorem blk_bg (c : Dev nD) (t : Fin cfg0.N) (k : Fin 2048) :
    (iblk m c 2 t : FVec Ideal S1x2048 .f32) (ix2 0 k) = (m ((c : Thread nD τ).loc main_arg2) : FVec Ideal S1x2048 .f32) (ix2 0 k) := by
  rw [← V_bg m c]
  blk_point [iblk, idx_2 t]
theorem blk_conv (c : Dev nD) (t : Fin cfg0.N) (j : Fin 3) (q : Fin 1536) :
    (iblk m c 3 t : FVec Ideal S1x1x4608 .f32) (ix3 0 0 ⟨1536 * j + q, by omega⟩) = (m ((c : Thread nD τ).loc main_arg3) : FVec Ideal S1x3x1536 .f32) (ix3 0 j q) := by
  rw [← V_conv m c]
  blk_point [iblk, idx_3 t]
theorem blk_gv (c : Dev nD) (t : Fin cfg0.N) (k : Fin 1024) :
    (iblk m c 4 t : FVec Ideal S1x1024 .f32) (ix2 0 k) = (m ((c : Thread nD τ).loc main_arg4) : FVec Ideal S1x1024 .f32) (ix2 0 k) := by
  rw [← V_gv m c]
  blk_point [iblk, idx_4 t]
theorem blk_bv (c : Dev nD) (t : Fin cfg0.N) (k : Fin 1024) :
    (iblk m c 5 t : FVec Ideal S1x1024 .f32) (ix2 0 k) = (m ((c : Thread nD τ).loc main_arg5) : FVec Ideal S1x1024 .f32) (ix2 0 k) := by
  rw [← V_bv m c]
  blk_point [iblk, idx_5 t]
theorem blk_go (c : Dev nD) (t : Fin cfg0.N) (k : Fin 1024) :
    (iblk m c 8 t : FVec Ideal S1x1024 .f32) (ix2 0 k) = (m ((c : Thread nD τ).loc main_arg11) : FVec Ideal S1x1024 .f32) (ix2 0 k) := by
  rw [← V_go m c]
  blk_point [iblk, idx_8 t]
theorem blk_bo (c : Dev nD) (t : Fin cfg0.N) (k : Fin 1024) :
    (iblk m c 9 t : FVec Ideal S1x1024 .f32) (ix2 0 k) = (m ((c : Thread nD τ).loc main_arg12) : FVec Ideal S1x1024 .f32) (ix2 0 k) := by
  rw [← V_bo m c]
  blk_point [iblk, idx_9 t]
theorem blk_ws (c : Dev nD) (t : Fin cfg0.N) (n : Fin 8) (i p : Fin 128) :
    (iblk m c 6 t : FVec Ideal S8x128x128 .f32) (ix3 n i p) = (m ((c : Thread nD τ).loc main_arg6) : FVec Ideal S1x8x128x128 .f32) (ix4 0 n i p) := by
  rw [← V_ws m c]
  blk_point [iblk, idx_6 t]
theorem blk_bs (c : Dev nD) (t : Fin cfg0.N) (n : Fin 8) (p : Fin 128) :
    (iblk m c 7 t : FVec Ideal S1x8x128 .f32) (ix3 0 n p) = (m ((c : Thread nD τ).loc main_arg7) : FVec Ideal S1x8x128 .f32) (ix3 0 n p) := by
  rw [← V_main_arg7 m c]
  blk_point [iblk, idx_7 t]

end Cert.Kernel.Value

end
-- ==== Proof.Mix.Weights.lean ====
/- The weights that the first point of the token mixing leaves in its scratch. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise
public import proofs.«01_k».proof.Proof.Slots

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

/-- A slot's block, entry by entry. -/
theorem slotVal_at (p : FVec Ideal S512x512 .f32) (a b : Fin 512) : slotVal p (ix3 0 a b) = p (ix2 a b) := by
  have e : slotVal p = shapeCast S1x512x512 p (by decide) := rfl
  rw [e]
  pointwise

/-- A weight matrix as the call finds it. -/
def hb0 (c : Dev nD) (f : HbBuf0 (F := Ideal) c hbM0_0) : FVec Ideal S1024x8704 .f32 := f

/-- A weight matrix as the call finds it. -/
def hb1 (c : Dev nD) (f : HbBuf0 (F := Ideal) c hbM0_1) : FVec Ideal S1536x1024 .f32 := f

/-- A weight matrix as the call finds it. -/
def hb2 (c : Dev nD) (f : HbBuf0 (F := Ideal) c hbM0_2) : FVec Ideal S1024x1024 .f32 := f

/-- A weight matrix as the call finds it. -/
def hb3 (c : Dev nD) (f : HbBuf0 (F := Ideal) c hbM0_3) : FVec Ideal S1024x1024 .f32 := f

set_option maxHeartbeats 2000000 in
/-- A weight matrix in its scratch. -/
theorem scratch_A_1 (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 1536) (b : Fin 1024) : sout0_A_1 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix2 a b) = hb1 c fh1 (ix2 a b) := by
  frame_out
  canon_tiles x h
  all_goals
    have h1n : (b : ℕ) = _ := h1
    idx_vars x
    pointwise [k0_pay1, k0_pay14, k0_pay15, k0_pay16, k0_pay17, k0_pay18, k0_pay21, k0_pay22, k0_pay23, k0_pay24, k0_pay25, k0_pay29, k0_pay30, k0_pay31, k0_pay32, k0_pay36, k0_pay37, k0_pay38, k0_pay39, k0_pay48, k0_pay49, k0_pay50, k0_pay51, k0_pay52, k0_pay56, k0_pay57, k0_pay58, k0_pay59, k0_pay61, k0_pay62, k0_pay63, k0_pay64, k0_pay80, k0_pay81, k0_pay82, k0_pay83, k0_pay85, k0_pay86, k0_pay87, k0_pay88, k0_pay89, k0_pay91, k0_pay92, k0_pay93, k0_pay94, k0_pay97, k0_pay98, k0_pay99, k0_pay100, k0_pay101, k0_pay102, k0_pay103]
    rw [slotVal_at]
    first
      | exact congrArg (hb1 c fh1) (by idx_ext <;> omega)
      | exact congrArg (fun z => hb1 c fh1 z * Ideal.ofBits .f32 0x3F000000#32) (by idx_ext <;> omega)

set_option maxHeartbeats 2000000 in
/-- A weight matrix in its scratch. -/
theorem scratch_A_2 (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 1024) (b : Fin 1024) : sout0_A_2 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix2 a b) = hb2 c fh2 (ix2 a b) * Ideal.ofBits .f32 0x3F000000#32 := by
  frame_out
  canon_tiles x h
  all_goals
    have h1n : (b : ℕ) = _ := h1
    idx_vars x
    pointwise [k0_pay1, k0_pay14, k0_pay15, k0_pay16, k0_pay17, k0_pay18, k0_pay21, k0_pay22, k0_pay23, k0_pay24, k0_pay25, k0_pay29, k0_pay30, k0_pay31, k0_pay32, k0_pay36, k0_pay37, k0_pay38, k0_pay39, k0_pay48, k0_pay49, k0_pay50, k0_pay51, k0_pay52, k0_pay56, k0_pay57, k0_pay58, k0_pay59, k0_pay61, k0_pay62, k0_pay63, k0_pay64, k0_pay80, k0_pay81, k0_pay82, k0_pay83, k0_pay85, k0_pay86, k0_pay87, k0_pay88, k0_pay89, k0_pay91, k0_pay92, k0_pay93, k0_pay94, k0_pay97, k0_pay98, k0_pay99, k0_pay100, k0_pay101, k0_pay102, k0_pay103]
    rw [slotVal_at]
    first
      | exact congrArg (hb2 c fh2) (by idx_ext <;> omega)
      | exact congrArg (fun z => hb2 c fh2 z * Ideal.ofBits .f32 0x3F000000#32) (by idx_ext <;> omega)

set_option maxHeartbeats 2000000 in
/-- A weight matrix in its scratch. -/
theorem scratch_A_3 (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 1024) (b : Fin 1024) : sout0_A_3 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix2 a b) = hb3 c fh3 (ix2 a b) * Ideal.ofBits .f32 0x3F000000#32 := by
  frame_out
  canon_tiles x h
  all_goals
    have h1n : (b : ℕ) = _ := h1
    idx_vars x
    pointwise [k0_pay1, k0_pay14, k0_pay15, k0_pay16, k0_pay17, k0_pay18, k0_pay21, k0_pay22, k0_pay23, k0_pay24, k0_pay25, k0_pay29, k0_pay30, k0_pay31, k0_pay32, k0_pay36, k0_pay37, k0_pay38, k0_pay39, k0_pay48, k0_pay49, k0_pay50, k0_pay51, k0_pay52, k0_pay56, k0_pay57, k0_pay58, k0_pay59, k0_pay61, k0_pay62, k0_pay63, k0_pay64, k0_pay80, k0_pay81, k0_pay82, k0_pay83, k0_pay85, k0_pay86, k0_pay87, k0_pay88, k0_pay89, k0_pay91, k0_pay92, k0_pay93, k0_pay94, k0_pay97, k0_pay98, k0_pay99, k0_pay100, k0_pay101, k0_pay102, k0_pay103]
    rw [slotVal_at]
    first
      | exact congrArg (hb3 c fh3) (by idx_ext <;> omega)
      | exact congrArg (fun z => hb3 c fh3 z * Ideal.ofBits .f32 0x3F000000#32) (by idx_ext <;> omega)

/-- The block weights. -/
theorem scratch_A_4 (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (n : Fin 8) (a b : Fin 128) : sout0_A_4 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix3 n a b) = x6 (ix3 n a b) := by
  frame_out
  pointwise [k0_pay6]

set_option maxHeartbeats 2000000 in
/-- A weight matrix in its scratch. -/
theorem scratch_A_0 (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 1024) (b : Fin 8704) : sout0_A_0 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix2 a b) = if (b : ℕ) < 6656 then hb0 c fh0 (ix2 a b) else hb0 c fh0 (ix2 a b) * Ideal.ofBits .f32 0x3F000000#32 := by
  frame_out
  canon_tiles x h
  all_goals
    have h1n : (b : ℕ) = _ := h1
    idx_vars x
    pointwise [k0_pay1, k0_pay14, k0_pay15, k0_pay16, k0_pay17, k0_pay18, k0_pay21, k0_pay22, k0_pay23, k0_pay24, k0_pay25, k0_pay29, k0_pay30, k0_pay31, k0_pay32, k0_pay36, k0_pay37, k0_pay38, k0_pay39, k0_pay48, k0_pay49, k0_pay50, k0_pay51, k0_pay52, k0_pay56, k0_pay57, k0_pay58, k0_pay59, k0_pay61, k0_pay62, k0_pay63, k0_pay64, k0_pay80, k0_pay81, k0_pay82, k0_pay83, k0_pay85, k0_pay86, k0_pay87, k0_pay88, k0_pay89, k0_pay91, k0_pay92, k0_pay93, k0_pay94, k0_pay97, k0_pay98, k0_pay99, k0_pay100, k0_pay101, k0_pay102, k0_pay103]
    rw [slotVal_at]
    first
      | rw [if_pos (show (b : ℕ) < 6656 by omega)]
      | rw [if_neg (show ¬(b : ℕ) < 6656 by omega)]
    first
      | exact congrArg (hb0 c fh0) (by idx_ext <;> omega)
      | exact congrArg (fun z => hb0 c fh0 z * Ideal.ofBits .f32 0x3F000000#32) (by idx_ext <;> omega)

end Cert.Kernel.Value
-- ==== Proof.Mix.KitA.lean ====
/- What the first point's loads read, and its steps against the later points'. -/
module

public import proofs.«01_k».proof.Proof.Mix.TileB
public import proofs.«01_k».proof.Proof.Mix.Weights
public import proofs.«01_k».proof.Proof.Slots

@[expose] public section

set_option maxRecDepth 16384
set_option maxHeartbeats 2000000

noncomputable section

namespace Cert.Kernel.Value

open Cert.Kernel Cert.Kernel.Gen Idealize.ShloMosaic Idealize.ShloMosaic.TcCoe Idealize.SL.Sem
open Idealize.ShloMosaic.Pipeline (Dat)

/-- The first point's steps, which are cut otherwise, are the later points' steps. -/
theorem first_conv (X : FVec Ideal S512x1024 .bf16) (x3 : FVec Ideal S1x1x4608 .f32) (a0 b0 c0 a1 b1 c1 a2 b2 c2 : FVec Ideal S512x512 .f32) (w0 w1 w2 : FVec Ideal S1024x512 .bf16) :
    k0_pay60 (F := Ideal) X (k0_pay53 X (k0_pay47 x3 a0 b0 c0) w0) (k0_pay54 X (k0_pay46 x3) a1 b1 c1 w1) (k0_pay55 (k0_pay46 x3) a2 b2 c2) w2
      = k0_pay286 X (k0_pay283 x3) (k0_pay284 X x3 a0 b0 c0 w0) (k0_pay285 x3 a1 b1) c1 w1 a2 b2 c2 w2 := rfl

theorem first_norm (x4 x5 : FVec Ideal S1x1024 .f32) (v0 v1 v2 v3 : FVec Ideal S512x256 .f32) :
    k0_pay45 (F := Ideal) (k0_pay43 x5) (k0_pay44 v0 v1 v2 v3 x4) = k0_pay282 (k0_pay278 x4) (k0_pay279 x5) (k0_pay280 v0 v1 v2 v3) (k0_pay281 v0 v1 v2 v3) := rfl

theorem first_mix (V : FVec Ideal S512x1024 .bf16) (x7 : FVec Ideal S1x8x128 .f32) (w0 w1 w2 w3 w4 w5 w6 w7 : FVec Ideal S1x128x128 .bf16) :
    k0_pay76 (F := Ideal) V (k0_pay68 x7) (k0_pay69 V x7 w0) (k0_pay70 V x7 w1) (k0_pay72 (k0_pay68 x7) (k0_pay71 V) w2) (k0_pay73 V (k0_pay68 x7) w3) (k0_pay74 V (k0_pay68 x7) w4) (k0_pay75 V) w5 w6 w7
      = k0_pay300 V (k0_pay288 x7) (k0_pay289 V x7 w0) (k0_pay290 V x7 w1) (k0_pay294 (k0_pay291 V x7 w2) (k0_pay292 V x7 w2) (k0_pay293 V x7 w2))
          (k0_pay295 V (k0_pay288 x7) w3) (k0_pay296 V (k0_pay288 x7) w4) (k0_pay297 V (k0_pay288 x7) w5) (k0_pay298 V (k0_pay288 x7) w5) (k0_pay299 V (k0_pay288 x7) w5) w6 w7 := rfl

theorem first_v0 (X : FVec Ideal S512x1024 .bf16) (u : FVec Ideal S1024x256 .bf16) : k0_pay20 (F := Ideal) X u = k0_pay256 X u := rfl
theorem first_v1 (X : FVec Ideal S512x1024 .bf16) (u : FVec Ideal S1024x256 .bf16) : k0_pay27 (F := Ideal) X u = k0_pay256 X u := rfl
theorem first_v2 (X : FVec Ideal S512x1024 .bf16) (u : FVec Ideal S1024x256 .bf16) : k0_pay33 (F := Ideal) X u (constant S512x256 .f32 0#32) = k0_pay256 X u := rfl
theorem first_v3 (X : FVec Ideal S512x1024 .bf16) (u : FVec Ideal S1024x256 .bf16) : k0_pay35 (F := Ideal) X u = k0_pay256 X u := rfl

theorem first_u (X : FVec Ideal S512x1024 .bf16) (wu : FVec Ideal S1024x1024 .bf16) : k0_pay67 (F := Ideal) (k0_pay65 X wu) (k0_pay66 X wu) = k0_pay287 X wu := rfl

theorem first_out (x0 : FVec Ideal S512x1024 .f32) (X : FVec Ideal S512x1024 .bf16) (x2 : FVec Ideal S1x2048 .f32) (A : FVec Ideal S512x1536 .bf16) (U M : FVec Ideal S512x1024 .f32) (wga wgb wb wo : FVec Ideal S1024x1024 .bf16) (wa : FVec Ideal S1536x1024 .bf16) :
    k0_pay2 (F := Ideal) (k0_pay9 x0) (k0_pay104 A (k0_pay95 X (k0_pay79 (k0_pay77 x2) k0_pay78) wga) (k0_pay96 (k0_pay84 X (k0_pay79 (k0_pay77 x2) k0_pay78) wgb) (k0_pay90 U M wb)) wa) wo
      = k0_pay3 (k0_pay251 x0) A (k0_pay303 (k0_pay302 X x2 wgb)) (k0_pay304 U M wb) (k0_pay305 X wga) (k0_pay306 (k0_pay301 x2)) wa wo := rfl

theorem first_h0 (E : FVec Ideal S528x1024 .bf16) (w1 w2 : FVec Ideal S1024x512 .bf16) : k0_pay40 (F := Ideal) (k0_pay19 E w1) (k0_pay26 E w2) = k0_pay276 (k0_pay255 E w1) (k0_pay255 E w2) := rfl
theorem first_h1 (E : FVec Ideal S528x1024 .bf16) (w1 w2 : FVec Ideal S1024x512 .bf16) : k0_pay41 (F := Ideal) (k0_pay28 E w1) (k0_pay34 E w2) = k0_pay276 (k0_pay255 E w1) (k0_pay255 E w2) := rfl
theorem first_h2 (E : FVec Ideal S528x1024 .bf16) (w1 w2 : FVec Ideal S1024x512 .bf16) : k0_pay42 (F := Ideal) E w1 w2 = k0_pay276 (k0_pay255 E w1) (k0_pay255 E w2) := rfl

theorem zeros_at (y : S16x1536.Idx) : k0_pay5 (F := Ideal) y = 0 := by
  pointwise [k0_pay5]

/-- Nothing precedes the first tile: the rows it takes as the tile before's are zeros. -/
theorem halo_zero (v : View sig .tc .vmem S544x1536 .f32) (L : List (View.Piece (Elt Ideal) S544x1536 .f32)) (j : Fin 16) (q : Fin 1536) :
    k0_pay13 (F := Ideal) (v.readCov (⟨Rect.unit ![512, 0] ![16, 1536] inb_S544x1536_S16x1536_512_0, k0_pay5 (F := Ideal)⟩ :: L) (Rect.unit (s := S544x1536) ![512, 0] ![16, 1536] inb_S544x1536_S16x1536_512_0).toLoadRect) (ix2 j q) = 0 := by
  rw [View.readCov_cons_toLoadRect]
  have h := zeros_at
  generalize k0_pay5 (F := Ideal) = z at *
  pointwise [k0_pay13]
  exact h _

theorem canon_tail {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨p, hp, _⟩ := h; exact absurd hp List.not_mem_nil
  | ⟨r, w⟩ :: L, h => by
    by_cases hm : y ∈ r.set
    · obtain ⟨x, rfl⟩ := r.exists_idx_of_mem hm
      exact (View.canon_cons_emb r w (L ++ L') x).trans (View.canon_cons_emb r w L x).symm
    · refine (View.canon_cons_of_not_mem ⟨r, w⟩ (L ++ L') hm).trans ((canon_tail L' y L ?_).trans (View.canon_cons_of_not_mem ⟨r, w⟩ L hm).symm)
      obtain ⟨p, hp, hy⟩ := h
      rcases List.mem_cons.mp hp with rfl | hp
      · exact absurd hy hm
      · exact ⟨p, hp, hy⟩

theorem chF_zero (h : FVec Ideal S16x1536 .f32) (hz : ∀ j q, h (ix2 j q) = 0) (G : Fin 528 → Fin 1536 → EReal) : chF h G = chF (fun _ => 0) G := by
  funext r q
  unfold chF
  split
  · exact hz _ _
  · rfl

theorem ch_at_first (p0 p1 p2 : FVec Ideal S528x512 .f32) (h : FVec Ideal S16x1536 .f32) (hz : ∀ j q, h (ix2 j q) = 0) (G : Fin 528 → Fin 1536 → EReal)
    (e0 : ∀ r (j : Fin 512), p0 (ix2 r j) = G r ⟨0 + j, by omega⟩) (e1 : ∀ r (j : Fin 512), p1 (ix2 r j) = G r ⟨512 + j, by omega⟩) (e2 : ∀ r (j : Fin 512), p2 (ix2 r j) = G r ⟨1024 + j, by omega⟩)
    (T : View.Piece (Elt Ideal) S544x1536 .f32) (r : Fin 544) (q : Fin 1536) : View.canon ([⟨Rect.unit ![16, 1024] ![528, 512] inb_S544x1536_S528x512_16_1024, p2⟩, ⟨Rect.unit ![16, 512] ![528, 512] inb_S544x1536_S528x512_16_512, p1⟩, ⟨Rect.unit ![16, 0] ![528, 512] inb_S544x1536_S528x512_16_0, p0⟩, ⟨Rect.unit ![0, 0] ![16, 1536] inb_S544x1536_S16x1536_0_0, h⟩, T] : List (View.Piece (Elt Ideal) S544x1536 .f32)) (ix2 r q) = chF (fun _ => 0) G r q :=
  (canon_tail [T] (ix2 r q) [⟨Rect.unit ![16, 1024] ![528, 512] inb_S544x1536_S528x512_16_1024, p2⟩, ⟨Rect.unit ![16, 512] ![528, 512] inb_S544x1536_S528x512_16_512, p1⟩, ⟨Rect.unit ![16, 0] ![528, 512] inb_S544x1536_S528x512_16_0, p0⟩, ⟨Rect.unit ![0, 0] ![16, 1536] inb_S544x1536_S16x1536_0_0, h⟩] (ch_cover p0 p1 p2 h r q)).trans
    ((ch_at p0 p1 p2 h G e0 e1 e2 r q).trans (congrFun (congrFun (chF_zero h hz G) r) q))

theorem ch_load_first (v : View sig .tc .vmem S544x1536 .f32) (p0 p1 p2 : FVec Ideal S528x512 .f32) (h : FVec Ideal S16x1536 .f32) (hz : ∀ j q, h (ix2 j q) = 0) (G : Fin 528 → Fin 1536 → EReal)
    (e0 : ∀ r (j : Fin 512), p0 (ix2 r j) = G r ⟨0 + j, by omega⟩) (e1 : ∀ r (j : Fin 512), p1 (ix2 r j) = G r ⟨512 + j, by omega⟩) (e2 : ∀ r (j : Fin 512), p2 (ix2 r j) = G r ⟨1024 + j, by omega⟩)
    (T : View.Piece (Elt Ideal) S544x1536 .f32) (o k : ℕ) (ho : o + 512 ≤ 544) (hk : k + 512 ≤ 1536) (inb : ∀ a, ![o, k] a + ![512, 512] a ≤ S544x1536.size a) (a : Fin 512) (j : Fin 512) :
    (v.readCov ([⟨Rect.unit ![16, 1024] ![528, 512] inb_S544x1536_S528x512_16_1024, p2⟩, ⟨Rect.unit ![16, 512] ![528, 512] inb_S544x1536_S528x512_16_512, p1⟩, ⟨Rect.unit ![16, 0] ![528, 512] inb_S544x1536_S528x512_16_0, p0⟩, ⟨Rect.unit ![0, 0] ![16, 1536] inb_S544x1536_S16x1536_0_0, h⟩, T] : List (View.Piece (Elt Ideal) S544x1536 .f32)) (Rect.unit (s := S544x1536) ![o, k] ![512, 512] inb).toLoadRect : FVec Ideal S512x512 .f32) (ix2 a j) = chF (fun _ => 0) G ⟨o + a, by omega⟩ ⟨k + j, by omega⟩ := by
  rw [View.readCov_eq_canon']
  have e : (Rect.unit (s := S544x1536) ![o, k] ![512, 512] inb).toLoadRect.idx (ix2 a j) = (ix2 (⟨o + a, by omega⟩ : Fin 544) (⟨k + j, by omega⟩ : Fin 1536) : S544x1536.Idx) := by
    funext a'
    refine Fin.ext ((Rect.idx_unit_val _ _ _ _ a').trans ?_)
    fin_cases a' <;> simp
  show View.canon _ _ = _
  rw [e, ch_at_first p0 p1 p2 h hz G e0 e1 e2 T]

/-- The entries of a weight matrix that the first point leaves in its scratch: its last columns are halved. -/
def wF0 (c : Dev nD) (f : HbBuf0 (F := Ideal) c hbM0_0) : FVec Ideal S1024x8704 .bf16 :=
  fun y => if (y 1 : ℕ) < 6656 then hb0 c f y else hb0 c f y * Ideal.ofBits .f32 0x3F000000#32

/-- A weight matrix as the first point leaves it in its scratch. -/
def wF1 (c : Dev nD) (f : HbBuf0 (F := Ideal) c hbM0_1) : FVec Ideal S1536x1024 .bf16 := fun y => hb1 c f y

/-- A weight matrix as the first point leaves it in its scratch: halved. -/
def wF2 (c : Dev nD) (f : HbBuf0 (F := Ideal) c hbM0_2) : FVec Ideal S1024x1024 .bf16 := fun y => hb2 c f y * Ideal.ofBits .f32 0x3F000000#32

/-- A weight matrix as the first point leaves it in its scratch: halved. -/
def wF3 (c : Dev nD) (f : HbBuf0 (F := Ideal) c hbM0_3) : FVec Ideal S1024x1024 .bf16 := fun y => hb3 c f y * Ideal.ofBits .f32 0x3F000000#32

/-- One block of a matrix, at its place. -/
def BlockOf {m n : ℕ} (W : FVec Ideal (⟨2, ![m, n]⟩ : Shape) .bf16) (r0 c0 : ℕ) (p : FVec Ideal S512x512 .bf16) : Prop :=
  ∀ (a b : Fin 512) (i : Fin m) (j : Fin n), (i : ℕ) = r0 + a → (j : ℕ) = c0 + b → p (ix2 a b) = W (ix2 i j)

theorem at_block {m n r0 c0 : ℕ} (inb : ∀ a, ![r0, c0] a + ![512, 512] a ≤ (⟨2, ![m, n]⟩ : Shape).size a) (a b : Fin 512) (i : Fin m) (j : Fin n) (hi : (i : ℕ) = r0 + a) (hj : (j : ℕ) = c0 + b) :
    (Rect.unit (s := (⟨2, ![m, n]⟩ : Shape)) ![r0, c0] ![512, 512] inb).emb (ix2 a b) = (ix2 i j : (⟨2, ![m, n]⟩ : Shape).Idx) := by
  funext a'
  refine Fin.ext ?_
  rw [Rect.emb_apply]
  fin_cases a'
  · show r0 + 1 * (a : ℕ) = (i : ℕ)
    omega
  · show c0 + 1 * (b : ℕ) = (j : ℕ)
    omega

theorem block_lo (c : Dev nD) (f : HbBuf0 (F := Ideal) c hbM0_0) (r0 c0 : ℕ) (hc : c0 + 512 ≤ 6656) (inb : ∀ a, ![r0, c0] a + ![512, 512] a ≤ S1024x8704.size a) :
    BlockOf (wF0 c f) r0 c0 (k0_pay14 (F := Ideal) (slotVal (ReadAs.same.apply (View.read (Elt Ideal) ((View.whole main_v1).slice (Rect.unit (s := S1024x8704) ![r0, c0] ![512, 512] inb)) f)))) := by
  intro a b i j hi hj
  unfold wF0
  rw [if_pos (show ((ix2 i j : S1024x8704.Idx) 1 : ℕ) < 6656 by show (j : ℕ) < 6656; omega)]
  pointwise [k0_pay14]
  rw [slotVal_at]
  exact congrArg (hb0 c f) (at_block inb a b i j hi hj)

theorem block_hi (c : Dev nD) (f : HbBuf0 (F := Ideal) c hbM0_0) (r0 c0 : ℕ) (hc : 6656 ≤ c0) (inb : ∀ a, ![r0, c0] a + ![512, 512] a ≤ S1024x8704.size a) :
    BlockOf (wF0 c f) r0 c0 (k0_pay80 (F := Ideal) (slotVal (ReadAs.same.apply (View.read (Elt Ideal) ((View.whole main_v1).slice (Rect.unit (s := S1024x8704) ![r0, c0] ![512, 512] inb)) f)))) := by
  intro a b i j hi hj
  unfold wF0
  rw [if_neg (show ¬((ix2 i j : S1024x8704.Idx) 1 : ℕ) < 6656 by show ¬(j : ℕ) < 6656; omega)]
  pointwise [k0_pay80]
  rw [slotVal_at]
  exact congrArg (fun z => hb0 c f z * Ideal.ofBits .f32 0x3F000000#32) (at_block inb a b i j hi hj)

theorem block_1 (c : Dev nD) (f : HbBuf0 (F := Ideal) c hbM0_1) (r0 c0 : ℕ) (inb : ∀ a, ![r0, c0] a + ![512, 512] a ≤ S1536x1024.size a) :
    BlockOf (wF1 c f) r0 c0 (k0_pay14 (F := Ideal) (slotVal (ReadAs.same.apply (View.read (Elt Ideal) ((View.whole main_v10).slice (Rect.unit (s := S1536x1024) ![r0, c0] ![512, 512] inb)) f)))) := by
  intro a b i j hi hj
  unfold wF1
  pointwise [k0_pay14]
  rw [slotVal_at]
  exact congrArg (hb1 c f) (at_block inb a b i j hi hj)

theorem block_2 (c : Dev nD) (f : HbBuf0 (F := Ideal) c hbM0_2) (r0 c0 : ℕ) (inb : ∀ a, ![r0, c0] a + ![512, 512] a ≤ S1024x1024.size a) :
    BlockOf (wF2 c f) r0 c0 (k0_pay80 (F := Ideal) (slotVal (ReadAs.same.apply (View.read (Elt Ideal) ((View.whole main_v11).slice (Rect.unit (s := S1024x1024) ![r0, c0] ![512, 512] inb)) f)))) := by
  intro a b i j hi hj
  unfold wF2
  pointwise [k0_pay80]
  rw [slotVal_at]
  exact congrArg (fun z => hb2 c f z * Ideal.ofBits .f32 0x3F000000#32) (at_block inb a b i j hi hj)

theorem block_3 (c : Dev nD) (f : HbBuf0 (F := Ideal) c hbM0_3) (r0 c0 : ℕ) (inb : ∀ a, ![r0, c0] a + ![512, 512] a ≤ S1024x1024.size a) :
    BlockOf (wF3 c f) r0 c0 (k0_pay80 (F := Ideal) (slotVal (ReadAs.same.apply (View.read (Elt Ideal) ((View.whole main_v12).slice (Rect.unit (s := S1024x1024) ![r0, c0] ![512, 512] inb)) f)))) := by
  intro a b i j hi hj
  unfold wF3
  pointwise [k0_pay80]
  rw [slotVal_at]
  exact congrArg (fun z => hb3 c f z * Ideal.ofBits .f32 0x3F000000#32) (at_block inb a b i j hi hj)

theorem block_allAt {m n : ℕ} (W : FVec Ideal (⟨2, ![m, n]⟩ : Shape) .bf16) (r0 c0 : ℕ) (p : FVec Ideal S512x512 .bf16) (hp : BlockOf W r0 c0 p) (inb : ∀ a, ![r0, c0] a + ![512, 512] a ≤ (⟨2, ![m, n]⟩ : Shape).size a)
    (i : Fin m) (j : Fin n) (L : List (View.Piece (Elt Ideal) (⟨2, ![m, n]⟩ : Shape) .bf16)) (hL : View.AllAt L (ix2 i j) (W (ix2 i j))) :
    View.AllAt ((⟨Rect.unit ![r0, c0] ![512, 512] inb, p⟩ : View.Piece (Elt Ideal) (⟨2, ![m, n]⟩ : Shape) .bf16) :: L) (ix2 i j) (W (ix2 i j)) := by
  refine View.allAt_cons_unit _ _ _ _ _ (fun x hx => ?_) hL
  have h0 : (i : ℕ) = r0 + (x 0 : ℕ) := hx 0
  have h1 : (j : ℕ) = c0 + (x 1 : ℕ) := hx 1
  have ex : x = (ix2 (x 0) (x 1) : S512x512.Idx) := by
    funext a
    fin_cases a <;> rfl
  exact (congrArg p ex).trans (hp (x 0) (x 1) i j h0 h1)

theorem block_mem {m n : ℕ} (r0 c0 : ℕ) (inb : ∀ a, ![r0, c0] a + ![512, 512] a ≤ (⟨2, ![m, n]⟩ : Shape).size a) (i : Fin m) (j : Fin n) (h : r0 ≤ (i : ℕ) ∧ (i : ℕ) < r0 + 512 ∧ c0 ≤ (j : ℕ) ∧ (j : ℕ) < c0 + 512) :
    (ix2 i j : (⟨2, ![m, n]⟩ : Shape).Idx) ∈ (Rect.unit (s := (⟨2, ![m, n]⟩ : Shape)) ![r0, c0] ![512, 512] inb).set := by
  refine (Rect.mem_set_unit (inb := inb)).mpr fun a => ?_
  fin_cases a
  · exact ⟨h.1, h.2.1⟩
  · exact ⟨h.2.2.1, h.2.2.2⟩

theorem idx_cols {m n : ℕ} (o z : ℕ) (inb : ∀ a, ![0, o] a + ![m, z] a ≤ (⟨2, ![m, n]⟩ : Shape).size a) (k : Fin m) (j : Fin z) (c : Fin n) (hc : (c : ℕ) = o + j) :
    (Rect.unit (s := (⟨2, ![m, n]⟩ : Shape)) ![0, o] ![m, z] inb).toLoadRect.idx (ix2 k j) = (ix2 k c : (⟨2, ![m, n]⟩ : Shape).Idx) := by
  funext a'
  refine Fin.ext ((Rect.idx_unit_val _ _ _ _ a').trans ?_)
  fin_cases a'
  · simp
  · simpa using hc.symm

/-- A load of columns that two blocks fill. -/
theorem load2 (L' : List (View.Piece (Elt Ideal) S1024x8704 .bf16)) (v : View sig .tc .vmem S1024x8704 .bf16) (W : FVec Ideal S1024x8704 .bf16) (c0 o z : ℕ) (p0 p1 : FVec Ideal S512x512 .bf16) (h0 : BlockOf W 0 c0 p0) (h1 : BlockOf W 512 c0 p1)
    (i0 : ∀ a, ![0, c0] a + ![512, 512] a ≤ S1024x8704.size a) (i1 : ∀ a, ![512, c0] a + ![512, 512] a ≤ S1024x8704.size a) (inb : ∀ a, ![0, o] a + ![1024, z] a ≤ S1024x8704.size a) (ho : c0 ≤ o) (hz : o + z ≤ c0 + 512)
    (k : Fin 1024) (j : Fin z) (c : Fin 8704) (hc : (c : ℕ) = o + j) :
    (v.readCov (⟨Rect.unit ![512, c0] ![512, 512] i1, p1⟩ :: ⟨Rect.unit ![0, c0] ![512, 512] i0, p0⟩ :: L' : List (View.Piece (Elt Ideal) S1024x8704 .bf16)) (Rect.unit (s := S1024x8704) ![0, o] ![1024, z] inb).toLoadRect : FVec Ideal (⟨2, ![1024, z]⟩ : Shape) .bf16) (ix2 k j) = W (ix2 k c) := by
  rw [View.readCov_eq_canon']
  show View.canon _ _ = _
  rw [idx_cols (m := 1024) (n := 8704) o z inb k j c hc]
  have hcov : ∃ p ∈ ([⟨Rect.unit ![512, c0] ![512, 512] i1, p1⟩, ⟨Rect.unit ![0, c0] ![512, 512] i0, p0⟩] : List (View.Piece (Elt Ideal) S1024x8704 .bf16)), (ix2 k c : (S1024x8704 : Shape).Idx) ∈ p.1.set := by
    by_cases hk : (k : ℕ) < 512
    · exact ⟨_, List.Mem.tail _ (List.Mem.head _), block_mem 0 c0 i0 k c (by omega)⟩
    · exact ⟨_, List.Mem.head _, block_mem 512 c0 i1 k c (by omega)⟩
  exact (canon_tail L' _ [⟨Rect.unit ![512, c0] ![512, 512] i1, p1⟩, ⟨Rect.unit ![0, c0] ![512, 512] i0, p0⟩] hcov).trans (View.canon_eq_of_allAt _ _ _ hcov (block_allAt W 512 c0 p1 h1 i1 k c _ (block_allAt W 0 c0 p0 h0 i0 k c _ (fun p hp => absurd hp List.not_mem_nil))))

/-- A load of columns that four blocks fill. -/
theorem load4 {n : ℕ} (L' : List (View.Piece (Elt Ideal) (⟨2, ![1024, n]⟩ : Shape) .bf16)) (v : View sig .tc .vmem (⟨2, ![1024, n]⟩ : Shape) .bf16) (W : FVec Ideal (⟨2, ![1024, n]⟩ : Shape) .bf16) (o o' : ℕ) (p0 p1 p2 p3 : FVec Ideal S512x512 .bf16) (h0 : BlockOf W 0 o p0) (h1 : BlockOf W 512 o p1) (h2 : BlockOf W 0 o' p2) (h3 : BlockOf W 512 o' p3)
    (i0 : ∀ a, ![0, o] a + ![512, 512] a ≤ (⟨2, ![1024, n]⟩ : Shape).size a) (i1 : ∀ a, ![512, o] a + ![512, 512] a ≤ (⟨2, ![1024, n]⟩ : Shape).size a)
    (i2 : ∀ a, ![0, o'] a + ![512, 512] a ≤ (⟨2, ![1024, n]⟩ : Shape).size a) (i3 : ∀ a, ![512, o'] a + ![512, 512] a ≤ (⟨2, ![1024, n]⟩ : Shape).size a)
    (inb : ∀ a, ![0, o] a + ![1024, 1024] a ≤ (⟨2, ![1024, n]⟩ : Shape).size a) (ho : o' = o + 512)
    (k : Fin 1024) (j : Fin 1024) (c : Fin n) (hc : (c : ℕ) = o + j) :
    (v.readCov (⟨Rect.unit ![512, o'] ![512, 512] i3, p3⟩ :: ⟨Rect.unit ![0, o'] ![512, 512] i2, p2⟩ :: ⟨Rect.unit ![512, o] ![512, 512] i1, p1⟩ :: ⟨Rect.unit ![0, o] ![512, 512] i0, p0⟩ :: L' : List (View.Piece (Elt Ideal) (⟨2, ![1024, n]⟩ : Shape) .bf16)) (Rect.unit (s := (⟨2, ![1024, n]⟩ : Shape)) ![0, o] ![1024, 1024] inb).toLoadRect : FVec Ideal S1024x1024 .bf16) (ix2 k j) = W (ix2 k c) := by
  rw [View.readCov_eq_canon']
  show View.canon _ _ = _
  rw [idx_cols (m := 1024) (n := n) o 1024 inb k j c hc]
  have hcov : ∃ p ∈ ([⟨Rect.unit ![512, o'] ![512, 512] i3, p3⟩, ⟨Rect.unit ![0, o'] ![512, 512] i2, p2⟩, ⟨Rect.unit ![512, o] ![512, 512] i1, p1⟩, ⟨Rect.unit ![0, o] ![512, 512] i0, p0⟩] : List (View.Piece (Elt Ideal) (⟨2, ![1024, n]⟩ : Shape) .bf16)), (ix2 k c : ((⟨2, ![1024, n]⟩ : Shape) : Shape).Idx) ∈ p.1.set := by
    by_cases hj : (c : ℕ) < o'
    · by_cases hk : (k : ℕ) < 512
      · exact ⟨_, List.Mem.tail _ (List.Mem.tail _ (List.Mem.tail _ (List.Mem.head _))), block_mem 0 o i0 k c (by omega)⟩
      · exact ⟨_, List.Mem.tail _ (List.Mem.tail _ (List.Mem.head _)), block_mem 512 o i1 k c (by omega)⟩
    · by_cases hk : (k : ℕ) < 512
      · exact ⟨_, List.Mem.tail _ (List.Mem.head _), block_mem 0 o' i2 k c (by omega)⟩
      · exact ⟨_, List.Mem.head _, block_mem 512 o' i3 k c (by omega)⟩
  exact (canon_tail L' _ [⟨Rect.unit ![512, o'] ![512, 512] i3, p3⟩, ⟨Rect.unit ![0, o'] ![512, 512] i2, p2⟩, ⟨Rect.unit ![512, o] ![512, 512] i1, p1⟩, ⟨Rect.unit ![0, o] ![512, 512] i0, p0⟩] hcov).trans (View.canon_eq_of_allAt _ _ _ hcov (block_allAt W 512 o' p3 h3 i3 k c _ (block_allAt W 0 o' p2 h2 i2 k c _ (block_allAt W 512 o p1 h1 i1 k c _ (block_allAt W 0 o p0 h0 i0 k c _ (fun p hp => absurd hp List.not_mem_nil))))))

/-- The load of a whole matrix that six blocks fill. -/
theorem load6 (v : View sig .tc .vmem S1536x1024 .bf16) (W : FVec Ideal S1536x1024 .bf16) (p0 p1 p2 p3 p4 p5 : FVec Ideal S512x512 .bf16) (h0 : BlockOf W 0 0 p0) (h1 : BlockOf W 512 0 p1) (h2 : BlockOf W 1024 0 p2) (h3 : BlockOf W 0 512 p3) (h4 : BlockOf W 512 512 p4) (h5 : BlockOf W 1024 512 p5)
    (i0 : ∀ a, ![0, 0] a + ![512, 512] a ≤ S1536x1024.size a) (i1 : ∀ a, ![512, 0] a + ![512, 512] a ≤ S1536x1024.size a) (i2 : ∀ a, ![1024, 0] a + ![512, 512] a ≤ S1536x1024.size a)
    (i3 : ∀ a, ![0, 512] a + ![512, 512] a ≤ S1536x1024.size a) (i4 : ∀ a, ![512, 512] a + ![512, 512] a ≤ S1536x1024.size a) (i5 : ∀ a, ![1024, 512] a + ![512, 512] a ≤ S1536x1024.size a)
    (inb : ∀ a, ![0, 0] a + ![1536, 1024] a ≤ S1536x1024.size a) :
    (v.readCov ([⟨Rect.unit ![1024, 512] ![512, 512] i5, p5⟩, ⟨Rect.unit ![512, 512] ![512, 512] i4, p4⟩, ⟨Rect.unit ![0, 512] ![512, 512] i3, p3⟩, ⟨Rect.unit ![1024, 0] ![512, 512] i2, p2⟩, ⟨Rect.unit ![512, 0] ![512, 512] i1, p1⟩, ⟨Rect.unit ![0, 0] ![512, 512] i0, p0⟩] : List (View.Piece (Elt Ideal) S1536x1024 .bf16)) (Rect.unit (s := S1536x1024) ![0, 0] ![1536, 1024] inb).toLoadRect : FVec Ideal S1536x1024 .bf16) = W := by
  rw [View.readCov_eq_canon']
  funext y
  obtain ⟨k, j, rfl⟩ : ∃ (k : Fin 1536) (j : Fin 1024), y = (ix2 k j : S1536x1024.Idx) := ⟨y 0, y 1, by funext a; fin_cases a <;> rfl⟩
  show View.canon _ _ = _
  rw [idx_cols (m := 1536) (n := 1024) 0 1024 inb k j j (Nat.zero_add _).symm]
  refine View.canon_eq_of_allAt _ _ _ ?_ (block_allAt W 1024 512 p5 h5 i5 k j _ (block_allAt W 512 512 p4 h4 i4 k j _ (block_allAt W 0 512 p3 h3 i3 k j _ (block_allAt W 1024 0 p2 h2 i2 k j _ (block_allAt W 512 0 p1 h1 i1 k j _ (block_allAt W 0 0 p0 h0 i0 k j _ (fun p hp => absurd hp List.not_mem_nil)))))))
  by_cases hj : (j : ℕ) < 512
  · by_cases hk : (k : ℕ) < 512
    · exact ⟨_, List.Mem.tail _ (List.Mem.tail _ (List.Mem.tail _ (List.Mem.tail _ (List.Mem.tail _ (List.Mem.head _))))), block_mem 0 0 i0 k j (by omega)⟩
    by_cases hk : (k : ℕ) < 1024
    · exact ⟨_, List.Mem.tail _ (List.Mem.tail _ (List.Mem.tail _ (List.Mem.tail _ (List.Mem.head _)))), block_mem 512 0 i1 k j (by omega)⟩
    · exact ⟨_, List.Mem.tail _ (List.Mem.tail _ (List.Mem.tail _ (List.Mem.head _))), block_mem 1024 0 i2 k j (by omega)⟩
  · by_cases hk : (k : ℕ) < 512
    · exact ⟨_, List.Mem.tail _ (List.Mem.tail _ (List.Mem.head _)), block_mem 0 512 i3 k j (by omega)⟩
    by_cases hk : (k : ℕ) < 1024
    · exact ⟨_, List.Mem.tail _ (List.Mem.head _), block_mem 512 512 i4 k j (by omega)⟩
    · exact ⟨_, List.Mem.head _, block_mem 1024 512 i5 k j (by omega)⟩

theorem load_blk (v : View sig .tc .vmem S8x128x128 .bf16) (Z : FVec Ideal S8x128x128 .bf16) (inb : ∀ a, ![0, 0, 0] a + ![8, 128, 128] a ≤ S8x128x128.size a) (n : ℕ) (inb' : ∀ a, ![n, 0, 0] a + ![1, 128, 128] a ≤ S8x128x128.size a) (m : Fin 8) (hm : (m : ℕ) = n) (i p : Fin 128) :
    (v.readCov ([⟨Rect.unit ![0, 0, 0] ![8, 128, 128] inb, Z⟩] : List (View.Piece (Elt Ideal) S8x128x128 .bf16)) (Rect.unit (s := S8x128x128) ![n, 0, 0] ![1, 128, 128] inb').toLoadRect : FVec Ideal S1x128x128 .bf16) (ix3 0 i p) = Z (ix3 m i p) := by
  rw [View.readCov_eq_canon']
  have e : (Rect.unit (s := S8x128x128) ![n, 0, 0] ![1, 128, 128] inb').toLoadRect.idx (ix3 0 i p) = (ix3 m i p : S8x128x128.Idx) := by
    funext a'
    refine Fin.ext ((Rect.idx_unit_val _ _ _ _ a').trans ?_)
    fin_cases a'
    · simpa using hm.symm
    · simp
    · simp
  show View.canon _ _ = _
  rw [e]
  refine View.canon_eq_of_allAt _ _ _ ⟨_, List.Mem.head _, ?_⟩ (View.allAt_cons_unit _ _ _ _ _ (fun x hx => ?_) (fun p hp => absurd hp List.not_mem_nil))
  · refine (Rect.mem_set_unit (inb := inb)).mpr fun a => ?_
    fin_cases a
    · exact ⟨Nat.zero_le _, by simpa using m.2⟩
    · exact ⟨Nat.zero_le _, by simpa using i.2⟩
    · exact ⟨Nat.zero_le _, by simpa using p.2⟩
  · have h0 : (m : ℕ) = 0 + (x 0 : ℕ) := hx 0
    have h1 : (i : ℕ) = 0 + (x 1 : ℕ) := hx 1
    have h2 : (p : ℕ) = 0 + (x 2 : ℕ) := hx 2
    refine congrArg Z ?_
    funext a
    fin_cases a
    · exact Fin.ext (show (x 0 : ℕ) = m by omega)
    · exact Fin.ext (show (x 1 : ℕ) = i by omega)
    · exact Fin.ext (show (x 2 : ℕ) = p by omega)

theorem whole_of {f W : FVec Ideal S1024x1024 .bf16} (h : ∀ k j, f (ix2 k j) = W (ix2 k j)) : f = W := by
  funext y
  obtain ⟨k, j, rfl⟩ : ∃ (k : Fin 1024) (j : Fin 1024), y = (ix2 k j : S1024x1024.Idx) := ⟨y 0, y 1, by funext a; fin_cases a <;> rfl⟩
  exact h k j

theorem tileF_weights {x : Fin 512 → Fin 1024 → EReal} {cv : Fin 512 → Fin 1536 → EReal} {x2 : FVec Ideal S1x2048 .f32} {x4 x5 : FVec Ideal S1x1024 .f32} {x7 : FVec Ideal S1x8x128 .f32}
    {w : FVec Ideal S1024x8704 .bf16} {wa wa' : FVec Ideal S1536x1024 .bf16} {wb wb' wo wo' : FVec Ideal S1024x1024 .bf16} {W : FVec Ideal S8x128x128 .bf16} {a : Fin 512} {b : Fin 1024}
    (ha : wa = wa') (hb : wb = wb') (ho : wo = wo') : tileF x cv x2 x4 x5 x7 w wa wb wo W a b = tileF x cv x2 x4 x5 x7 w wa' wb' wo' W a b := by
  rw [ha, hb, ho]

end Cert.Kernel.Value
-- ==== Proof.Mix.TileA.lean ====
/- The first tile of the token mixing: what the first point leaves in its scratch. -/
module

public import proofs.«01_k».proof.Proof.Mix.KitA

@[expose] public section

set_option maxRecDepth 16384
set_option maxHeartbeats 2000000

noncomputable section

namespace Cert.Kernel.Value

open Cert.Kernel Cert.Kernel.Gen Idealize.ShloMosaic Idealize.ShloMosaic.TcCoe Idealize.SL.Sem
open Idealize.ShloMosaic.Pipeline (Dat)

/-- The products of the first tile's last rows, which its point leaves for the next one. -/
theorem halo_A (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 544) (b : Fin 1536) : sout0_A_6 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix2 a b)
      = chF (fun _ => 0) (prodF (rowE x0 x1 (Scalar.cmpi .slt (BitVec.ofNat 32 (i 0 : ℕ)) 31#32)) (wF0 c fh0)) a b := by
  frame_out
  simp (disch := decide) only [↓ View.readCov_skip arg20.view]
  simp only [first_h0, first_h1, first_h2]
  have hE := fun r k => ext_all arg25.view x0 x1 (Scalar.cmpi .slt (BitVec.ofNat 32 (i 0 : ℕ)) 31#32) r k
  exact ch_at_first _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ a b

/-- What the first point leaves in the carried rows. -/
theorem tile_A (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : cond0_0 i) (hc1 : ¬cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (a : Fin 512) (b : Fin 1024) : sout0_A_7 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 fh0 fh1 fh2 fh3 (ix2 a b)
      = tileF (fun a k => x0 (ix2 a k)) (cvF (fun _ => 0) (rowE x0 x1 (Scalar.cmpi .slt (BitVec.ofNat 32 (i 0 : ℕ)) 31#32)) (wF0 c fh0) x3) x2 x4 x5 x7 (wF0 c fh0) (wF1 c fh1) (wF2 c fh2) (wF3 c fh3) (k0_pay6 x6) a b := by
  frame_out
  simp (disch := decide) only [↓ View.readCov_skip arg20.view]
  simp only [first_h0, first_h1, first_h2]
  simp only [first_v0, first_v1, first_v2, first_v3, first_u, first_norm, first_conv, first_mix]
  rw [first_out]
  have hE := fun r k => ext_all arg25.view x0 x1 (Scalar.cmpi .slt (BitVec.ofNat 32 (i 0 : ℕ)) 31#32) r k
  refine Eq.trans (tile_at x0 _ (fun a k => ext_own _ _ _ _ a k) _ x2 x4 x5 x7 (wF0 c fh0) _ _ _ (k0_pay6 x6) (cvF (fun _ => 0) (rowE x0 x1 (Scalar.cmpi .slt (BitVec.ofNat 32 (i 0 : ℕ)) 31#32)) (wF0 c fh0) x3) ?_ _ _ _ (fun k j => load4 _ _ (wF0 c fh0) 7680 8192 _ _ _ _ (block_hi c fh0 0 7680 (by omega) _) (block_hi c fh0 512 7680 (by omega) _) (block_hi c fh0 0 8192 (by omega) _) (block_hi c fh0 512 8192 (by omega) _) _ _ _ _ _ rfl k j _ (by dsimp only <;> omega)) (fun k j => load4 _ _ (wF0 c fh0) 4608 5120 _ _ _ _ (block_lo c fh0 0 4608 (by omega) _) (block_lo c fh0 512 4608 (by omega) _) (block_lo c fh0 0 5120 (by omega) _) (block_lo c fh0 512 5120 (by omega) _) _ _ _ _ _ rfl k j _ (by dsimp only <;> omega)) (fun k j => load4 _ _ (wF0 c fh0) 6656 7168 _ _ _ _ (block_hi c fh0 0 6656 (by omega) _) (block_hi c fh0 512 6656 (by omega) _) (block_hi c fh0 0 7168 (by omega) _) (block_hi c fh0 512 7168 (by omega) _) _ _ _ _ _ rfl k j _ (by dsimp only <;> omega)) _ _ _ _ _ _ _ _ rfl rfl rfl rfl
    (fun k j => load2 _ _ (wF0 c fh0) 5632 5632 256 _ _ (block_lo c fh0 0 5632 (by omega) _) (block_lo c fh0 512 5632 (by omega) _) _ _ _ (by omega) (by omega) k j _ (by dsimp only <;> omega)) (fun k j => load2 _ _ (wF0 c fh0) 5632 5888 256 _ _ (block_lo c fh0 0 5632 (by omega) _) (block_lo c fh0 512 5632 (by omega) _) _ _ _ (by omega) (by omega) k j _ (by dsimp only <;> omega)) (fun k j => load2 _ _ (wF0 c fh0) 6144 6144 256 _ _ (block_lo c fh0 0 6144 (by omega) _) (block_lo c fh0 512 6144 (by omega) _) _ _ _ (by omega) (by omega) k j _ (by dsimp only <;> omega)) (fun k j => load2 _ _ (wF0 c fh0) 6144 6400 256 _ _ (block_lo c fh0 0 6144 (by omega) _) (block_lo c fh0 512 6144 (by omega) _) _ _ _ (by omega) (by omega) k j _ (by dsimp only <;> omega)) _ _ _ _ _ _ _ _ (fun i p => load_blk _ (k0_pay6 x6) _ 0 _ 0 rfl i p) (fun i p => load_blk _ (k0_pay6 x6) _ 1 _ 1 rfl i p) (fun i p => load_blk _ (k0_pay6 x6) _ 2 _ 2 rfl i p) (fun i p => load_blk _ (k0_pay6 x6) _ 3 _ 3 rfl i p) (fun i p => load_blk _ (k0_pay6 x6) _ 4 _ 4 rfl i p) (fun i p => load_blk _ (k0_pay6 x6) _ 5 _ 5 rfl i p) (fun i p => load_blk _ (k0_pay6 x6) _ 6 _ 6 rfl i p) (fun i p => load_blk _ (k0_pay6 x6) _ 7 _ 7 rfl i p) _ rfl a b) (tileF_weights (load6 _ (wF1 c fh1) _ _ _ _ _ _ (block_1 c fh1 0 0 _) (block_1 c fh1 512 0 _) (block_1 c fh1 1024 0 _) (block_1 c fh1 0 512 _) (block_1 c fh1 512 512 _) (block_1 c fh1 1024 512 _) _ _ _ _ _ _ _) (whole_of (fun k j => load4 _ _ (wF2 c fh2) 0 512 _ _ _ _ (block_2 c fh2 0 0 _) (block_2 c fh2 512 0 _) (block_2 c fh2 0 512 _) (block_2 c fh2 512 512 _) _ _ _ _ _ rfl k j _ (Nat.zero_add _).symm)) (whole_of (fun k j => load4 _ _ (wF3 c fh3) 0 512 _ _ _ _ (block_3 c fh3 0 0 _) (block_3 c fh3 512 0 _) (block_3 c fh3 0 512 _) (block_3 c fh3 512 512 _) _ _ _ _ _ rfl k j _ (Nat.zero_add _).symm)))
  intro a q
  exact conv_at _ x3 _ _ _ _ _ _ _ _ _ _ _ _ (fun a => chF (fun _ => 0) (prodF (rowE x0 x1 (Scalar.cmpi .slt (BitVec.ofNat 32 (i 0 : ℕ)) 31#32)) (wF0 c fh0)) ⟨15 + a, by omega⟩) (fun a => chF (fun _ => 0) (prodF (rowE x0 x1 (Scalar.cmpi .slt (BitVec.ofNat 32 (i 0 : ℕ)) 31#32)) (wF0 c fh0)) ⟨16 + a, by omega⟩) (fun a => chF (fun _ => 0) (prodF (rowE x0 x1 (Scalar.cmpi .slt (BitVec.ofNat 32 (i 0 : ℕ)) 31#32)) (wF0 c fh0)) ⟨17 + a, by omega⟩) (fun k q => wF0 c fh0 (ix2 k ⟨q, by omega⟩))
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 15 0 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 16 0 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 17 0 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 15 512 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 16 512 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 17 512 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 15 1024 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 16 1024 (by omega) (by omega) _ a j)
    (fun a j => ch_load_first _ _ _ _ _ (fun j q => halo_zero _ _ j q) (prodF (rowE x0 x1 (Scalar.cmpi .slt (BitVec.ofNat 32 (i 0 : ℕ)) 31#32)) (wF0 c fh0))
        (fun r j => prod_at _ _ hE (wF0 c fh0) _ _ 0 (by omega) (fun k j => load2 _ _ (wF0 c fh0) 1536 1536 512 _ _ (block_lo c fh0 0 1536 (by omega) _) (block_lo c fh0 512 1536 (by omega) _) _ _ _ (by omega) (by omega) k j _ (by dsimp only <;> omega)) (fun k j => load2 _ _ (wF0 c fh0) 3072 3072 512 _ _ (block_lo c fh0 0 3072 (by omega) _) (block_lo c fh0 512 3072 (by omega) _) _ _ _ (by omega) (by omega) k j _ (by dsimp only <;> omega)) r j)
        (fun r j => prod_at _ _ hE (wF0 c fh0) _ _ 512 (by omega) (fun k j => load2 _ _ (wF0 c fh0) 2048 2048 512 _ _ (block_lo c fh0 0 2048 (by omega) _) (block_lo c fh0 512 2048 (by omega) _) _ _ _ (by omega) (by omega) k j _ (by dsimp only <;> omega)) (fun k j => load2 _ _ (wF0 c fh0) 3584 3584 512 _ _ (block_lo c fh0 0 3584 (by omega) _) (block_lo c fh0 512 3584 (by omega) _) _ _ _ (by omega) (by omega) k j _ (by dsimp only <;> omega)) r j)
        (fun r j => prod_at _ _ hE (wF0 c fh0) _ _ 1024 (by omega) (fun k j => load2 _ _ (wF0 c fh0) 2560 2560 512 _ _ (block_lo c fh0 0 2560 (by omega) _) (block_lo c fh0 512 2560 (by omega) _) _ _ _ (by omega) (by omega) k j _ (by dsimp only <;> omega)) (fun k j => load2 _ _ (wF0 c fh0) 4096 4096 512 _ _ (block_lo c fh0 0 4096 (by omega) _) (block_lo c fh0 512 4096 (by omega) _) _ _ _ (by omega) (by omega) k j _ (by dsimp only <;> omega)) r j) _ 17 1024 (by omega) (by omega) _ a j)
    (fun k j => load2 _ _ (wF0 c fh0) 0 0 512 _ _ (block_lo c fh0 0 0 (by omega) _) (block_lo c fh0 512 0 (by omega) _) _ _ _ (by omega) (by omega) k j _ (by dsimp only <;> omega)) (fun k j => load2 _ _ (wF0 c fh0) 512 512 512 _ _ (block_lo c fh0 0 512 (by omega) _) (block_lo c fh0 512 512 (by omega) _) _ _ _ (by omega) (by omega) k j _ (by dsimp only <;> omega)) (fun k j => load2 _ _ (wF0 c fh0) 1024 1024 512 _ _ (block_lo c fh0 0 1024 (by omega) _) (block_lo c fh0 512 1024 (by omega) _) _ _ _ (by omega) (by omega) k j _ (by dsimp only <;> omega)) a q

end Cert.Kernel.Value
-- ==== Proof.Mix.NormB.lean ====
/- The norm that a middle point of the token mixing applies. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

/-- What a point of case B leaves in the output block: the layer norm of the carried rows. -/
theorem out_B (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : cond0_1 i) (hc2 : ¬cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (xs0 : Vec Ideal S1024x8704 .bf16) (xs1 : Vec Ideal S1536x1024 .bf16) (xs2 : Vec Ideal S1024x1024 .bf16) (xs3 : Vec Ideal S1024x1024 .bf16) (xs4 : Vec Ideal S8x128x128 .bf16) (xs6 : Vec Ideal S544x1536 .f32) (xs7 : Vec Ideal S512x1024 .f32) (fh0 : HbBuf0 (F := Ideal) c hbM0_0) (fh1 : HbBuf0 (F := Ideal) c hbM0_1) (fh2 : HbBuf0 (F := Ideal) c hbM0_2) (fh3 : HbBuf0 (F := Ideal) c hbM0_3)
    (y : S512x1024.Idx) (a : Fin 512) (b : Fin 1024) (ha : (y 0 : ℕ) = a) (hb : (y 1 : ℕ) = b) :
    out0_B_12 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3 y
      = lnE (Ideal.ofBits .f32 0x3727C5AC#32) (fun k => xs7 (ix2 a k)) (fun k => x8 (ix2 0 k)) (fun k => x9 (ix2 0 k)) b := by
  frame_out
  canon_tiles x h
  all_goals
    have e0 := Fin.ext (a := a) (b := ⟨_, lt_of_eq_of_lt (ha.symm.trans h0).symm a.isLt⟩) (ha.symm.trans h0)
    have e1 : b = x 1 := Fin.ext (hb.symm.trans h1)
    rw [e0, e1]
    pointwise [k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250]
    rfl

end Cert.Kernel.Value
-- ==== Proof.Mix.NormC.lean ====
/- The norm that the last point of the token mixing applies. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

/-- What a point of case C leaves in the output block: the layer norm of the carried rows. -/
theorem out_C (c : Dev nD) (i : grid0.Coords) (arg1 : Memref sig .tc .vmem S512x1024 .f32) (harg1 : arg1.IsWhole) (arg2 : Memref sig .tc .vmem S16x1024 .f32) (harg2 : arg2.IsWhole) (arg4 : Memref sig .tc .vmem S1x2048 .f32) (harg4 : arg4.IsWhole) (arg5 : Memref sig .tc .vmem S1x1x4608 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x8x128 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S32x4096 .f32) (harg15 : arg15.IsWhole) (arg16 : Memref sig .tc .vmem S128x1024 .f32) (harg16 : arg16.IsWhole) (arg17 : Memref sig .tc .vmem S512x1024 .f32) (harg17 : arg17.IsWhole) (arg18 : Memref sig .tc .vmem S32x4096 .bf16) (harg18 : arg18.IsWhole) (arg19 : Memref sig .tc .vmem S128x1024 .bf16) (harg19 : arg19.IsWhole) (arg20 : Memref sig .tc .vmem S1024x8704 .bf16) (harg20 : arg20.IsWhole) (arg21 : Memref sig .tc .vmem S1536x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S8x128x128 .bf16) (harg24 : arg24.IsWhole) (arg25 : Memref sig .tc .vmem S528x1024 .bf16) (harg25 : arg25.IsWhole) (arg26 : Memref sig .tc .vmem S544x1536 .f32) (harg26 : arg26.IsWhole) (arg27 : Memref sig .tc .vmem S512x1024 .f32) (harg27 : arg27.IsWhole) (alloca_r0 : Memref sig .tc .vmem S6x512x512 .f32) (halloca_r0 : alloca_r0.IsWhole) (hc0 : ¬cond0_0 i) (hc1 : ¬cond0_1 i) (hc2 : cond0_2 i)
    (x0 : Vec Ideal S512x1024 .f32) (x1 : Vec Ideal S16x1024 .f32) (x2 : Vec Ideal S1x2048 .f32) (x3 : Vec Ideal S1x1x4608 .f32) (x4 : Vec Ideal S1x1024 .f32) (x5 : Vec Ideal S1x1024 .f32) (x6 : Vec Ideal S8x128x128 .f32) (x7 : Vec Ideal S1x8x128 .f32) (x8 : Vec Ideal S1x1024 .f32) (x9 : Vec Ideal S1x1024 .f32) (x10 : Vec Ideal S32x4096 .f32) (x11 : Vec Ideal S128x1024 .f32) (xs0 : Vec Ideal S1024x8704 .bf16) (xs1 : Vec Ideal S1536x1024 .bf16) (xs2 : Vec Ideal S1024x1024 .bf16) (xs3 : Vec Ideal S1024x1024 .bf16) (xs4 : Vec Ideal S8x128x128 .bf16) (xs6 : Vec Ideal S544x1536 .f32) (xs7 : Vec Ideal S512x1024 .f32) (fh0 : HbBuf0 (F := Ideal) c hbM0_0) (fh1 : HbBuf0 (F := Ideal) c hbM0_1) (fh2 : HbBuf0 (F := Ideal) c hbM0_2) (fh3 : HbBuf0 (F := Ideal) c hbM0_3)
    (y : S512x1024.Idx) (a : Fin 512) (b : Fin 1024) (ha : (y 0 : ℕ) = a) (hb : (y 1 : ℕ) = b) :
    out0_C_12 (F := Ideal) c i arg1 harg1 arg2 harg2 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 alloca_r0 halloca_r0 hc0 hc1 hc2 x0 x1 x2 x3 x4 x5 x6 x7 x8 x9 x10 x11 xs0 xs1 xs2 xs3 xs4 xs6 xs7 fh0 fh1 fh2 fh3 y
      = lnE (Ideal.ofBits .f32 0x3727C5AC#32) (fun k => xs7 (ix2 a k)) (fun k => x8 (ix2 0 k)) (fun k => x9 (ix2 0 k)) b := by
  frame_out
  canon_tiles x h
  all_goals
    have e0 := Fin.ext (a := a) (b := ⟨_, lt_of_eq_of_lt (ha.symm.trans h0).symm a.isLt⟩) (ha.symm.trans h0)
    have e1 : b = x 1 := Fin.ext (hb.symm.trans h1)
    rw [e0, e1]
    pointwise [k0_pay4, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381]
    rfl

end Cert.Kernel.Value
-- ==== Proof.Mix.Value.lean ====
/- The token mixing call's result rows are the reference's. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise
public import proofs.«01_k».proof.Proof.Mix.Match
public import proofs.«01_k».proof.Proof.Mix.Inputs
public import proofs.«01_k».proof.Proof.Mix.Weights
public import proofs.«01_k».proof.Proof.Mix.TileA
public import proofs.«01_k».proof.Proof.Mix.NormB
public import proofs.«01_k».proof.Proof.Mix.NormC

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

open Cert.ReferenceIdeal.Value (A0 A1 A2 A3 A4 A5 A6 A7 A8 A9 A10 A11 A12)

variable (m : (ℓ : Loc nD τ sig) → Buf (Elt Ideal) ℓ)

/-- The call and the reference are launched at the same arguments. -/
structure Same (c : Dev nD) (L : RefV) : Prop where
  h0 : (m ((c : Thread nD τ).loc main_arg0) : FVec Ideal S1x16384x1024 .f32) = A0 L
  h1 : (m ((c : Thread nD τ).loc main_arg1) : FVec Ideal S1x1024x8704 .f32) = A1 L
  h2 : (m ((c : Thread nD τ).loc main_arg2) : FVec Ideal S1x2048 .f32) = A2 L
  h3 : (m ((c : Thread nD τ).loc main_arg3) : FVec Ideal S1x3x1536 .f32) = A3 L
  h4 : (m ((c : Thread nD τ).loc main_arg4) : FVec Ideal S1x1024 .f32) = A4 L
  h5 : (m ((c : Thread nD τ).loc main_arg5) : FVec Ideal S1x1024 .f32) = A5 L
  h6 : (m ((c : Thread nD τ).loc main_arg6) : FVec Ideal S1x8x128x128 .f32) = A6 L
  h7 : (m ((c : Thread nD τ).loc main_arg7) : FVec Ideal S1x8x128 .f32) = A7 L
  h8 : (m ((c : Thread nD τ).loc main_arg8) : FVec Ideal S1x1536x1024 .f32) = A8 L
  h9 : (m ((c : Thread nD τ).loc main_arg9) : FVec Ideal S1x1024x1024 .f32) = A9 L
  h10 : (m ((c : Thread nD τ).loc main_arg10) : FVec Ideal S1x1024x1024 .f32) = A10 L
  h11 : (m ((c : Thread nD τ).loc main_arg11) : FVec Ideal S1x1024 .f32) = A11 L
  h12 : (m ((c : Thread nD τ).loc main_arg12) : FVec Ideal S1x1024 .f32) = A12 L

theorem last_bit : ∀ t : Fin cfg0.N, (Scalar.cmpi .slt (BitVec.ofNat 32 (grid0.coords t 0 : ℕ)) 31#32 = 1#1) ↔ t.val < 31 :=
  (by decide +kernel : ∀ t : Fin grid0.N, (Scalar.cmpi .slt (BitVec.ofNat 32 (grid0.coords t 0 : ℕ)) 31#32 = 1#1) ↔ t.val < 31)

/-- The weights stay in their scratches from the first point on. -/
theorem stay (c : Dev nD) (n : ℕ) (hn : n < cfg0.N) (h0 : 0 < cfg0.N) :
    (outsAt0 m c n hn).2.1 = (outsAt0 m c 0 h0).2.1 ∧ (outsAt0 m c n hn).2.2.1 = (outsAt0 m c 0 h0).2.2.1
      ∧ (outsAt0 m c n hn).2.2.2.1 = (outsAt0 m c 0 h0).2.2.2.1 ∧ (outsAt0 m c n hn).2.2.2.2.1 = (outsAt0 m c 0 h0).2.2.2.2.1
      ∧ (outsAt0 m c n hn).2.2.2.2.2.1 = (outsAt0 m c 0 h0).2.2.2.2.2.1 := by
  induction n with
  | zero => exact ⟨rfl, rfl, rfl, rfl, rfl⟩
  | succ n ih =>
    have hN : n + 1 < 33 := lt_of_lt_of_eq hn N_0
    have ih := ih (Nat.lt_of_succ_lt hn)
    by_cases h : n + 1 = 32
    · rw [outsAt0_C m c ⟨n + 1, hn⟩ (by dsimp only; omega) (by dsimp only; omega) (by dsimp only; omega)]
      exact ih
    · rw [outsAt0_B m c ⟨n + 1, hn⟩ (by dsimp only; omega) (by dsimp only; omega) (by dsimp only; omega)]
      exact ih

variable {m} {c : Dev nD} {L : RefV}

theorem w_in (S : Same m c L) (n : ℕ) (hn : n < cfg0.N) (k : Fin 1024) (j : Fin 8704) :
    ((outsAt0 m c n hn).2.1 : FVec Ideal S1024x8704 .bf16) (ix2 k j) = if (j : ℕ) < 6656 then A1 L (ix3 0 k j) else A1 L (ix3 0 k j) * Ideal.ofBits .f32 0x3F000000#32 := by
  have h0 : 0 < cfg0.N := Nat.lt_of_le_of_lt (Nat.zero_le _) hn
  rw [(stay m c n hn h0).1, outsAt0_A m c ⟨0, h0⟩ (Nat.zero_mod 33) (by simp) (by dsimp only; omega)]
  dsimp only
  rw [scratch_A_0]
  have e : hb0 c (V m c main_v1) (ix2 k j) = A1 L (ix3 0 k j) := (V_win m c k j).trans (congrFun S.h1 _)
  rw [e]

theorem w_pa (S : Same m c L) (n : ℕ) (hn : n < cfg0.N) (k : Fin 1536) (j : Fin 1024) :
    ((outsAt0 m c n hn).2.2.1 : FVec Ideal S1536x1024 .bf16) (ix2 k j) = A8 L (ix3 0 k j) := by
  have h0 : 0 < cfg0.N := Nat.lt_of_le_of_lt (Nat.zero_le _) hn
  rw [(stay m c n hn h0).2.1, outsAt0_A m c ⟨0, h0⟩ (Nat.zero_mod 33) (by simp) (by dsimp only; omega)]
  dsimp only
  rw [scratch_A_1]
  exact (V_wpa m c k j).trans (congrFun S.h8 _)

theorem w_pb (S : Same m c L) (n : ℕ) (hn : n < cfg0.N) (k : Fin 1024) (j : Fin 1024) :
    ((outsAt0 m c n hn).2.2.2.1 : FVec Ideal S1024x1024 .bf16) (ix2 k j) = A9 L (ix3 0 k j) * Ideal.ofBits .f32 0x3F000000#32 := by
  have h0 : 0 < cfg0.N := Nat.lt_of_le_of_lt (Nat.zero_le _) hn
  rw [(stay m c n hn h0).2.2.1, outsAt0_A m c ⟨0, h0⟩ (Nat.zero_mod 33) (by simp) (by dsimp only; omega)]
  dsimp only
  rw [scratch_A_2]
  have e : hb2 c (V m c main_v11) (ix2 k j) = A9 L (ix3 0 k j) := (V_wpb m c k j).trans (congrFun S.h9 _)
  rw [e]

theorem w_o (S : Same m c L) (n : ℕ) (hn : n < cfg0.N) (k : Fin 1024) (j : Fin 1024) :
    ((outsAt0 m c n hn).2.2.2.2.1 : FVec Ideal S1024x1024 .bf16) (ix2 k j) = A10 L (ix3 0 k j) * Ideal.ofBits .f32 0x3F000000#32 := by
  have h0 : 0 < cfg0.N := Nat.lt_of_le_of_lt (Nat.zero_le _) hn
  rw [(stay m c n hn h0).2.2.2.1, outsAt0_A m c ⟨0, h0⟩ (Nat.zero_mod 33) (by simp) (by dsimp only; omega)]
  dsimp only
  rw [scratch_A_3]
  have e : hb3 c (V m c main_v12) (ix2 k j) = A10 L (ix3 0 k j) := (V_wo m c k j).trans (congrFun S.h10 _)
  rw [e]

theorem w_s (S : Same m c L) (n : ℕ) (hn : n < cfg0.N) (i : Fin 8) (p q : Fin 128) :
    ((outsAt0 m c n hn).2.2.2.2.2.1 : FVec Ideal S8x128x128 .bf16) (ix3 i p q) = A6 L (ix4 0 i p q) := by
  have h0 : 0 < cfg0.N := Nat.lt_of_le_of_lt (Nat.zero_le _) hn
  rw [(stay m c n hn h0).2.2.2.2, outsAt0_A m c ⟨0, h0⟩ (Nat.zero_mod 33) (by simp) (by dsimp only; omega)]
  dsimp only
  rw [scratch_A_4]
  exact (blk_ws m c ⟨0, h0⟩ i p q).trans (congrFun S.h6 _)

/-- The product of the two convolution gates at a row of the extended tile. -/
theorem prod_row (S : Same m c L) (t : Fin cfg0.N) (ht : t.val < 32) (w : FVec Ideal S1024x8704 .bf16)
    (hw : ∀ k (j : Fin 8704), w (ix2 k j) = if (j : ℕ) < 6656 then A1 L (ix3 0 k j) else A1 L (ix3 0 k j) * Ideal.ofBits .f32 0x3F000000#32)
    (r : Fin 528) (hr : (r : ℕ) < 513) (q : Fin 1536) :
    prodF (rowE (iblk m c 0 t) (iblk m c 1 t) (Scalar.cmpi .slt (BitVec.ofNat 32 (grid0.coords t 0 : ℕ)) 31#32)) w r q = qF L (1 + (t.val * 512 + r)) q := by
  have hcol : ∀ (j : ℕ) (hj : j < 6656) (k : Fin 1024), w (ix2 k ⟨j, by omega⟩) = A1 L (ix3 0 k ⟨j, by omega⟩) := by
    intro j hj k
    rw [hw, if_pos (show ((⟨j, by omega⟩ : Fin 8704) : ℕ) < 6656 from hj)]
  have hrow : ∀ (hg : t.val * 512 + r < 16384) (k : Fin 1024), rowE (iblk m c 0 t) (iblk m c 1 t) (Scalar.cmpi .slt (BitVec.ofNat 32 (grid0.coords t 0 : ℕ)) 31#32) r k = A0 L (ix3 0 ⟨t.val * 512 + r, hg⟩ k) := by
    intro hg k
    unfold rowE
    by_cases h : (r : ℕ) < 512
    · rw [dif_pos h]
      exact (blk_x m c t ht ⟨r, h⟩ k).trans (congrFun S.h0 _)
    · have h31 : t.val < 31 := by omega
      rw [dif_neg h, if_pos ((last_bit t).mpr h31)]
      refine (blk_n m c t h31 ⟨r - 512, by omega⟩ k).trans ((congrFun S.h0 _).trans ?_)
      congr 2
      exact Fin.ext (by dsimp only; omega)
  unfold prodF qF
  by_cases hg : t.val * 512 + (r : ℕ) < 16384
  · rw [dif_pos (by omega)]
    have e : ∀ j : Fin 8704, (j : ℕ) < 6656 → dotF (rowE (iblk m c 0 t) (iblk m c 1 t) (Scalar.cmpi .slt (BitVec.ofNat 32 (grid0.coords t 0 : ℕ)) 31#32) r) (fun k => w (ix2 k j)) = pF L ⟨1 + (t.val * 512 + r) - 1, by omega⟩ j := by
      intro j hj
      unfold pF
      congr 1
      · funext k
        rw [hrow hg k]
        congr 2
        exact Fin.ext (by dsimp only; omega)
      · funext k
        exact hcol j hj k
    rw [e _ (by dsimp only; omega), e _ (by dsimp only; omega)]
  · rw [dif_neg (by omega)]
    have hz : ∀ k, rowE (iblk m c 0 t) (iblk m c 1 t) (Scalar.cmpi .slt (BitVec.ofNat 32 (grid0.coords t 0 : ℕ)) 31#32) r k = 0 := by
      intro k
      unfold rowE
      rw [dif_neg (by omega), if_neg (fun h => absurd ((last_bit t).mp h) (by omega))]
    unfold dotF
    simp only [hz, zero_mul, Finset.sum_const_zero]

/-- The weights that the first point stages are those it leaves. -/
theorem first_in (S : Same m c L) (k : Fin 1024) (j : Fin 8704) :
    wF0 c (V m c main_v1) (ix2 k j) = if (j : ℕ) < 6656 then A1 L (ix3 0 k j) else A1 L (ix3 0 k j) * Ideal.ofBits .f32 0x3F000000#32 := by
  have e : hb0 c (V m c main_v1) (ix2 k j) = A1 L (ix3 0 k j) := (V_win m c k j).trans (congrFun S.h1 _)
  show (if (j : ℕ) < 6656 then hb0 c (V m c main_v1) (ix2 k j) else hb0 c (V m c main_v1) (ix2 k j) * Ideal.ofBits .f32 0x3F000000#32) = _
  rw [e]

theorem first_pa (S : Same m c L) (k : Fin 1536) (j : Fin 1024) : wF1 c (V m c main_v10) (ix2 k j) = A8 L (ix3 0 k j) :=
  (V_wpa m c k j).trans (congrFun S.h8 _)

theorem first_pb (S : Same m c L) (k : Fin 1024) (j : Fin 1024) : wF2 c (V m c main_v11) (ix2 k j) = A9 L (ix3 0 k j) * Ideal.ofBits .f32 0x3F000000#32 := by
  have e : hb2 c (V m c main_v11) (ix2 k j) = A9 L (ix3 0 k j) := (V_wpb m c k j).trans (congrFun S.h9 _)
  show hb2 c (V m c main_v11) (ix2 k j) * Ideal.ofBits .f32 0x3F000000#32 = _
  rw [e]

theorem first_o (S : Same m c L) (k : Fin 1024) (j : Fin 1024) : wF3 c (V m c main_v12) (ix2 k j) = A10 L (ix3 0 k j) * Ideal.ofBits .f32 0x3F000000#32 := by
  have e : hb3 c (V m c main_v12) (ix2 k j) = A10 L (ix3 0 k j) := (V_wo m c k j).trans (congrFun S.h10 _)
  show hb3 c (V m c main_v12) (ix2 k j) * Ideal.ofBits .f32 0x3F000000#32 = _
  rw [e]

theorem first_s (S : Same m c L) (t : Fin cfg0.N) (i : Fin 8) (p q : Fin 128) : k0_pay6 (F := Ideal) (iblk m c 6 t) (ix3 i p q) = A6 L (ix4 0 i p q) := by
  have e : (iblk m c 6 t : FVec Ideal S8x128x128 .f32) (ix3 i p q) = A6 L (ix4 0 i p q) := (blk_ws m c t i p q).trans (congrFun S.h6 _)
  generalize (iblk m c 6 t : FVec Ideal S8x128x128 .f32) = x at *
  pointwise [k0_pay6]
  exact e

/-- The products kept for the next tile. -/
theorem halo (S : Same m c L) (n : ℕ) (hn : n < cfg0.N) (h1 : n ≤ 31) (r : Fin 544) (hr : 16 ≤ (r : ℕ) ∧ (r : ℕ) < 529) (q : Fin 1536) :
    ((outsAt0 m c n hn).2.2.2.2.2.2.1 : FVec Ideal S544x1536 .f32) (ix2 r q) = qF L (1 + (n * 512 + (r - 16))) q := by
  by_cases h0 : n = 0
  · subst h0
    rw [outsAt0_A m c ⟨0, hn⟩ (Nat.zero_mod 33) (by simp) (by dsimp only; omega)]
    dsimp only
    rw [halo_A]
    unfold chF
    rw [dif_neg (by omega)]
    exact prod_row S ⟨0, hn⟩ (by dsimp only; omega) _ (first_in S) ⟨r - 16, by omega⟩ (by dsimp only; omega) q
  rw [outsAt0_B m c ⟨n, hn⟩ (by dsimp only; omega) (by dsimp only; omega) (by dsimp only; omega)]
  dsimp only
  rw [halo_B]
  unfold chF
  rw [dif_neg (by omega)]
  exact prod_row S ⟨n, hn⟩ (by dsimp only; omega) _ (w_in S _ _) ⟨r - 16, by omega⟩ (by dsimp only; omega) q

/-- A tile's convolution, from the row kept of the tile before. -/
theorem conv_row (S : Same m c L) (t : Fin cfg0.N) (ht : t.val < 32) (w : FVec Ideal S1024x8704 .bf16)
    (hw : ∀ k (j : Fin 8704), w (ix2 k j) = if (j : ℕ) < 6656 then A1 L (ix3 0 k j) else A1 L (ix3 0 k j) * Ideal.ofBits .f32 0x3F000000#32)
    (h16 : FVec Ideal S16x1536 .f32) (a : Fin 512) (q : Fin 1536) (hh : h16 (ix2 15 q) = qF L (t.val * 512) q) :
    cvF h16 (rowE (iblk m c 0 t) (iblk m c 1 t) (Scalar.cmpi .slt (BitVec.ofNat 32 (grid0.coords t 0 : ℕ)) 31#32)) w (iblk m c 3 t) a q
      = qF L (t.val * 512 + a) q * A3 L (ix3 0 0 q) + qF L (1 + (t.val * 512 + a)) q * A3 L (ix3 0 1 q) + qF L (2 + (t.val * 512 + a)) q * A3 L (ix3 0 2 q) := by
  have hp := fun (r : Fin 528) (hr : (r : ℕ) < 513) => prod_row S t ht w hw r hr q
  have k0 : (iblk m c 3 t : FVec Ideal S1x1x4608 .f32) (ix3 0 0 ⟨q, by omega⟩) = A3 L (ix3 0 0 q) := by
    refine Eq.trans ?_ ((blk_conv m c t 0 q).trans (congrFun S.h3 _))
    congr 2
    exact Fin.ext (by show (q : ℕ) = 1536 * 0 + q; omega)
  have k1 : (iblk m c 3 t : FVec Ideal S1x1x4608 .f32) (ix3 0 0 ⟨1536 + q, by omega⟩) = A3 L (ix3 0 1 q) := by
    refine Eq.trans ?_ ((blk_conv m c t 1 q).trans (congrFun S.h3 _))
    congr 2
  have k2 : (iblk m c 3 t : FVec Ideal S1x1x4608 .f32) (ix3 0 0 ⟨3072 + q, by omega⟩) = A3 L (ix3 0 2 q) := by
    refine Eq.trans ?_ ((blk_conv m c t 2 q).trans (congrFun S.h3 _))
    congr 2
  unfold cvF convF
  rw [k0, k1, k2]
  congr 1
  · congr 1
    · congr 1
      unfold chF
      by_cases h : 15 + (a : ℕ) < 16
      · rw [dif_pos h]
        have h15 : (⟨15 + (a : ℕ), h⟩ : Fin 16) = 15 := Fin.ext (by show 15 + (a : ℕ) = 15; omega)
        rw [h15, hh]
        congr 1
        omega
      · rw [dif_neg h, hp _ (by dsimp only; omega)]
        congr 1
        dsimp only
        omega
    · congr 1
      unfold chF
      rw [dif_neg (by dsimp only; omega), hp _ (by dsimp only; omega)]
      congr 1
      dsimp only
      omega
  · congr 1
    unfold chF
    rw [dif_neg (by dsimp only; omega), hp _ (by dsimp only; omega)]
    congr 1
    dsimp only
    omega

/-- The rows carried after a point: those of its tile before their norm. -/
theorem carried (S : Same m c L) (n : ℕ) (hn : n < cfg0.N) (h1 : n ≤ 31) (a : Fin 512) (b : Fin 1024) :
    ((outsAt0 m c n hn).2.2.2.2.2.2.2 : FVec Ideal S512x1024 .f32) (ix2 a b) = Cert.ReferenceIdeal.Value.res_main_v116 (F := Ideal) L (ix3 0 ⟨n * 512 + a, by omega⟩ b) := by
  by_cases h0 : n = 0
  · subst h0
    rw [outsAt0_A m c ⟨0, hn⟩ (Nat.zero_mod 33) (by simp) (by dsimp only; omega)]
    dsimp only
    rw [tile_A]
    refine tile_match L 0 (by omega) _ _ _ _ _ _ _ _ _ _ _ (fun a k => (blk_x m c ⟨0, hn⟩ (by dsimp only; omega) a k).trans (congrFun S.h0 _)) (fun e => (blk_bg m c ⟨0, hn⟩ e).trans (congrFun S.h2 _))
      (fun e => (blk_gv m c ⟨0, hn⟩ e).trans (congrFun S.h4 _)) (fun e => (blk_bv m c ⟨0, hn⟩ e).trans (congrFun S.h5 _)) (fun i p => (blk_bs m c ⟨0, hn⟩ i p).trans (congrFun S.h7 _))
      (first_in S) (first_pa S) (first_pb S) (first_o S) (first_s S _) a b ?_
    intro q
    refine conv_row S ⟨0, hn⟩ (by dsimp only; omega) _ (first_in S) _ a q ?_
    unfold qF
    rw [dif_neg (by dsimp only; omega)]
  rw [outsAt0_B m c ⟨n, hn⟩ (by dsimp only; omega) (by dsimp only; omega) (by dsimp only; omega)]
  dsimp only
  rw [tile_B]
  refine tile_match L n (by omega) _ _ _ _ _ _ _ _ _ _ _ (fun a k => (blk_x m c ⟨n, hn⟩ (by dsimp only; omega) a k).trans (congrFun S.h0 _)) (fun e => (blk_bg m c ⟨n, hn⟩ e).trans (congrFun S.h2 _))
    (fun e => (blk_gv m c ⟨n, hn⟩ e).trans (congrFun S.h4 _)) (fun e => (blk_bv m c ⟨n, hn⟩ e).trans (congrFun S.h5 _)) (fun i p => (blk_bs m c ⟨n, hn⟩ i p).trans (congrFun S.h7 _))
    (w_in S _ _) (w_pa S _ _) (w_pb S _ _) (w_o S _ _) (w_s S _ _) a b ?_
  intro q
  refine conv_row S ⟨n, hn⟩ (by dsimp only; omega) _ (w_in S (n - 1) (Nat.lt_of_le_of_lt (Nat.sub_le _ _) hn)) _ a q ?_
  rw [halo_at]
  refine (halo S (n - 1) (Nat.lt_of_le_of_lt (Nat.sub_le _ _) hn) (by omega) _ ?_ q).trans ?_
  · show 16 ≤ 512 + 15 ∧ 512 + 15 < 529
    omega
  · congr 1
    show 1 + ((n - 1) * 512 + (512 + 15 - 16)) = n * 512
    omega

/-- An entry of the reference's result. -/
def resF (L : RefV) (g : Fin 16384) (b : Fin 1024) : EReal :=
  lnE (Ideal.ofBits .f32 0x3727C5AC#32) (fun k => Cert.ReferenceIdeal.Value.res_main_v116 (F := Ideal) L (ix3 0 g k)) (fun k => A11 L (ix2 0 k)) (fun k => A12 L (ix2 0 k)) b

/-- What a flushing point leaves in the output window: the norm of the rows of the tile before it. -/
theorem left (S : Same m c L) (t : Fin cfg0.N) (y : S512x1024.Idx) (a : Fin 512) (b : Fin 1024) (ha : (y 0 : ℕ) = a) (hb : (y 1 : ℕ) = b) (hr : (t.val - 1) * 512 + a < 16384) (h1 : 1 ≤ t.val) :
    ((outsAt0 m c t.val t.isLt).1 : FVec Ideal S512x1024 .f32) y = resF L ⟨(t.val - 1) * 512 + a, hr⟩ b := by
  have hN : t.val < 33 := lt_of_lt_of_eq t.isLt N_0
  have hc := fun k => carried S (t.val - 1) (Nat.lt_of_le_of_lt (Nat.sub_le _ _) t.isLt) (by omega) a k
  by_cases h : t.val = 32
  · rw [outsAt0_C m c t (by omega) (by omega) (by omega)]
    dsimp only
    rw [out_C (ha := ha) (hb := hb)]
    unfold resF
    simp only [hc, blk_go, blk_bo, S.h11, S.h12]
  · rw [outsAt0_B m c t (by omega) (by omega) (by omega)]
    dsimp only
    rw [out_B (ha := ha) (hb := hb)]
    unfold resF
    simp only [hc, blk_go, blk_bo, S.h11, S.h12]

/-- The rows in the result array after the run. -/
theorem final (S : Same m c L) (e : S16384x1024.Idx) : ((dats m 0 c).arrAt 12 cfg0.N : FVec Ideal S16384x1024 .f32) e = resF L (e 0) (e 1) := by
  refine (dats m 0 c).arrAt_forall_of_covers 12 (fun (e : S16384x1024.Idx) v => v = resF L (e 0) (e 1)) (by decide +kernel) (fun t hf y => ?_) e (Memref.isWhole_whole _)
  have ht := flush_pos t hf
  blk_simp
  rw [after0_12]
  generalize he : (win0_12.blk t).view.emb y = e
  have e0 : (e 0 : ℕ) = (t.val - 1) * 512 + (y 0 : ℕ) := by rw [← he]; blk_simp [idx_out t]
  have e1 : (e 1 : ℕ) = (y 1 : ℕ) := by rw [← he]; blk_simp [idx_out t]
  have h0 : (y 0 : ℕ) < 512 := (y 0).isLt
  have h1 : (y 1 : ℕ) < 1024 := (y 1).isLt
  have hN : t.val < 33 := lt_of_lt_of_eq t.isLt N_0
  have hr : (t.val - 1) * 512 + (y 0 : ℕ) < 16384 := by omega
  refine (left S t y ⟨(y 0 : ℕ), h0⟩ ⟨(y 1 : ℕ), h1⟩ rfl rfl hr (by omega)).trans ?_
  congr 1
  · exact Fin.ext e0.symm
  · exact Fin.ext e1.symm

end Cert.Kernel.Value

end
-- ==== Proof.Mix.Blocks.lean ====
/- The token mixing call's result after the run, and its arguments, which keep their contents. -/
module

public import proofs.«01_k».proof.Proof.Mix.Tile
public import proofs.«01_k».proof.Proof.Mix.Mixers
public import proofs.«01_k».proof.Proof.Mix.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem
open Idealize.ShloMosaic.Pipeline (Dat)

open Cert.Kernel.Gen

variable {F : FTy → Type} [FloatOps F]
variable (m : (ℓ : Loc nD τ sig) → Buf (Elt F) ℓ) (ρ : Dev nD → PrngReg)

/-- The run with the result array after it named, the arguments unchanged. -/
theorem run_blocks : θ_run defs (onTc (τ := τ) (main (F := F))) ⟨m, fun _ => 0, ρ⟩ fun r => ∀ c : Dev nD,
      r.2.mem ((c : Thread nD τ).loc main_v19_0) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((dats m 0 c).toRForget_arrAt_iff forgets0_12 _ _).mp ((h c).1 12),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((A_eq m c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.Kernel.Value

end
-- ==== Proof.Mix.Agree.lean ====
/- The claim that the token mixing call's rows are the reference's. -/
module

public import proofs.«01_k».proof.Defs
public import proofs.«01_k».proof.Proof.Mix.Claims
public import proofs.«01_k».proof.Proof.Mix.Value
public import proofs.«01_k».proof.Proof.Mix.Blocks

@[expose] public section

set_option maxRecDepth 16384

noncomputable section

namespace Cert.Mix

open Idealize.ShloMosaic Idealize.ShloMosaic.TcCoe Idealize.SL.Sem
open Idealize.ShloMosaic.StableHlo
open Cert.ReferenceIdeal.Value (A0 A1 A2 A3 A4 A5 A6 A7 A8 A9 A10 A11 A12 vnR)

/-- The reference's result. -/
def refR (L : Cert.Kernel.Value.RefV) : FVec Ideal Cert.ReferenceIdeal.S16384x1024 .f32 :=
  shapeCast Cert.ReferenceIdeal.S16384x1024 (vnR (Cert.ReferenceIdeal.Value.res_main_v116 (F := Ideal) L) (Cert.ReferenceIdeal.Value.res_main_v122 L) (Cert.ReferenceIdeal.Value.res_main_v124 L) (A11 L) (A12 L)) Cert.ReferenceIdeal.Gen.facts.shapeCasts_S1x16384x1024_S16384x1024

/-- The reference's run. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c.tc : Thread Cert.ReferenceIdeal.nD Cert.ReferenceIdeal.τ).loc Cert.ReferenceIdeal.main_v143) = refR (launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14) :=
  Cert.ReferenceIdeal.Value.run (F := Ideal) m g

theorem refR_at (L : Cert.Kernel.Value.RefV) (e : Cert.ReferenceIdeal.S16384x1024.Idx) : refR L e = Cert.Kernel.Value.resF L (e 0) (e 1) := by
  have h : e = ix2 (e 0) (e 1) := by
    funext k
    match k with
    | 0 => rfl
    | 1 => rfl
  exact (congrArg (refR L) h).trans (Cert.Kernel.Value.ref_at L (e 0) (e 1))

/-- Launch memories that agree on the arguments. -/
theorem same (m : (ℓ : Loc Cert.Kernel.nD Cert.Kernel.τ Cert.Kernel.sig) → Buf (Elt Ideal) ℓ) (m' : (ℓ : Loc Cert.ReferenceIdeal.nD Cert.ReferenceIdeal.τ Cert.ReferenceIdeal.sig) → Buf (Elt Ideal) ℓ) (c : Dev Cert.Kernel.nD)
    (a0 : m' ((c.tc : Thread Cert.ReferenceIdeal.nD Cert.ReferenceIdeal.τ).loc Cert.ReferenceIdeal.main_arg0) = m ((c.tc : Thread Cert.Kernel.nD Cert.Kernel.τ).loc Cert.Kernel.main_arg0))
    (a1 : m' ((c.tc : Thread Cert.ReferenceIdeal.nD Cert.ReferenceIdeal.τ).loc Cert.ReferenceIdeal.main_arg1) = m ((c.tc : Thread Cert.Kernel.nD Cert.Kernel.τ).loc Cert.Kernel.main_arg1))
    (a2 : m' ((c.tc : Thread Cert.ReferenceIdeal.nD Cert.ReferenceIdeal.τ).loc Cert.ReferenceIdeal.main_arg2) = m ((c.tc : Thread Cert.Kernel.nD Cert.Kernel.τ).loc Cert.Kernel.main_arg2))
    (a3 : m' ((c.tc : Thread Cert.ReferenceIdeal.nD Cert.ReferenceIdeal.τ).loc Cert.ReferenceIdeal.main_arg3) = m ((c.tc : Thread Cert.Kernel.nD Cert.Kernel.τ).loc Cert.Kernel.main_arg3))
    (a4 : m' ((c.tc : Thread Cert.ReferenceIdeal.nD Cert.ReferenceIdeal.τ).loc Cert.ReferenceIdeal.main_arg4) = m ((c.tc : Thread Cert.Kernel.nD Cert.Kernel.τ).loc Cert.Kernel.main_arg4))
    (a5 : m' ((c.tc : Thread Cert.ReferenceIdeal.nD Cert.ReferenceIdeal.τ).loc Cert.ReferenceIdeal.main_arg5) = m ((c.tc : Thread Cert.Kernel.nD Cert.Kernel.τ).loc Cert.Kernel.main_arg5))
    (a6 : m' ((c.tc : Thread Cert.ReferenceIdeal.nD Cert.ReferenceIdeal.τ).loc Cert.ReferenceIdeal.main_arg6) = m ((c.tc : Thread Cert.Kernel.nD Cert.Kernel.τ).loc Cert.Kernel.main_arg6))
    (a7 : m' ((c.tc : Thread Cert.ReferenceIdeal.nD Cert.ReferenceIdeal.τ).loc Cert.ReferenceIdeal.main_arg7) = m ((c.tc : Thread Cert.Kernel.nD Cert.Kernel.τ).loc Cert.Kernel.main_arg7))
    (a8 : m' ((c.tc : Thread Cert.ReferenceIdeal.nD Cert.ReferenceIdeal.τ).loc Cert.ReferenceIdeal.main_arg8) = m ((c.tc : Thread Cert.Kernel.nD Cert.Kernel.τ).loc Cert.Kernel.main_arg8))
    (a9 : m' ((c.tc : Thread Cert.ReferenceIdeal.nD Cert.ReferenceIdeal.τ).loc Cert.ReferenceIdeal.main_arg9) = m ((c.tc : Thread Cert.Kernel.nD Cert.Kernel.τ).loc Cert.Kernel.main_arg9))
    (a10 : m' ((c.tc : Thread Cert.ReferenceIdeal.nD Cert.ReferenceIdeal.τ).loc Cert.ReferenceIdeal.main_arg10) = m ((c.tc : Thread Cert.Kernel.nD Cert.Kernel.τ).loc Cert.Kernel.main_arg10))
    (a11 : m' ((c.tc : Thread Cert.ReferenceIdeal.nD Cert.ReferenceIdeal.τ).loc Cert.ReferenceIdeal.main_arg11) = m ((c.tc : Thread Cert.Kernel.nD Cert.Kernel.τ).loc Cert.Kernel.main_arg11))
    (a12 : m' ((c.tc : Thread Cert.ReferenceIdeal.nD Cert.ReferenceIdeal.τ).loc Cert.ReferenceIdeal.main_arg12) = m ((c.tc : Thread Cert.Kernel.nD Cert.Kernel.τ).loc Cert.Kernel.main_arg12)) :
    Cert.Kernel.Value.Same m c (launchContents m' c) where
  h0 := a0.symm
  h1 := a1.symm
  h2 := a2.symm
  h3 := a3.symm
  h4 := a4.symm
  h5 := a5.symm
  h6 := a6.symm
  h7 := a7.symm
  h8 := a8.symm
  h9 := a9.symm
  h10 := a10.symm
  h11 := a11.symm
  h12 := a12.symm

set_option maxHeartbeats 2000000 in
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => refR (launchContents m' c), ?_, (θ_run (Cert.ReferenceIdeal.defs (F := Ideal)) _ _).mono (fun r h c => h c) (run_reference m' g')⟩
  rw [main_same, defs_same]
  refine (θ_run (Cert.Kernel.defs (F := Ideal)) _ _).mono (fun r h => ?_) (Cert.Kernel.Value.run_blocks m g)
  intro c
  refine ⟨funext fun i => ?_, (h c).2⟩
  have S := same m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1
  exact (congrFun (h c).1 i).trans ((Cert.Kernel.Value.final S i).trans (refR_at _ i).symm)

end Cert.Mix

end
-- ==== Proof.lean ====
/- The proof of the claims: the frames of both calls, and their values against the references. -/
module

public import proofs.«01_k».proof.Defs
public import proofs.«01_k».proof.Proof.Ffn.Claims
public import proofs.«01_k».proof.Proof.Mix.Claims
public import proofs.«01_k».proof.Proof.Mix.Agree
public import proofs.«01_k».proof.Proof.Mix.Mixers

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Mix.frame, Cert.Mix.frame_ideal, Cert.Mix.frame_reference,
    Cert.Ffn.frame, Cert.Ffn.frame_ideal, Cert.Ffn.frame_reference, trivial, Cert.Mix.algebraic, trivial, Cert.Ffn.algebraic⟩

end Cert.Proof

end
